-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v551) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x64x80x80 : Shape := ⟨4, ![1, 64, 80, 80]⟩
abbrev S1x65x80x80 : Shape := ⟨4, ![1, 65, 80, 80]⟩
abbrev S1x1x80x80 : Shape := ⟨4, ![1, 1, 80, 80]⟩
abbrev S2 : Shape := ⟨1, ![2]⟩
abbrev S64x6400 : Shape := ⟨2, ![64, 6400]⟩
abbrev S_ : Shape := ⟨0, ![]⟩
abbrev S1x80x80 : Shape := ⟨3, ![1, 80, 80]⟩
abbrev S1x80x80x64 : Shape := ⟨4, ![1, 80, 80, 64]⟩
abbrev S1x80x80x8x8 : Shape := ⟨5, ![1, 80, 80, 8, 8]⟩
abbrev S1x80x8x80x8 : Shape := ⟨5, ![1, 80, 8, 80, 8]⟩
abbrev S1x1x640x640 : Shape := ⟨4, ![1, 1, 640, 640]⟩
abbrev S640x640 : Shape := ⟨2, ![640, 640]⟩
abbrev S409600 : Shape := ⟨1, ![409600]⟩
abbrev S32768 : Shape := ⟨1, ![32768]⟩
abbrev S409600x1 : Shape := ⟨2, ![409600, 1]⟩
abbrev S1 : Shape := ⟨1, ![1]⟩
abbrev S32768x1 : Shape := ⟨2, ![32768, 1]⟩
abbrev S32768x2 : Shape := ⟨2, ![32768, 2]⟩
abbrev S1x32768x2 : Shape := ⟨3, ![1, 32768, 2]⟩
abbrev S1x1x2 : Shape := ⟨3, ![1, 1, 2]⟩
abbrev S1x32768x1 : Shape := ⟨3, ![1, 32768, 1]⟩
abbrev S1x32768 : Shape := ⟨2, ![1, 32768]⟩
abbrev S1x1x32768 : Shape := ⟨3, ![1, 1, 32768]⟩
abbrev S1x4096 : Shape := ⟨2, ![1, 4096]⟩
abbrev S4096x1 : Shape := ⟨2, ![4096, 1]⟩
abbrev S1x1 : Shape := ⟨2, ![1, 1]⟩
abbrev S4096 : Shape := ⟨1, ![4096]⟩
abbrev S64x80x80 : Shape := ⟨3, ![64, 80, 80]⟩
abbrev S80x80x64 : Shape := ⟨3, ![80, 80, 64]⟩
abbrev S80x5120 : Shape := ⟨2, ![80, 5120]⟩
abbrev S5120 : Shape := ⟨1, ![5120]⟩
abbrev S5120x1 : Shape := ⟨2, ![5120, 1]⟩
abbrev S64 : Shape := ⟨1, ![64]⟩
abbrev S1x64 : Shape := ⟨2, ![1, 64]⟩
abbrev S5120x64 : Shape := ⟨2, ![5120, 64]⟩
abbrev S4096x67 : Shape := ⟨2, ![4096, 67]⟩
abbrev S1x4096x67 : Shape := ⟨3, ![1, 4096, 67]⟩
abbrev S1x6400 : Shape := ⟨2, ![1, 6400]⟩
abbrev S6400 : Shape := ⟨1, ![6400]⟩
abbrev S512x1 : Shape := ⟨2, ![512, 1]⟩
abbrev S512x67 : Shape := ⟨2, ![512, 67]⟩
abbrev S512x80 : Shape := ⟨2, ![512, 80]⟩
abbrev S512x5120 : Shape := ⟨2, ![512, 5120]⟩
abbrev S512x64 : Shape := ⟨2, ![512, 64]⟩
abbrev S512 : Shape := ⟨1, ![512]⟩

abbrev nBuf : Space → Nat
  | .hbm => 654
  | .vmem => 12
  | .smem => 0
  | _ => 0

abbrev hbmTy0_0 (i : Nat) : BufTy := match i % 128 with
  | 0 => ⟨S1x64x80x80, .f32⟩
  | 1 => ⟨S1x65x80x80, .f32⟩
  | 2 => ⟨S1x1x80x80, .f32⟩
  | 3 => ⟨S2, .f32⟩
  | 4 => ⟨S2, .f32⟩
  | 5 => ⟨S64x6400, .f32⟩
  | 6 => ⟨S64x6400, .f32⟩
  | 7 => ⟨S_, .f32⟩
  | 8 => ⟨S1x80x80, .f32⟩
  | 9 => ⟨S_, .f32⟩
  | 10 => ⟨S1x80x80, .f32⟩
  | 11 => ⟨S1x80x80, .f32⟩
  | 12 => ⟨S1x1x80x80, .f32⟩
  | 13 => ⟨S1x65x80x80, .f32⟩
  | 14 => ⟨S1x65x80x80, .f32⟩
  | 15 => ⟨S1x65x80x80, .f32⟩
  | 16 => ⟨S_, .f32⟩
  | 17 => ⟨S1x80x80, .f32⟩
  | 18 => ⟨S1x1x80x80, .f32⟩
  | 19 => ⟨S1x65x80x80, .f32⟩
  | 20 => ⟨S1x65x80x80, .f32⟩
  | 21 => ⟨S1x64x80x80, .f32⟩
  | 22 => ⟨S1x80x80x64, .f32⟩
  | 23 => ⟨S1x80x80x8x8, .f32⟩
  | 24 => ⟨S1x80x8x80x8, .f32⟩
  | 25 => ⟨S1x1x640x640, .f32⟩
  | 26 => ⟨S_, .f32⟩
  | 27 => ⟨S_, .f32⟩
  | 28 => ⟨S1x1x640x640, .f32⟩
  | 29 => ⟨S1x1x640x640, .i1⟩
  | 30 => ⟨S_, .f32⟩
  | 31 => ⟨S1x1x640x640, .f32⟩
  | 32 => ⟨S1x1x640x640, .i1⟩
  | 33 => ⟨S1x1x640x640, .i1⟩
  | 34 => ⟨S640x640, .i1⟩
  | 35 => ⟨S409600, .i1⟩
  | 36 => ⟨S409600, .i32⟩
  | 37 => ⟨S_, .i32⟩
  | 38 => ⟨S_, .i32⟩
  | 39 => ⟨S409600, .i32⟩
  | 40 => ⟨S_, .i32⟩
  | 41 => ⟨S32768, .i32⟩
  | 42 => ⟨S_, .i32⟩
  | 43 => ⟨S409600, .i32⟩
  | 44 => ⟨S409600, .i1⟩
  | 45 => ⟨S_, .i32⟩
  | 46 => ⟨S409600, .i32⟩
  | 47 => ⟨S409600, .i32⟩
  | 48 => ⟨S409600, .i32⟩
  | 49 => ⟨S409600x1, .i32⟩
  | 50 => ⟨S_, .i32⟩
  | 51 => ⟨S409600, .i32⟩
  | 52 => ⟨S32768, .i32⟩
  | 53 => ⟨S_, .i32⟩
  | 54 => ⟨S_, .i32⟩
  | 55 => ⟨S32768, .i32⟩
  | 56 => ⟨S_, .i32⟩
  | 57 => ⟨S_, .i32⟩
  | 58 => ⟨S32768, .i32⟩
  | 59 => ⟨S32768, .i32⟩
  | 60 => ⟨S32768, .i32⟩
  | 61 => ⟨S_, .i32⟩
  | 62 => ⟨S32768, .i32⟩
  | 63 => ⟨S32768, .i1⟩
  | 64 => ⟨S32768, .i32⟩
  | 65 => ⟨S32768, .i32⟩
  | 66 => ⟨S_, .i32⟩
  | 67 => ⟨S32768, .i32⟩
  | 68 => ⟨S32768, .i1⟩
  | 69 => ⟨S32768, .i1⟩
  | 70 => ⟨S_, .i32⟩
  | 71 => ⟨S32768, .i32⟩
  | 72 => ⟨S32768, .i32⟩
  | 73 => ⟨S32768, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S32768, .i32⟩
  | 81 => ⟨S32768, .i32⟩
  | 82 => ⟨S_, .i32⟩
  | 83 => ⟨S32768, .i32⟩
  | 84 => ⟨S32768, .i1⟩
  | 85 => ⟨S_, .i32⟩
  | 86 => ⟨S32768, .i32⟩
  | 87 => ⟨S32768, .i1⟩
  | 88 => ⟨S_, .i32⟩
  | 89 => ⟨S_, .i1⟩
  | 90 => ⟨S32768, .i1⟩
  | 91 => ⟨S32768, .i1⟩
  | 92 => ⟨S32768, .i1⟩
  | 93 => ⟨S32768, .i32⟩
  | 94 => ⟨S32768, .i32⟩
  | 95 => ⟨S32768, .i32⟩
  | 96 => ⟨S_, .i32⟩
  | 97 => ⟨S_, .i32⟩
  | 98 => ⟨S32768, .i32⟩
  | 99 => ⟨S32768, .i32⟩
  | 100 => ⟨S32768, .i32⟩
  | 101 => ⟨S_, .i32⟩
  | 102 => ⟨S32768, .i32⟩
  | 103 => ⟨S32768, .i1⟩
  | 104 => ⟨S32768, .i32⟩
  | 105 => ⟨S32768, .i32⟩
  | 106 => ⟨S_, .i32⟩
  | 107 => ⟨S32768, .i32⟩
  | 108 => ⟨S32768, .i1⟩
  | 109 => ⟨S32768, .i1⟩
  | 110 => ⟨S_, .i32⟩
  | 111 => ⟨S32768, .i32⟩
  | 112 => ⟨S32768, .i32⟩
  | 113 => ⟨S32768, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S32768, .i32⟩
  | 121 => ⟨S32768, .i32⟩
  | 122 => ⟨S_, .i32⟩
  | 123 => ⟨S32768, .i32⟩
  | 124 => ⟨S32768, .i1⟩
  | 125 => ⟨S_, .i32⟩
  | 126 => ⟨S32768, .i32⟩
  | 127 => ⟨S32768, .i1⟩
  | _ => ⟨S1x64x80x80, .f32⟩

abbrev hbmTy0_1 (i : Nat) : BufTy := match i % 128 with
  | 0 => ⟨S_, .i32⟩
  | 1 => ⟨S_, .i1⟩
  | 2 => ⟨S32768, .i1⟩
  | 3 => ⟨S32768, .i1⟩
  | 4 => ⟨S32768, .i1⟩
  | 5 => ⟨S32768, .i32⟩
  | 6 => ⟨S32768, .i32⟩
  | 7 => ⟨S32768, .i32⟩
  | 8 => ⟨S409600, .i32⟩
  | 9 => ⟨S_, .i32⟩
  | 10 => ⟨S_, .i32⟩
  | 11 => ⟨S1, .i32⟩
  | 12 => ⟨S32768, .i32⟩
  | 13 => ⟨S32768, .i32⟩
  | 14 => ⟨S32768, .i1⟩
  | 15 => ⟨S_, .i32⟩
  | 16 => ⟨S1, .i32⟩
  | 17 => ⟨S32768, .i32⟩
  | 18 => ⟨S32768, .i32⟩
  | 19 => ⟨S_, .i32⟩
  | 20 => ⟨S1, .i32⟩
  | 21 => ⟨S32768, .i32⟩
  | 22 => ⟨S32768, .i32⟩
  | 23 => ⟨S32768x1, .i32⟩
  | 24 => ⟨S32768x1, .i32⟩
  | 25 => ⟨S32768x2, .i32⟩
  | 26 => ⟨S1x32768x2, .i32⟩
  | 27 => ⟨S1x32768x2, .f32⟩
  | 28 => ⟨S_, .f32⟩
  | 29 => ⟨S1x32768x2, .f32⟩
  | 30 => ⟨S1x32768x2, .f32⟩
  | 31 => ⟨S1x1x2, .f32⟩
  | 32 => ⟨S1x32768x2, .f32⟩
  | 33 => ⟨S1x32768x2, .f32⟩
  | 34 => ⟨S_, .f32⟩
  | 35 => ⟨S1x32768x2, .f32⟩
  | 36 => ⟨S1x32768x2, .f32⟩
  | 37 => ⟨S1x32768x1, .f32⟩
  | 38 => ⟨S1x32768, .f32⟩
  | 39 => ⟨S_, .f32⟩
  | 40 => ⟨S1x32768, .f32⟩
  | 41 => ⟨S1x32768, .f32⟩
  | 42 => ⟨S_, .f32⟩
  | 43 => ⟨S1x32768, .f32⟩
  | 44 => ⟨S1x32768, .f32⟩
  | 45 => ⟨S_, .f32⟩
  | 46 => ⟨S1x32768, .f32⟩
  | 47 => ⟨S1x32768, .f32⟩
  | 48 => ⟨S_, .f32⟩
  | 49 => ⟨S1x32768, .f32⟩
  | 50 => ⟨S1x32768, .f32⟩
  | 51 => ⟨S1x32768x1, .f32⟩
  | 52 => ⟨S1x32768, .f32⟩
  | 53 => ⟨S_, .f32⟩
  | 54 => ⟨S1x32768, .f32⟩
  | 55 => ⟨S1x32768, .f32⟩
  | 56 => ⟨S_, .f32⟩
  | 57 => ⟨S1x32768, .f32⟩
  | 58 => ⟨S1x32768, .f32⟩
  | 59 => ⟨S_, .f32⟩
  | 60 => ⟨S1x32768, .f32⟩
  | 61 => ⟨S1x32768, .f32⟩
  | 62 => ⟨S_, .f32⟩
  | 63 => ⟨S1x32768, .f32⟩
  | 64 => ⟨S1x32768, .f32⟩
  | 65 => ⟨S1x32768, .f32⟩
  | 66 => ⟨S1x32768, .i32⟩
  | 67 => ⟨S1x32768, .f32⟩
  | 68 => ⟨S1x32768, .i32⟩
  | 69 => ⟨S_, .i32⟩
  | 70 => ⟨S1x32768, .i32⟩
  | 71 => ⟨S1x32768, .i1⟩
  | 72 => ⟨S_, .i32⟩
  | 73 => ⟨S1x32768, .i32⟩
  | 74 => ⟨S1x32768, .i1⟩
  | 75 => ⟨S1x32768, .i1⟩
  | 76 => ⟨S_, .i32⟩
  | 77 => ⟨S1x32768, .i32⟩
  | 78 => ⟨S1x32768, .i1⟩
  | 79 => ⟨S1x32768, .i1⟩
  | 80 => ⟨S_, .i32⟩
  | 81 => ⟨S1x32768, .i32⟩
  | 82 => ⟨S1x32768, .i1⟩
  | 83 => ⟨S1x32768, .i1⟩
  | 84 => ⟨S_, .i32⟩
  | 85 => ⟨S_, .i32⟩
  | 86 => ⟨S_, .i32⟩
  | 87 => ⟨S1x32768, .i32⟩
  | 88 => ⟨S1x32768, .i32⟩
  | 89 => ⟨S_, .i32⟩
  | 90 => ⟨S1x32768, .i32⟩
  | 91 => ⟨S1x32768, .i32⟩
  | 92 => ⟨S_, .i32⟩
  | 93 => ⟨S_, .i32⟩
  | 94 => ⟨S_, .i32⟩
  | 95 => ⟨S1x32768, .i32⟩
  | 96 => ⟨S1x32768, .i32⟩
  | 97 => ⟨S_, .i32⟩
  | 98 => ⟨S1x32768, .i32⟩
  | 99 => ⟨S1x32768, .i32⟩
  | 100 => ⟨S_, .i32⟩
  | 101 => ⟨S1x32768, .i32⟩
  | 102 => ⟨S1x32768, .i1⟩
  | 103 => ⟨S_, .i32⟩
  | 104 => ⟨S1x32768, .i32⟩
  | 105 => ⟨S1x32768, .i32⟩
  | 106 => ⟨S1x32768, .i32⟩
  | 107 => ⟨S_, .i32⟩
  | 108 => ⟨S1x32768, .i32⟩
  | 109 => ⟨S1x32768, .i1⟩
  | 110 => ⟨S_, .i32⟩
  | 111 => ⟨S1x32768, .i32⟩
  | 112 => ⟨S1x32768, .i32⟩
  | 113 => ⟨S1x32768, .i32⟩
  | 114 => ⟨S1x32768x1, .i32⟩
  | 115 => ⟨S1x32768x1, .i32⟩
  | 116 => ⟨S1x32768x2, .i32⟩
  | 117 => ⟨S1x1x32768, .f32⟩
  | 118 => ⟨S1x1x32768, .i1⟩
  | 119 => ⟨S1x1x32768, .f32⟩
  | 120 => ⟨S1x1x32768, .f32⟩
  | 121 => ⟨S1x32768x1, .f32⟩
  | 122 => ⟨S_, .f32⟩
  | 123 => ⟨S1x32768x2, .f32⟩
  | 124 => ⟨S1x32768x2, .f32⟩
  | 125 => ⟨S1x1x2, .f32⟩
  | 126 => ⟨S1x32768x2, .f32⟩
  | 127 => ⟨S1x32768x2, .f32⟩
  | _ => ⟨S1x64x80x80, .f32⟩

abbrev hbmTy0_2 (i : Nat) : BufTy := match i % 128 with
  | 0 => ⟨S_, .f32⟩
  | 1 => ⟨S1x32768x2, .f32⟩
  | 2 => ⟨S1x32768x2, .f32⟩
  | 3 => ⟨S1x32768x1, .f32⟩
  | 4 => ⟨S1x32768, .f32⟩
  | 5 => ⟨S_, .f32⟩
  | 6 => ⟨S1x32768, .f32⟩
  | 7 => ⟨S1x32768, .f32⟩
  | 8 => ⟨S_, .f32⟩
  | 9 => ⟨S1x32768, .f32⟩
  | 10 => ⟨S1x32768, .f32⟩
  | 11 => ⟨S_, .f32⟩
  | 12 => ⟨S1x32768, .f32⟩
  | 13 => ⟨S1x32768, .f32⟩
  | 14 => ⟨S_, .f32⟩
  | 15 => ⟨S1x32768, .f32⟩
  | 16 => ⟨S1x32768, .f32⟩
  | 17 => ⟨S1x32768x1, .f32⟩
  | 18 => ⟨S1x32768, .f32⟩
  | 19 => ⟨S_, .f32⟩
  | 20 => ⟨S1x32768, .f32⟩
  | 21 => ⟨S1x32768, .f32⟩
  | 22 => ⟨S_, .f32⟩
  | 23 => ⟨S1x32768, .f32⟩
  | 24 => ⟨S1x32768, .f32⟩
  | 25 => ⟨S_, .f32⟩
  | 26 => ⟨S1x32768, .f32⟩
  | 27 => ⟨S1x32768, .f32⟩
  | 28 => ⟨S_, .f32⟩
  | 29 => ⟨S1x32768, .f32⟩
  | 30 => ⟨S1x32768, .f32⟩
  | 31 => ⟨S1x32768, .f32⟩
  | 32 => ⟨S1x32768, .f32⟩
  | 33 => ⟨S1x32768, .f32⟩
  | 34 => ⟨S1x1x32768, .f32⟩
  | 35 => ⟨S1x32768, .f32⟩
  | 36 => ⟨S1x1x32768, .f32⟩
  | 37 => ⟨S1x32768, .i32⟩
  | 38 => ⟨S1x32768, .i32⟩
  | 39 => ⟨S_, .i32⟩
  | 40 => ⟨S1x32768, .i32⟩
  | 41 => ⟨S1x32768, .i32⟩
  | 42 => ⟨S_, .i32⟩
  | 43 => ⟨S1x32768, .i32⟩
  | 44 => ⟨S1x32768, .i32⟩
  | 45 => ⟨S_, .i32⟩
  | 46 => ⟨S1x32768, .i32⟩
  | 47 => ⟨S1x32768, .i1⟩
  | 48 => ⟨S_, .i32⟩
  | 49 => ⟨S1x32768, .i32⟩
  | 50 => ⟨S1x32768, .i1⟩
  | 51 => ⟨S1x32768, .i1⟩
  | 52 => ⟨S_, .i32⟩
  | 53 => ⟨S1x32768, .i32⟩
  | 54 => ⟨S1x32768, .i1⟩
  | 55 => ⟨S1x32768, .i1⟩
  | 56 => ⟨S_, .i32⟩
  | 57 => ⟨S1x32768, .i32⟩
  | 58 => ⟨S1x32768, .i1⟩
  | 59 => ⟨S1x32768, .i1⟩
  | 60 => ⟨S_, .i32⟩
  | 61 => ⟨S_, .i32⟩
  | 62 => ⟨S_, .i32⟩
  | 63 => ⟨S1x32768, .i32⟩
  | 64 => ⟨S1x32768, .i32⟩
  | 65 => ⟨S_, .i32⟩
  | 66 => ⟨S1x32768, .i32⟩
  | 67 => ⟨S1x32768, .i32⟩
  | 68 => ⟨S_, .i32⟩
  | 69 => ⟨S_, .i32⟩
  | 70 => ⟨S_, .i32⟩
  | 71 => ⟨S1x32768, .i32⟩
  | 72 => ⟨S1x32768, .i32⟩
  | 73 => ⟨S_, .i32⟩
  | 74 => ⟨S1x32768, .i32⟩
  | 75 => ⟨S1x32768, .i32⟩
  | 76 => ⟨S_, .i32⟩
  | 77 => ⟨S1x32768, .i32⟩
  | 78 => ⟨S1x32768, .i1⟩
  | 79 => ⟨S_, .i32⟩
  | 80 => ⟨S1x32768, .i32⟩
  | 81 => ⟨S1x32768, .i32⟩
  | 82 => ⟨S1x32768, .i32⟩
  | 83 => ⟨S_, .i32⟩
  | 84 => ⟨S1x32768, .i32⟩
  | 85 => ⟨S1x32768, .i1⟩
  | 86 => ⟨S_, .i32⟩
  | 87 => ⟨S1x32768, .i32⟩
  | 88 => ⟨S1x32768, .i32⟩
  | 89 => ⟨S1x32768, .i32⟩
  | 90 => ⟨S1x32768x1, .i32⟩
  | 91 => ⟨S1x32768x1, .i32⟩
  | 92 => ⟨S1x32768x2, .i32⟩
  | 93 => ⟨S1x1x32768, .f32⟩
  | 94 => ⟨S1x1x32768, .i1⟩
  | 95 => ⟨S1x1x32768, .f32⟩
  | 96 => ⟨S1x1x32768, .f32⟩
  | 97 => ⟨S_, .f32⟩
  | 98 => ⟨S1x1x32768, .f32⟩
  | 99 => ⟨S1x1x32768, .f32⟩
  | 100 => ⟨S1x1x32768, .f32⟩
  | 101 => ⟨S_, .f32⟩
  | 102 => ⟨S1x1x32768, .f32⟩
  | 103 => ⟨S1x1x32768, .f32⟩
  | 104 => ⟨S1x1x32768, .f32⟩
  | 105 => ⟨S_, .i32⟩
  | 106 => ⟨S1x32768, .i32⟩
  | 107 => ⟨S1x32768, .i32⟩
  | 108 => ⟨S_, .i32⟩
  | 109 => ⟨S1x32768, .i32⟩
  | 110 => ⟨S1x32768, .i32⟩
  | 111 => ⟨S_, .i32⟩
  | 112 => ⟨S1x32768, .i32⟩
  | 113 => ⟨S1x32768, .i1⟩
  | 114 => ⟨S_, .i32⟩
  | 115 => ⟨S1x32768, .i32⟩
  | 116 => ⟨S1x32768, .i1⟩
  | 117 => ⟨S1x32768, .i1⟩
  | 118 => ⟨S_, .i32⟩
  | 119 => ⟨S1x32768, .i32⟩
  | 120 => ⟨S1x32768, .i1⟩
  | 121 => ⟨S1x32768, .i1⟩
  | 122 => ⟨S_, .i32⟩
  | 123 => ⟨S1x32768, .i32⟩
  | 124 => ⟨S1x32768, .i1⟩
  | 125 => ⟨S1x32768, .i1⟩
  | 126 => ⟨S_, .i32⟩
  | 127 => ⟨S_, .i32⟩
  | _ => ⟨S1x64x80x80, .f32⟩

abbrev hbmTy0_3 (i : Nat) : BufTy := match i % 128 with
  | 0 => ⟨S_, .i32⟩
  | 1 => ⟨S1x32768, .i32⟩
  | 2 => ⟨S1x32768, .i32⟩
  | 3 => ⟨S_, .i32⟩
  | 4 => ⟨S1x32768, .i32⟩
  | 5 => ⟨S1x32768, .i32⟩
  | 6 => ⟨S_, .i32⟩
  | 7 => ⟨S_, .i32⟩
  | 8 => ⟨S_, .i32⟩
  | 9 => ⟨S1x32768, .i32⟩
  | 10 => ⟨S1x32768, .i32⟩
  | 11 => ⟨S_, .i32⟩
  | 12 => ⟨S1x32768, .i32⟩
  | 13 => ⟨S1x32768, .i32⟩
  | 14 => ⟨S_, .i32⟩
  | 15 => ⟨S1x32768, .i32⟩
  | 16 => ⟨S1x32768, .i1⟩
  | 17 => ⟨S_, .i32⟩
  | 18 => ⟨S1x32768, .i32⟩
  | 19 => ⟨S1x32768, .i32⟩
  | 20 => ⟨S1x32768, .i32⟩
  | 21 => ⟨S_, .i32⟩
  | 22 => ⟨S1x32768, .i32⟩
  | 23 => ⟨S1x32768, .i1⟩
  | 24 => ⟨S_, .i32⟩
  | 25 => ⟨S1x32768, .i32⟩
  | 26 => ⟨S1x32768, .i32⟩
  | 27 => ⟨S1x32768, .i32⟩
  | 28 => ⟨S1x32768x1, .i32⟩
  | 29 => ⟨S1x32768x1, .i32⟩
  | 30 => ⟨S1x32768x2, .i32⟩
  | 31 => ⟨S1x1x32768, .f32⟩
  | 32 => ⟨S1x1x32768, .i1⟩
  | 33 => ⟨S1x1x32768, .f32⟩
  | 34 => ⟨S1x1x32768, .f32⟩
  | 35 => ⟨S1x1x32768, .f32⟩
  | 36 => ⟨S_, .f32⟩
  | 37 => ⟨S1x1x32768, .f32⟩
  | 38 => ⟨S1x1x32768, .f32⟩
  | 39 => ⟨S1x1x32768, .f32⟩
  | 40 => ⟨S1x1x32768, .f32⟩
  | 41 => ⟨S_, .i32⟩
  | 42 => ⟨S1x32768, .i32⟩
  | 43 => ⟨S1x32768, .i32⟩
  | 44 => ⟨S_, .i32⟩
  | 45 => ⟨S1x32768, .i32⟩
  | 46 => ⟨S1x32768, .i32⟩
  | 47 => ⟨S_, .i32⟩
  | 48 => ⟨S1x32768, .i32⟩
  | 49 => ⟨S1x32768, .i1⟩
  | 50 => ⟨S_, .i32⟩
  | 51 => ⟨S1x32768, .i32⟩
  | 52 => ⟨S1x32768, .i1⟩
  | 53 => ⟨S1x32768, .i1⟩
  | 54 => ⟨S_, .i32⟩
  | 55 => ⟨S1x32768, .i32⟩
  | 56 => ⟨S1x32768, .i1⟩
  | 57 => ⟨S1x32768, .i1⟩
  | 58 => ⟨S_, .i32⟩
  | 59 => ⟨S1x32768, .i32⟩
  | 60 => ⟨S1x32768, .i1⟩
  | 61 => ⟨S1x32768, .i1⟩
  | 62 => ⟨S_, .i32⟩
  | 63 => ⟨S_, .i32⟩
  | 64 => ⟨S_, .i32⟩
  | 65 => ⟨S1x32768, .i32⟩
  | 66 => ⟨S1x32768, .i32⟩
  | 67 => ⟨S_, .i32⟩
  | 68 => ⟨S1x32768, .i32⟩
  | 69 => ⟨S1x32768, .i32⟩
  | 70 => ⟨S_, .i32⟩
  | 71 => ⟨S_, .i32⟩
  | 72 => ⟨S_, .i32⟩
  | 73 => ⟨S1x32768, .i32⟩
  | 74 => ⟨S1x32768, .i32⟩
  | 75 => ⟨S_, .i32⟩
  | 76 => ⟨S1x32768, .i32⟩
  | 77 => ⟨S1x32768, .i32⟩
  | 78 => ⟨S_, .i32⟩
  | 79 => ⟨S1x32768, .i32⟩
  | 80 => ⟨S1x32768, .i1⟩
  | 81 => ⟨S_, .i32⟩
  | 82 => ⟨S1x32768, .i32⟩
  | 83 => ⟨S1x32768, .i32⟩
  | 84 => ⟨S1x32768, .i32⟩
  | 85 => ⟨S_, .i32⟩
  | 86 => ⟨S1x32768, .i32⟩
  | 87 => ⟨S1x32768, .i1⟩
  | 88 => ⟨S_, .i32⟩
  | 89 => ⟨S1x32768, .i32⟩
  | 90 => ⟨S1x32768, .i32⟩
  | 91 => ⟨S1x32768, .i32⟩
  | 92 => ⟨S1x32768x1, .i32⟩
  | 93 => ⟨S1x32768x1, .i32⟩
  | 94 => ⟨S1x32768x2, .i32⟩
  | 95 => ⟨S1x1x32768, .f32⟩
  | 96 => ⟨S1x1x32768, .i1⟩
  | 97 => ⟨S1x1x32768, .f32⟩
  | 98 => ⟨S1x1x32768, .f32⟩
  | 99 => ⟨S_, .f32⟩
  | 100 => ⟨S1x1x32768, .f32⟩
  | 101 => ⟨S1x1x32768, .f32⟩
  | 102 => ⟨S1x1x32768, .f32⟩
  | 103 => ⟨S1x1x32768, .f32⟩
  | 104 => ⟨S1x1x32768, .f32⟩
  | 105 => ⟨S_, .i32⟩
  | 106 => ⟨S1x32768, .i32⟩
  | 107 => ⟨S1x32768, .i32⟩
  | 108 => ⟨S_, .i32⟩
  | 109 => ⟨S1x32768, .i32⟩
  | 110 => ⟨S1x32768, .i32⟩
  | 111 => ⟨S_, .i32⟩
  | 112 => ⟨S1x32768, .i32⟩
  | 113 => ⟨S1x32768, .i1⟩
  | 114 => ⟨S_, .i32⟩
  | 115 => ⟨S1x32768, .i32⟩
  | 116 => ⟨S1x32768, .i1⟩
  | 117 => ⟨S1x32768, .i1⟩
  | 118 => ⟨S_, .i32⟩
  | 119 => ⟨S1x32768, .i32⟩
  | 120 => ⟨S1x32768, .i1⟩
  | 121 => ⟨S1x32768, .i1⟩
  | 122 => ⟨S_, .i32⟩
  | 123 => ⟨S1x32768, .i32⟩
  | 124 => ⟨S1x32768, .i1⟩
  | 125 => ⟨S1x32768, .i1⟩
  | 126 => ⟨S_, .i32⟩
  | 127 => ⟨S_, .i32⟩
  | _ => ⟨S1x64x80x80, .f32⟩

abbrev hbmTy0_4 (i : Nat) : BufTy := match i % 128 with
  | 0 => ⟨S_, .i32⟩
  | 1 => ⟨S1x32768, .i32⟩
  | 2 => ⟨S1x32768, .i32⟩
  | 3 => ⟨S_, .i32⟩
  | 4 => ⟨S1x32768, .i32⟩
  | 5 => ⟨S1x32768, .i32⟩
  | 6 => ⟨S_, .i32⟩
  | 7 => ⟨S_, .i32⟩
  | 8 => ⟨S_, .i32⟩
  | 9 => ⟨S1x32768, .i32⟩
  | 10 => ⟨S1x32768, .i32⟩
  | 11 => ⟨S_, .i32⟩
  | 12 => ⟨S1x32768, .i32⟩
  | 13 => ⟨S1x32768, .i32⟩
  | 14 => ⟨S_, .i32⟩
  | 15 => ⟨S1x32768, .i32⟩
  | 16 => ⟨S1x32768, .i1⟩
  | 17 => ⟨S_, .i32⟩
  | 18 => ⟨S1x32768, .i32⟩
  | 19 => ⟨S1x32768, .i32⟩
  | 20 => ⟨S1x32768, .i32⟩
  | 21 => ⟨S_, .i32⟩
  | 22 => ⟨S1x32768, .i32⟩
  | 23 => ⟨S1x32768, .i1⟩
  | 24 => ⟨S_, .i32⟩
  | 25 => ⟨S1x32768, .i32⟩
  | 26 => ⟨S1x32768, .i32⟩
  | 27 => ⟨S1x32768, .i32⟩
  | 28 => ⟨S1x32768x1, .i32⟩
  | 29 => ⟨S1x32768x1, .i32⟩
  | 30 => ⟨S1x32768x2, .i32⟩
  | 31 => ⟨S1x1x32768, .f32⟩
  | 32 => ⟨S1x1x32768, .i1⟩
  | 33 => ⟨S1x1x32768, .f32⟩
  | 34 => ⟨S1x1x32768, .f32⟩
  | 35 => ⟨S1x1x32768, .f32⟩
  | 36 => ⟨S1x1x32768, .f32⟩
  | 37 => ⟨S1x1x32768, .f32⟩
  | 38 => ⟨S1x32768x1, .f32⟩
  | 39 => ⟨S1x32768x1, .f32⟩
  | 40 => ⟨S1x32768, .f32⟩
  | 41 => ⟨S_, .i32⟩
  | 42 => ⟨S1x32768x2, .i32⟩
  | 43 => ⟨S1x32768x2, .i1⟩
  | 44 => ⟨S_, .i1⟩
  | 45 => ⟨S1x32768, .i1⟩
  | 46 => ⟨S_, .f32⟩
  | 47 => ⟨S_, .f32⟩
  | 48 => ⟨S1x32768, .f32⟩
  | 49 => ⟨S1x32768, .f32⟩
  | 50 => ⟨S1x4096, .f32⟩
  | 51 => ⟨S1x4096, .i32⟩
  | 52 => ⟨S1x32768x1, .i32⟩
  | 53 => ⟨S1x32768, .i32⟩
  | 54 => ⟨S_, .i32⟩
  | 55 => ⟨S1x4096, .i32⟩
  | 56 => ⟨S1x4096, .i1⟩
  | 57 => ⟨S_, .i32⟩
  | 58 => ⟨S1x4096, .i32⟩
  | 59 => ⟨S1x4096, .i32⟩
  | 60 => ⟨S1x4096, .i32⟩
  | 61 => ⟨S4096x1, .i32⟩
  | 62 => ⟨S1, .i32⟩
  | 63 => ⟨S_, .i32⟩
  | 64 => ⟨S4096x1, .i32⟩
  | 65 => ⟨S4096x1, .i1⟩
  | 66 => ⟨S1x1, .i32⟩
  | 67 => ⟨S4096x1, .i32⟩
  | 68 => ⟨S4096x1, .i1⟩
  | 69 => ⟨S4096x1, .i1⟩
  | 70 => ⟨S_, .i1⟩
  | 71 => ⟨S4096, .i1⟩
  | 72 => ⟨S1x4096, .i32⟩
  | 73 => ⟨S1x4096, .i1⟩
  | 74 => ⟨S_, .i32⟩
  | 75 => ⟨S1x4096, .i32⟩
  | 76 => ⟨S1x4096, .i32⟩
  | 77 => ⟨S1x32768x1, .i32⟩
  | 78 => ⟨S1x32768, .i32⟩
  | 79 => ⟨S_, .i32⟩
  | 80 => ⟨S1x4096, .i32⟩
  | 81 => ⟨S1x4096, .i1⟩
  | 82 => ⟨S_, .i32⟩
  | 83 => ⟨S1x4096, .i32⟩
  | 84 => ⟨S1x4096, .i32⟩
  | 85 => ⟨S1x4096, .i32⟩
  | 86 => ⟨S4096x1, .i32⟩
  | 87 => ⟨S1, .i32⟩
  | 88 => ⟨S_, .i32⟩
  | 89 => ⟨S4096x1, .i32⟩
  | 90 => ⟨S4096x1, .i1⟩
  | 91 => ⟨S1x1, .i32⟩
  | 92 => ⟨S4096x1, .i32⟩
  | 93 => ⟨S4096x1, .i1⟩
  | 94 => ⟨S4096x1, .i1⟩
  | 95 => ⟨S_, .i1⟩
  | 96 => ⟨S4096, .i1⟩
  | 97 => ⟨S1x4096, .i32⟩
  | 98 => ⟨S1x4096, .i1⟩
  | 99 => ⟨S_, .i32⟩
  | 100 => ⟨S1x4096, .i32⟩
  | 101 => ⟨S1x4096, .i32⟩
  | 102 => ⟨S1x4096, .f32⟩
  | 103 => ⟨S4096x1, .f32⟩
  | 104 => ⟨S1x4096, .f32⟩
  | 105 => ⟨S4096x1, .f32⟩
  | 106 => ⟨S4096x1, .f32⟩
  | 107 => ⟨S64x80x80, .f32⟩
  | 108 => ⟨S80x80x64, .f32⟩
  | 109 => ⟨S80x5120, .f32⟩
  | 110 => ⟨S5120, .i32⟩
  | 111 => ⟨S5120x1, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S5120x1, .i32⟩
  | 119 => ⟨S5120x1, .i32⟩
  | 120 => ⟨S_, .i32⟩
  | 121 => ⟨S5120x1, .i32⟩
  | 122 => ⟨S5120x1, .i1⟩
  | 123 => ⟨S_, .i32⟩
  | 124 => ⟨S5120x1, .i32⟩
  | 125 => ⟨S5120x1, .i1⟩
  | 126 => ⟨S_, .i32⟩
  | 127 => ⟨S_, .i1⟩
  | _ => ⟨S1x64x80x80, .f32⟩

abbrev hbmTy0_5 (i : Nat) : BufTy := match i % 128 with
  | 0 => ⟨S5120x1, .i1⟩
  | 1 => ⟨S5120x1, .i1⟩
  | 2 => ⟨S5120x1, .i1⟩
  | 3 => ⟨S5120x1, .i32⟩
  | 4 => ⟨S5120x1, .i32⟩
  | 5 => ⟨S5120x1, .i32⟩
  | 6 => ⟨S64, .i32⟩
  | 7 => ⟨S1x64, .i32⟩
  | 8 => ⟨S5120x64, .i32⟩
  | 9 => ⟨S5120x64, .i32⟩
  | 10 => ⟨S5120x64, .i1⟩
  | 11 => ⟨S5120x64, .f32⟩
  | 12 => ⟨S4096x67, .f32⟩
  | 13 => ⟨S1x4096x67, .f32⟩
  | _ => ⟨S1x64x80x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x64x80x80, .f32⟩

abbrev bufTy : (tb : Table) → Fin (tcTables nBuf tb) → BufTy
  | .hbm, ⟨i, _⟩ => hbmTy i
  | .local _ .vmem, ⟨0, _⟩ => ⟨S64x6400, .f32⟩
  | .local _ .vmem, ⟨1, _⟩ => ⟨S64x6400, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S80x5120, .f32⟩
  | .local _ .vmem, ⟨9, _⟩ => ⟨S5120x64, .f32⟩
  | .local _ .vmem, ⟨10, _⟩ => ⟨S512x67, .f32⟩
  | .local _ .vmem, ⟨11, _⟩ => ⟨S512x67, .f32⟩
  | _, _ => ⟨S1x64x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_cst_1 : Ref sig .tc := ⟨.hbm, 7, rfl⟩
abbrev main_call0_v2 : Ref sig .tc := ⟨.hbm, 8, rfl⟩
abbrev main_call0_cst_2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_cst_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_cst_4 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_cst_5 : Ref sig .tc := ⟨.hbm, 30, rfl⟩
abbrev main_call0_v21 : Ref sig .tc := ⟨.hbm, 31, rfl⟩
abbrev main_call0_v22 : Ref sig .tc := ⟨.hbm, 32, rfl⟩
abbrev main_call0_v23 : Ref sig .tc := ⟨.hbm, 33, rfl⟩
abbrev main_call0_v24 : Ref sig .tc := ⟨.hbm, 34, rfl⟩
abbrev main_call0_v25 : Ref sig .tc := ⟨.hbm, 35, rfl⟩
abbrev main_call0_call0_v0 : Ref sig .tc := ⟨.hbm, 36, rfl⟩
abbrev main_call0_call0_call0_c : Ref sig .tc := ⟨.hbm, 37, rfl⟩
abbrev main_call0_call0_call0_v0 : Ref sig .tc := ⟨.hbm, 38, rfl⟩
abbrev main_call0_v26 : Ref sig .tc := ⟨.hbm, 39, rfl⟩
abbrev main_call0_c : Ref sig .tc := ⟨.hbm, 40, rfl⟩
abbrev main_call0_v27 : Ref sig .tc := ⟨.hbm, 41, rfl⟩
abbrev main_call0_c_6 : Ref sig .tc := ⟨.hbm, 42, rfl⟩
abbrev main_call0_v28 : Ref sig .tc := ⟨.hbm, 43, rfl⟩
abbrev main_call0_v29 : Ref sig .tc := ⟨.hbm, 44, rfl⟩
abbrev main_call0_c_7 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_c_8 : Ref sig .tc := ⟨.hbm, 50, rfl⟩
abbrev main_call0_v34 : Ref sig .tc := ⟨.hbm, 51, rfl⟩
abbrev main_call0_v35 : Ref sig .tc := ⟨.hbm, 52, rfl⟩
abbrev main_call0_call1_call0_c : Ref sig .tc := ⟨.hbm, 53, rfl⟩
abbrev main_call0_call1_call0_v0 : Ref sig .tc := ⟨.hbm, 54, rfl⟩
abbrev main_call0_v36 : Ref sig .tc := ⟨.hbm, 55, rfl⟩
abbrev main_call0_c_9 : Ref sig .tc := ⟨.hbm, 56, rfl⟩
abbrev main_call0_call2_v0 : Ref sig .tc := ⟨.hbm, 57, rfl⟩
abbrev main_call0_call2_v1 : Ref sig .tc := ⟨.hbm, 58, rfl⟩
abbrev main_call0_call2_v2 : Ref sig .tc := ⟨.hbm, 59, rfl⟩
abbrev main_call0_call2_v3 : Ref sig .tc := ⟨.hbm, 60, rfl⟩
abbrev main_call0_call2_v4 : Ref sig .tc := ⟨.hbm, 61, rfl⟩
abbrev main_call0_call2_v5 : Ref sig .tc := ⟨.hbm, 62, rfl⟩
abbrev main_call0_call2_v6 : Ref sig .tc := ⟨.hbm, 63, rfl⟩
abbrev main_call0_call2_v7 : Ref sig .tc := ⟨.hbm, 64, rfl⟩
abbrev main_call0_call2_v8 : Ref sig .tc := ⟨.hbm, 65, rfl⟩
abbrev main_call0_call2_c : Ref sig .tc := ⟨.hbm, 66, rfl⟩
abbrev main_call0_call2_v9 : Ref sig .tc := ⟨.hbm, 67, rfl⟩
abbrev main_call0_call2_v10 : Ref sig .tc := ⟨.hbm, 68, rfl⟩
abbrev main_call0_call2_v11 : Ref sig .tc := ⟨.hbm, 69, rfl⟩
abbrev main_call0_call2_c_0 : Ref sig .tc := ⟨.hbm, 70, rfl⟩
abbrev main_call0_call2_v12 : Ref sig .tc := ⟨.hbm, 71, rfl⟩
abbrev main_call0_call2_v13 : Ref sig .tc := ⟨.hbm, 72, rfl⟩
abbrev main_call0_v37 : Ref sig .tc := ⟨.hbm, 73, rfl⟩
abbrev main_call0_c_10 : Ref sig .tc := ⟨.hbm, 74, rfl⟩
abbrev main_call0_call3_v0 : Ref sig .tc := ⟨.hbm, 75, rfl⟩
abbrev main_call0_call3_c : Ref sig .tc := ⟨.hbm, 76, rfl⟩
abbrev main_call0_call3_v1 : Ref sig .tc := ⟨.hbm, 77, rfl⟩
abbrev main_call0_call3_c_0 : Ref sig .tc := ⟨.hbm, 78, rfl⟩
abbrev main_call0_call3_v2 : Ref sig .tc := ⟨.hbm, 79, rfl⟩
abbrev main_call0_call3_v3 : Ref sig .tc := ⟨.hbm, 80, rfl⟩
abbrev main_call0_call3_v4 : Ref sig .tc := ⟨.hbm, 81, rfl⟩
abbrev main_call0_call3_c_1 : Ref sig .tc := ⟨.hbm, 82, rfl⟩
abbrev main_call0_call3_v5 : Ref sig .tc := ⟨.hbm, 83, rfl⟩
abbrev main_call0_call3_v6 : Ref sig .tc := ⟨.hbm, 84, rfl⟩
abbrev main_call0_call3_c_2 : Ref sig .tc := ⟨.hbm, 85, rfl⟩
abbrev main_call0_call3_v7 : Ref sig .tc := ⟨.hbm, 86, rfl⟩
abbrev main_call0_call3_v8 : Ref sig .tc := ⟨.hbm, 87, rfl⟩
abbrev main_call0_call3_c_3 : Ref sig .tc := ⟨.hbm, 88, rfl⟩
abbrev main_call0_call3_v9 : Ref sig .tc := ⟨.hbm, 89, rfl⟩
abbrev main_call0_call3_v10 : Ref sig .tc := ⟨.hbm, 90, rfl⟩
abbrev main_call0_call3_v11 : Ref sig .tc := ⟨.hbm, 91, rfl⟩
abbrev main_call0_call3_v12 : Ref sig .tc := ⟨.hbm, 92, rfl⟩
abbrev main_call0_call3_v13 : Ref sig .tc := ⟨.hbm, 93, rfl⟩
abbrev main_call0_call3_v14 : Ref sig .tc := ⟨.hbm, 94, rfl⟩
abbrev main_call0_v38 : Ref sig .tc := ⟨.hbm, 95, rfl⟩
abbrev main_call0_c_11 : Ref sig .tc := ⟨.hbm, 96, rfl⟩
abbrev main_call0_call4_v0 : Ref sig .tc := ⟨.hbm, 97, rfl⟩
abbrev main_call0_call4_v1 : Ref sig .tc := ⟨.hbm, 98, rfl⟩
abbrev main_call0_call4_v2 : Ref sig .tc := ⟨.hbm, 99, rfl⟩
abbrev main_call0_call4_v3 : Ref sig .tc := ⟨.hbm, 100, rfl⟩
abbrev main_call0_call4_v4 : Ref sig .tc := ⟨.hbm, 101, rfl⟩
abbrev main_call0_call4_v5 : Ref sig .tc := ⟨.hbm, 102, rfl⟩
abbrev main_call0_call4_v6 : Ref sig .tc := ⟨.hbm, 103, rfl⟩
abbrev main_call0_call4_v7 : Ref sig .tc := ⟨.hbm, 104, rfl⟩
abbrev main_call0_call4_v8 : Ref sig .tc := ⟨.hbm, 105, rfl⟩
abbrev main_call0_call4_c : Ref sig .tc := ⟨.hbm, 106, rfl⟩
abbrev main_call0_call4_v9 : Ref sig .tc := ⟨.hbm, 107, rfl⟩
abbrev main_call0_call4_v10 : Ref sig .tc := ⟨.hbm, 108, rfl⟩
abbrev main_call0_call4_v11 : Ref sig .tc := ⟨.hbm, 109, rfl⟩
abbrev main_call0_call4_c_0 : Ref sig .tc := ⟨.hbm, 110, rfl⟩
abbrev main_call0_call4_v12 : Ref sig .tc := ⟨.hbm, 111, rfl⟩
abbrev main_call0_call4_v13 : Ref sig .tc := ⟨.hbm, 112, rfl⟩
abbrev main_call0_v39 : Ref sig .tc := ⟨.hbm, 113, rfl⟩
abbrev main_call0_c_12 : Ref sig .tc := ⟨.hbm, 114, rfl⟩
abbrev main_call0_call5_v0 : Ref sig .tc := ⟨.hbm, 115, rfl⟩
abbrev main_call0_call5_c : Ref sig .tc := ⟨.hbm, 116, rfl⟩
abbrev main_call0_call5_v1 : Ref sig .tc := ⟨.hbm, 117, rfl⟩
abbrev main_call0_call5_c_0 : Ref sig .tc := ⟨.hbm, 118, rfl⟩
abbrev main_call0_call5_v2 : Ref sig .tc := ⟨.hbm, 119, rfl⟩
abbrev main_call0_call5_v3 : Ref sig .tc := ⟨.hbm, 120, rfl⟩
abbrev main_call0_call5_v4 : Ref sig .tc := ⟨.hbm, 121, rfl⟩
abbrev main_call0_call5_c_1 : Ref sig .tc := ⟨.hbm, 122, rfl⟩
abbrev main_call0_call5_v5 : Ref sig .tc := ⟨.hbm, 123, rfl⟩
abbrev main_call0_call5_v6 : Ref sig .tc := ⟨.hbm, 124, rfl⟩
abbrev main_call0_call5_c_2 : Ref sig .tc := ⟨.hbm, 125, rfl⟩
abbrev main_call0_call5_v7 : Ref sig .tc := ⟨.hbm, 126, rfl⟩
abbrev main_call0_call5_v8 : Ref sig .tc := ⟨.hbm, 127, rfl⟩
abbrev main_call0_call5_c_3 : Ref sig .tc := ⟨.hbm, 128, rfl⟩
abbrev main_call0_call5_v9 : Ref sig .tc := ⟨.hbm, 129, rfl⟩
abbrev main_call0_call5_v10 : Ref sig .tc := ⟨.hbm, 130, rfl⟩
abbrev main_call0_call5_v11 : Ref sig .tc := ⟨.hbm, 131, rfl⟩
abbrev main_call0_call5_v12 : Ref sig .tc := ⟨.hbm, 132, rfl⟩
abbrev main_call0_call5_v13 : Ref sig .tc := ⟨.hbm, 133, rfl⟩
abbrev main_call0_call5_v14 : Ref sig .tc := ⟨.hbm, 134, rfl⟩
abbrev main_call0_v40 : Ref sig .tc := ⟨.hbm, 135, rfl⟩
abbrev main_call0_v41 : Ref sig .tc := ⟨.hbm, 136, rfl⟩
abbrev main_call0_c_13 : Ref sig .tc := ⟨.hbm, 137, rfl⟩
abbrev main_call0_v42 : Ref sig .tc := ⟨.hbm, 138, rfl⟩
abbrev main_call0_v43 : Ref sig .tc := ⟨.hbm, 139, rfl⟩
abbrev main_call0_v44 : Ref sig .tc := ⟨.hbm, 140, rfl⟩
abbrev main_call0_v45 : Ref sig .tc := ⟨.hbm, 141, rfl⟩
abbrev main_call0_v46 : Ref sig .tc := ⟨.hbm, 142, rfl⟩
abbrev main_call0_c_14 : Ref sig .tc := ⟨.hbm, 143, rfl⟩
abbrev main_call0_v47 : Ref sig .tc := ⟨.hbm, 144, rfl⟩
abbrev main_call0_call6_v0 : Ref sig .tc := ⟨.hbm, 145, rfl⟩
abbrev main_call0_v48 : Ref sig .tc := ⟨.hbm, 146, rfl⟩
abbrev main_call0_c_15 : Ref sig .tc := ⟨.hbm, 147, rfl⟩
abbrev main_call0_v49 : Ref sig .tc := ⟨.hbm, 148, rfl⟩
abbrev main_call0_call7_v0 : Ref sig .tc := ⟨.hbm, 149, rfl⟩
abbrev main_call0_v50 : Ref sig .tc := ⟨.hbm, 150, rfl⟩
abbrev main_call0_v51 : Ref sig .tc := ⟨.hbm, 151, rfl⟩
abbrev main_call0_v52 : Ref sig .tc := ⟨.hbm, 152, rfl⟩
abbrev main_call0_v53 : Ref sig .tc := ⟨.hbm, 153, rfl⟩
abbrev main_call0_v54 : Ref sig .tc := ⟨.hbm, 154, rfl⟩
abbrev main_call0_v55 : Ref sig .tc := ⟨.hbm, 155, rfl⟩
abbrev main_call0_cst_16 : Ref sig .tc := ⟨.hbm, 156, rfl⟩
abbrev main_call0_v56 : Ref sig .tc := ⟨.hbm, 157, rfl⟩
abbrev main_call0_v57 : Ref sig .tc := ⟨.hbm, 158, rfl⟩
abbrev main_call0_v58 : Ref sig .tc := ⟨.hbm, 159, rfl⟩
abbrev main_call0_v59 : Ref sig .tc := ⟨.hbm, 160, rfl⟩
abbrev main_call0_v60 : Ref sig .tc := ⟨.hbm, 161, rfl⟩
abbrev main_call0_cst_17 : Ref sig .tc := ⟨.hbm, 162, rfl⟩
abbrev main_call0_v61 : Ref sig .tc := ⟨.hbm, 163, rfl⟩
abbrev main_call0_v62 : Ref sig .tc := ⟨.hbm, 164, rfl⟩
abbrev main_call0_v63 : Ref sig .tc := ⟨.hbm, 165, rfl⟩
abbrev main_call0_v64 : Ref sig .tc := ⟨.hbm, 166, rfl⟩
abbrev main_call0_cst_18 : Ref sig .tc := ⟨.hbm, 167, rfl⟩
abbrev main_call0_v65 : Ref sig .tc := ⟨.hbm, 168, rfl⟩
abbrev main_call0_v66 : Ref sig .tc := ⟨.hbm, 169, rfl⟩
abbrev main_call0_cst_19 : Ref sig .tc := ⟨.hbm, 170, rfl⟩
abbrev main_call0_v67 : Ref sig .tc := ⟨.hbm, 171, rfl⟩
abbrev main_call0_v68 : Ref sig .tc := ⟨.hbm, 172, rfl⟩
abbrev main_call0_cst_20 : Ref sig .tc := ⟨.hbm, 173, rfl⟩
abbrev main_call0_v69 : Ref sig .tc := ⟨.hbm, 174, rfl⟩
abbrev main_call0_v70 : Ref sig .tc := ⟨.hbm, 175, rfl⟩
abbrev main_call0_cst_21 : Ref sig .tc := ⟨.hbm, 176, rfl⟩
abbrev main_call0_v71 : Ref sig .tc := ⟨.hbm, 177, rfl⟩
abbrev main_call0_v72 : Ref sig .tc := ⟨.hbm, 178, rfl⟩
abbrev main_call0_v73 : Ref sig .tc := ⟨.hbm, 179, rfl⟩
abbrev main_call0_v74 : Ref sig .tc := ⟨.hbm, 180, rfl⟩
abbrev main_call0_cst_22 : Ref sig .tc := ⟨.hbm, 181, rfl⟩
abbrev main_call0_v75 : Ref sig .tc := ⟨.hbm, 182, rfl⟩
abbrev main_call0_v76 : Ref sig .tc := ⟨.hbm, 183, rfl⟩
abbrev main_call0_cst_23 : Ref sig .tc := ⟨.hbm, 184, rfl⟩
abbrev main_call0_v77 : Ref sig .tc := ⟨.hbm, 185, rfl⟩
abbrev main_call0_v78 : Ref sig .tc := ⟨.hbm, 186, rfl⟩
abbrev main_call0_cst_24 : Ref sig .tc := ⟨.hbm, 187, rfl⟩
abbrev main_call0_v79 : Ref sig .tc := ⟨.hbm, 188, rfl⟩
abbrev main_call0_v80 : Ref sig .tc := ⟨.hbm, 189, rfl⟩
abbrev main_call0_cst_25 : Ref sig .tc := ⟨.hbm, 190, rfl⟩
abbrev main_call0_v81 : Ref sig .tc := ⟨.hbm, 191, rfl⟩
abbrev main_call0_v82 : Ref sig .tc := ⟨.hbm, 192, rfl⟩
abbrev main_call0_v83 : Ref sig .tc := ⟨.hbm, 193, rfl⟩
abbrev main_call0_v84 : Ref sig .tc := ⟨.hbm, 194, rfl⟩
abbrev main_call0_v85 : Ref sig .tc := ⟨.hbm, 195, rfl⟩
abbrev main_call0_v86 : Ref sig .tc := ⟨.hbm, 196, rfl⟩
abbrev main_call0_c_26 : Ref sig .tc := ⟨.hbm, 197, rfl⟩
abbrev main_call0_v87 : Ref sig .tc := ⟨.hbm, 198, rfl⟩
abbrev main_call0_v88 : Ref sig .tc := ⟨.hbm, 199, rfl⟩
abbrev main_call0_c_27 : Ref sig .tc := ⟨.hbm, 200, rfl⟩
abbrev main_call0_v89 : Ref sig .tc := ⟨.hbm, 201, rfl⟩
abbrev main_call0_v90 : Ref sig .tc := ⟨.hbm, 202, rfl⟩
abbrev main_call0_v91 : Ref sig .tc := ⟨.hbm, 203, rfl⟩
abbrev main_call0_c_28 : Ref sig .tc := ⟨.hbm, 204, rfl⟩
abbrev main_call0_v92 : Ref sig .tc := ⟨.hbm, 205, rfl⟩
abbrev main_call0_v93 : Ref sig .tc := ⟨.hbm, 206, rfl⟩
abbrev main_call0_v94 : Ref sig .tc := ⟨.hbm, 207, rfl⟩
abbrev main_call0_c_29 : Ref sig .tc := ⟨.hbm, 208, rfl⟩
abbrev main_call0_v95 : Ref sig .tc := ⟨.hbm, 209, rfl⟩
abbrev main_call0_v96 : Ref sig .tc := ⟨.hbm, 210, rfl⟩
abbrev main_call0_v97 : Ref sig .tc := ⟨.hbm, 211, rfl⟩
abbrev main_call0_c_30 : Ref sig .tc := ⟨.hbm, 212, rfl⟩
abbrev main_call0_c_31 : Ref sig .tc := ⟨.hbm, 213, rfl⟩
abbrev main_call0_call10_v0 : Ref sig .tc := ⟨.hbm, 214, rfl⟩
abbrev main_call0_call10_v1 : Ref sig .tc := ⟨.hbm, 215, rfl⟩
abbrev main_call0_call10_v2 : Ref sig .tc := ⟨.hbm, 216, rfl⟩
abbrev main_call0_call10_v3 : Ref sig .tc := ⟨.hbm, 217, rfl⟩
abbrev main_call0_call10_v4 : Ref sig .tc := ⟨.hbm, 218, rfl⟩
abbrev main_call0_v98 : Ref sig .tc := ⟨.hbm, 219, rfl⟩
abbrev main_call0_c_32 : Ref sig .tc := ⟨.hbm, 220, rfl⟩
abbrev main_call0_c_33 : Ref sig .tc := ⟨.hbm, 221, rfl⟩
abbrev main_call0_call11_v0 : Ref sig .tc := ⟨.hbm, 222, rfl⟩
abbrev main_call0_call11_v1 : Ref sig .tc := ⟨.hbm, 223, rfl⟩
abbrev main_call0_call11_v2 : Ref sig .tc := ⟨.hbm, 224, rfl⟩
abbrev main_call0_call11_v3 : Ref sig .tc := ⟨.hbm, 225, rfl⟩
abbrev main_call0_call11_v4 : Ref sig .tc := ⟨.hbm, 226, rfl⟩
abbrev main_call0_v99 : Ref sig .tc := ⟨.hbm, 227, rfl⟩
abbrev main_call0_c_34 : Ref sig .tc := ⟨.hbm, 228, rfl⟩
abbrev main_call0_v100 : Ref sig .tc := ⟨.hbm, 229, rfl⟩
abbrev main_call0_v101 : Ref sig .tc := ⟨.hbm, 230, rfl⟩
abbrev main_call0_c_35 : Ref sig .tc := ⟨.hbm, 231, rfl⟩
abbrev main_call0_v102 : Ref sig .tc := ⟨.hbm, 232, rfl⟩
abbrev main_call0_v103 : Ref sig .tc := ⟨.hbm, 233, rfl⟩
abbrev main_call0_v104 : Ref sig .tc := ⟨.hbm, 234, rfl⟩
abbrev main_call0_c_36 : Ref sig .tc := ⟨.hbm, 235, rfl⟩
abbrev main_call0_v105 : Ref sig .tc := ⟨.hbm, 236, rfl⟩
abbrev main_call0_v106 : Ref sig .tc := ⟨.hbm, 237, rfl⟩
abbrev main_call0_c_37 : Ref sig .tc := ⟨.hbm, 238, rfl⟩
abbrev main_call0_v107 : Ref sig .tc := ⟨.hbm, 239, rfl⟩
abbrev main_call0_v108 : Ref sig .tc := ⟨.hbm, 240, rfl⟩
abbrev main_call0_v109 : Ref sig .tc := ⟨.hbm, 241, rfl⟩
abbrev main_call0_v110 : Ref sig .tc := ⟨.hbm, 242, rfl⟩
abbrev main_call0_v111 : Ref sig .tc := ⟨.hbm, 243, rfl⟩
abbrev main_call0_v112 : Ref sig .tc := ⟨.hbm, 244, rfl⟩
abbrev main_call0_v113 : Ref sig .tc := ⟨.hbm, 245, rfl⟩
abbrev main_call0_v114 : Ref sig .tc := ⟨.hbm, 246, rfl⟩
abbrev main_call0_v115 : Ref sig .tc := ⟨.hbm, 247, rfl⟩
abbrev main_call0_v116 : Ref sig .tc := ⟨.hbm, 248, rfl⟩
abbrev main_call0_v117 : Ref sig .tc := ⟨.hbm, 249, rfl⟩
abbrev main_call0_cst_38 : Ref sig .tc := ⟨.hbm, 250, rfl⟩
abbrev main_call0_v118 : Ref sig .tc := ⟨.hbm, 251, rfl⟩
abbrev main_call0_v119 : Ref sig .tc := ⟨.hbm, 252, rfl⟩
abbrev main_call0_v120 : Ref sig .tc := ⟨.hbm, 253, rfl⟩
abbrev main_call0_v121 : Ref sig .tc := ⟨.hbm, 254, rfl⟩
abbrev main_call0_v122 : Ref sig .tc := ⟨.hbm, 255, rfl⟩
abbrev main_call0_cst_39 : Ref sig .tc := ⟨.hbm, 256, rfl⟩
abbrev main_call0_v123 : Ref sig .tc := ⟨.hbm, 257, rfl⟩
abbrev main_call0_v124 : Ref sig .tc := ⟨.hbm, 258, rfl⟩
abbrev main_call0_v125 : Ref sig .tc := ⟨.hbm, 259, rfl⟩
abbrev main_call0_v126 : Ref sig .tc := ⟨.hbm, 260, rfl⟩
abbrev main_call0_cst_40 : Ref sig .tc := ⟨.hbm, 261, rfl⟩
abbrev main_call0_v127 : Ref sig .tc := ⟨.hbm, 262, rfl⟩
abbrev main_call0_v128 : Ref sig .tc := ⟨.hbm, 263, rfl⟩
abbrev main_call0_cst_41 : Ref sig .tc := ⟨.hbm, 264, rfl⟩
abbrev main_call0_v129 : Ref sig .tc := ⟨.hbm, 265, rfl⟩
abbrev main_call0_v130 : Ref sig .tc := ⟨.hbm, 266, rfl⟩
abbrev main_call0_cst_42 : Ref sig .tc := ⟨.hbm, 267, rfl⟩
abbrev main_call0_v131 : Ref sig .tc := ⟨.hbm, 268, rfl⟩
abbrev main_call0_v132 : Ref sig .tc := ⟨.hbm, 269, rfl⟩
abbrev main_call0_cst_43 : Ref sig .tc := ⟨.hbm, 270, rfl⟩
abbrev main_call0_v133 : Ref sig .tc := ⟨.hbm, 271, rfl⟩
abbrev main_call0_v134 : Ref sig .tc := ⟨.hbm, 272, rfl⟩
abbrev main_call0_v135 : Ref sig .tc := ⟨.hbm, 273, rfl⟩
abbrev main_call0_v136 : Ref sig .tc := ⟨.hbm, 274, rfl⟩
abbrev main_call0_cst_44 : Ref sig .tc := ⟨.hbm, 275, rfl⟩
abbrev main_call0_v137 : Ref sig .tc := ⟨.hbm, 276, rfl⟩
abbrev main_call0_v138 : Ref sig .tc := ⟨.hbm, 277, rfl⟩
abbrev main_call0_cst_45 : Ref sig .tc := ⟨.hbm, 278, rfl⟩
abbrev main_call0_v139 : Ref sig .tc := ⟨.hbm, 279, rfl⟩
abbrev main_call0_v140 : Ref sig .tc := ⟨.hbm, 280, rfl⟩
abbrev main_call0_cst_46 : Ref sig .tc := ⟨.hbm, 281, rfl⟩
abbrev main_call0_v141 : Ref sig .tc := ⟨.hbm, 282, rfl⟩
abbrev main_call0_v142 : Ref sig .tc := ⟨.hbm, 283, rfl⟩
abbrev main_call0_cst_47 : Ref sig .tc := ⟨.hbm, 284, rfl⟩
abbrev main_call0_v143 : Ref sig .tc := ⟨.hbm, 285, rfl⟩
abbrev main_call0_v144 : Ref sig .tc := ⟨.hbm, 286, rfl⟩
abbrev main_call0_v145 : Ref sig .tc := ⟨.hbm, 287, rfl⟩
abbrev main_call0_v146 : Ref sig .tc := ⟨.hbm, 288, rfl⟩
abbrev main_call0_v147 : Ref sig .tc := ⟨.hbm, 289, rfl⟩
abbrev main_call0_v148 : Ref sig .tc := ⟨.hbm, 290, rfl⟩
abbrev main_call0_v149 : Ref sig .tc := ⟨.hbm, 291, rfl⟩
abbrev main_call0_v150 : Ref sig .tc := ⟨.hbm, 292, rfl⟩
abbrev main_call0_v151 : Ref sig .tc := ⟨.hbm, 293, rfl⟩
abbrev main_call0_v152 : Ref sig .tc := ⟨.hbm, 294, rfl⟩
abbrev main_call0_c_48 : Ref sig .tc := ⟨.hbm, 295, rfl⟩
abbrev main_call0_v153 : Ref sig .tc := ⟨.hbm, 296, rfl⟩
abbrev main_call0_v154 : Ref sig .tc := ⟨.hbm, 297, rfl⟩
abbrev main_call0_c_49 : Ref sig .tc := ⟨.hbm, 298, rfl⟩
abbrev main_call0_v155 : Ref sig .tc := ⟨.hbm, 299, rfl⟩
abbrev main_call0_v156 : Ref sig .tc := ⟨.hbm, 300, rfl⟩
abbrev main_call0_c_50 : Ref sig .tc := ⟨.hbm, 301, rfl⟩
abbrev main_call0_v157 : Ref sig .tc := ⟨.hbm, 302, rfl⟩
abbrev main_call0_v158 : Ref sig .tc := ⟨.hbm, 303, rfl⟩
abbrev main_call0_c_51 : Ref sig .tc := ⟨.hbm, 304, rfl⟩
abbrev main_call0_v159 : Ref sig .tc := ⟨.hbm, 305, rfl⟩
abbrev main_call0_v160 : Ref sig .tc := ⟨.hbm, 306, rfl⟩
abbrev main_call0_v161 : Ref sig .tc := ⟨.hbm, 307, rfl⟩
abbrev main_call0_c_52 : Ref sig .tc := ⟨.hbm, 308, rfl⟩
abbrev main_call0_v162 : Ref sig .tc := ⟨.hbm, 309, rfl⟩
abbrev main_call0_v163 : Ref sig .tc := ⟨.hbm, 310, rfl⟩
abbrev main_call0_v164 : Ref sig .tc := ⟨.hbm, 311, rfl⟩
abbrev main_call0_c_53 : Ref sig .tc := ⟨.hbm, 312, rfl⟩
abbrev main_call0_v165 : Ref sig .tc := ⟨.hbm, 313, rfl⟩
abbrev main_call0_v166 : Ref sig .tc := ⟨.hbm, 314, rfl⟩
abbrev main_call0_v167 : Ref sig .tc := ⟨.hbm, 315, rfl⟩
abbrev main_call0_c_54 : Ref sig .tc := ⟨.hbm, 316, rfl⟩
abbrev main_call0_c_55 : Ref sig .tc := ⟨.hbm, 317, rfl⟩
abbrev main_call0_call12_v0 : Ref sig .tc := ⟨.hbm, 318, rfl⟩
abbrev main_call0_call12_v1 : Ref sig .tc := ⟨.hbm, 319, rfl⟩
abbrev main_call0_call12_v2 : Ref sig .tc := ⟨.hbm, 320, rfl⟩
abbrev main_call0_call12_v3 : Ref sig .tc := ⟨.hbm, 321, rfl⟩
abbrev main_call0_call12_v4 : Ref sig .tc := ⟨.hbm, 322, rfl⟩
abbrev main_call0_v168 : Ref sig .tc := ⟨.hbm, 323, rfl⟩
abbrev main_call0_c_56 : Ref sig .tc := ⟨.hbm, 324, rfl⟩
abbrev main_call0_c_57 : Ref sig .tc := ⟨.hbm, 325, rfl⟩
abbrev main_call0_call13_v0 : Ref sig .tc := ⟨.hbm, 326, rfl⟩
abbrev main_call0_call13_v1 : Ref sig .tc := ⟨.hbm, 327, rfl⟩
abbrev main_call0_call13_v2 : Ref sig .tc := ⟨.hbm, 328, rfl⟩
abbrev main_call0_call13_v3 : Ref sig .tc := ⟨.hbm, 329, rfl⟩
abbrev main_call0_call13_v4 : Ref sig .tc := ⟨.hbm, 330, rfl⟩
abbrev main_call0_v169 : Ref sig .tc := ⟨.hbm, 331, rfl⟩
abbrev main_call0_c_58 : Ref sig .tc := ⟨.hbm, 332, rfl⟩
abbrev main_call0_v170 : Ref sig .tc := ⟨.hbm, 333, rfl⟩
abbrev main_call0_v171 : Ref sig .tc := ⟨.hbm, 334, rfl⟩
abbrev main_call0_c_59 : Ref sig .tc := ⟨.hbm, 335, rfl⟩
abbrev main_call0_v172 : Ref sig .tc := ⟨.hbm, 336, rfl⟩
abbrev main_call0_v173 : Ref sig .tc := ⟨.hbm, 337, rfl⟩
abbrev main_call0_v174 : Ref sig .tc := ⟨.hbm, 338, rfl⟩
abbrev main_call0_c_60 : Ref sig .tc := ⟨.hbm, 339, rfl⟩
abbrev main_call0_v175 : Ref sig .tc := ⟨.hbm, 340, rfl⟩
abbrev main_call0_v176 : Ref sig .tc := ⟨.hbm, 341, rfl⟩
abbrev main_call0_c_61 : Ref sig .tc := ⟨.hbm, 342, rfl⟩
abbrev main_call0_v177 : Ref sig .tc := ⟨.hbm, 343, rfl⟩
abbrev main_call0_v178 : Ref sig .tc := ⟨.hbm, 344, rfl⟩
abbrev main_call0_v179 : Ref sig .tc := ⟨.hbm, 345, rfl⟩
abbrev main_call0_v180 : Ref sig .tc := ⟨.hbm, 346, rfl⟩
abbrev main_call0_v181 : Ref sig .tc := ⟨.hbm, 347, rfl⟩
abbrev main_call0_v182 : Ref sig .tc := ⟨.hbm, 348, rfl⟩
abbrev main_call0_v183 : Ref sig .tc := ⟨.hbm, 349, rfl⟩
abbrev main_call0_v184 : Ref sig .tc := ⟨.hbm, 350, rfl⟩
abbrev main_call0_v185 : Ref sig .tc := ⟨.hbm, 351, rfl⟩
abbrev main_call0_v186 : Ref sig .tc := ⟨.hbm, 352, rfl⟩
abbrev main_call0_cst_62 : Ref sig .tc := ⟨.hbm, 353, rfl⟩
abbrev main_call0_v187 : Ref sig .tc := ⟨.hbm, 354, rfl⟩
abbrev main_call0_v188 : Ref sig .tc := ⟨.hbm, 355, rfl⟩
abbrev main_call0_v189 : Ref sig .tc := ⟨.hbm, 356, rfl⟩
abbrev main_call0_cst_63 : Ref sig .tc := ⟨.hbm, 357, rfl⟩
abbrev main_call0_v190 : Ref sig .tc := ⟨.hbm, 358, rfl⟩
abbrev main_call0_v191 : Ref sig .tc := ⟨.hbm, 359, rfl⟩
abbrev main_call0_v192 : Ref sig .tc := ⟨.hbm, 360, rfl⟩
abbrev main_call0_c_64 : Ref sig .tc := ⟨.hbm, 361, rfl⟩
abbrev main_call0_v193 : Ref sig .tc := ⟨.hbm, 362, rfl⟩
abbrev main_call0_v194 : Ref sig .tc := ⟨.hbm, 363, rfl⟩
abbrev main_call0_c_65 : Ref sig .tc := ⟨.hbm, 364, rfl⟩
abbrev main_call0_v195 : Ref sig .tc := ⟨.hbm, 365, rfl⟩
abbrev main_call0_v196 : Ref sig .tc := ⟨.hbm, 366, rfl⟩
abbrev main_call0_c_66 : Ref sig .tc := ⟨.hbm, 367, rfl⟩
abbrev main_call0_v197 : Ref sig .tc := ⟨.hbm, 368, rfl⟩
abbrev main_call0_v198 : Ref sig .tc := ⟨.hbm, 369, rfl⟩
abbrev main_call0_c_67 : Ref sig .tc := ⟨.hbm, 370, rfl⟩
abbrev main_call0_v199 : Ref sig .tc := ⟨.hbm, 371, rfl⟩
abbrev main_call0_v200 : Ref sig .tc := ⟨.hbm, 372, rfl⟩
abbrev main_call0_v201 : Ref sig .tc := ⟨.hbm, 373, rfl⟩
abbrev main_call0_c_68 : Ref sig .tc := ⟨.hbm, 374, rfl⟩
abbrev main_call0_v202 : Ref sig .tc := ⟨.hbm, 375, rfl⟩
abbrev main_call0_v203 : Ref sig .tc := ⟨.hbm, 376, rfl⟩
abbrev main_call0_v204 : Ref sig .tc := ⟨.hbm, 377, rfl⟩
abbrev main_call0_c_69 : Ref sig .tc := ⟨.hbm, 378, rfl⟩
abbrev main_call0_v205 : Ref sig .tc := ⟨.hbm, 379, rfl⟩
abbrev main_call0_v206 : Ref sig .tc := ⟨.hbm, 380, rfl⟩
abbrev main_call0_v207 : Ref sig .tc := ⟨.hbm, 381, rfl⟩
abbrev main_call0_c_70 : Ref sig .tc := ⟨.hbm, 382, rfl⟩
abbrev main_call0_c_71 : Ref sig .tc := ⟨.hbm, 383, rfl⟩
abbrev main_call0_call14_v0 : Ref sig .tc := ⟨.hbm, 384, rfl⟩
abbrev main_call0_call14_v1 : Ref sig .tc := ⟨.hbm, 385, rfl⟩
abbrev main_call0_call14_v2 : Ref sig .tc := ⟨.hbm, 386, rfl⟩
abbrev main_call0_call14_v3 : Ref sig .tc := ⟨.hbm, 387, rfl⟩
abbrev main_call0_call14_v4 : Ref sig .tc := ⟨.hbm, 388, rfl⟩
abbrev main_call0_v208 : Ref sig .tc := ⟨.hbm, 389, rfl⟩
abbrev main_call0_c_72 : Ref sig .tc := ⟨.hbm, 390, rfl⟩
abbrev main_call0_c_73 : Ref sig .tc := ⟨.hbm, 391, rfl⟩
abbrev main_call0_call15_v0 : Ref sig .tc := ⟨.hbm, 392, rfl⟩
abbrev main_call0_call15_v1 : Ref sig .tc := ⟨.hbm, 393, rfl⟩
abbrev main_call0_call15_v2 : Ref sig .tc := ⟨.hbm, 394, rfl⟩
abbrev main_call0_call15_v3 : Ref sig .tc := ⟨.hbm, 395, rfl⟩
abbrev main_call0_call15_v4 : Ref sig .tc := ⟨.hbm, 396, rfl⟩
abbrev main_call0_v209 : Ref sig .tc := ⟨.hbm, 397, rfl⟩
abbrev main_call0_c_74 : Ref sig .tc := ⟨.hbm, 398, rfl⟩
abbrev main_call0_v210 : Ref sig .tc := ⟨.hbm, 399, rfl⟩
abbrev main_call0_v211 : Ref sig .tc := ⟨.hbm, 400, rfl⟩
abbrev main_call0_c_75 : Ref sig .tc := ⟨.hbm, 401, rfl⟩
abbrev main_call0_v212 : Ref sig .tc := ⟨.hbm, 402, rfl⟩
abbrev main_call0_v213 : Ref sig .tc := ⟨.hbm, 403, rfl⟩
abbrev main_call0_v214 : Ref sig .tc := ⟨.hbm, 404, rfl⟩
abbrev main_call0_c_76 : Ref sig .tc := ⟨.hbm, 405, rfl⟩
abbrev main_call0_v215 : Ref sig .tc := ⟨.hbm, 406, rfl⟩
abbrev main_call0_v216 : Ref sig .tc := ⟨.hbm, 407, rfl⟩
abbrev main_call0_c_77 : Ref sig .tc := ⟨.hbm, 408, rfl⟩
abbrev main_call0_v217 : Ref sig .tc := ⟨.hbm, 409, rfl⟩
abbrev main_call0_v218 : Ref sig .tc := ⟨.hbm, 410, rfl⟩
abbrev main_call0_v219 : Ref sig .tc := ⟨.hbm, 411, rfl⟩
abbrev main_call0_v220 : Ref sig .tc := ⟨.hbm, 412, rfl⟩
abbrev main_call0_v221 : Ref sig .tc := ⟨.hbm, 413, rfl⟩
abbrev main_call0_v222 : Ref sig .tc := ⟨.hbm, 414, rfl⟩
abbrev main_call0_v223 : Ref sig .tc := ⟨.hbm, 415, rfl⟩
abbrev main_call0_v224 : Ref sig .tc := ⟨.hbm, 416, rfl⟩
abbrev main_call0_v225 : Ref sig .tc := ⟨.hbm, 417, rfl⟩
abbrev main_call0_v226 : Ref sig .tc := ⟨.hbm, 418, rfl⟩
abbrev main_call0_v227 : Ref sig .tc := ⟨.hbm, 419, rfl⟩
abbrev main_call0_cst_78 : Ref sig .tc := ⟨.hbm, 420, rfl⟩
abbrev main_call0_v228 : Ref sig .tc := ⟨.hbm, 421, rfl⟩
abbrev main_call0_v229 : Ref sig .tc := ⟨.hbm, 422, rfl⟩
abbrev main_call0_v230 : Ref sig .tc := ⟨.hbm, 423, rfl⟩
abbrev main_call0_v231 : Ref sig .tc := ⟨.hbm, 424, rfl⟩
abbrev main_call0_c_79 : Ref sig .tc := ⟨.hbm, 425, rfl⟩
abbrev main_call0_v232 : Ref sig .tc := ⟨.hbm, 426, rfl⟩
abbrev main_call0_v233 : Ref sig .tc := ⟨.hbm, 427, rfl⟩
abbrev main_call0_c_80 : Ref sig .tc := ⟨.hbm, 428, rfl⟩
abbrev main_call0_v234 : Ref sig .tc := ⟨.hbm, 429, rfl⟩
abbrev main_call0_v235 : Ref sig .tc := ⟨.hbm, 430, rfl⟩
abbrev main_call0_c_81 : Ref sig .tc := ⟨.hbm, 431, rfl⟩
abbrev main_call0_v236 : Ref sig .tc := ⟨.hbm, 432, rfl⟩
abbrev main_call0_v237 : Ref sig .tc := ⟨.hbm, 433, rfl⟩
abbrev main_call0_c_82 : Ref sig .tc := ⟨.hbm, 434, rfl⟩
abbrev main_call0_v238 : Ref sig .tc := ⟨.hbm, 435, rfl⟩
abbrev main_call0_v239 : Ref sig .tc := ⟨.hbm, 436, rfl⟩
abbrev main_call0_v240 : Ref sig .tc := ⟨.hbm, 437, rfl⟩
abbrev main_call0_c_83 : Ref sig .tc := ⟨.hbm, 438, rfl⟩
abbrev main_call0_v241 : Ref sig .tc := ⟨.hbm, 439, rfl⟩
abbrev main_call0_v242 : Ref sig .tc := ⟨.hbm, 440, rfl⟩
abbrev main_call0_v243 : Ref sig .tc := ⟨.hbm, 441, rfl⟩
abbrev main_call0_c_84 : Ref sig .tc := ⟨.hbm, 442, rfl⟩
abbrev main_call0_v244 : Ref sig .tc := ⟨.hbm, 443, rfl⟩
abbrev main_call0_v245 : Ref sig .tc := ⟨.hbm, 444, rfl⟩
abbrev main_call0_v246 : Ref sig .tc := ⟨.hbm, 445, rfl⟩
abbrev main_call0_c_85 : Ref sig .tc := ⟨.hbm, 446, rfl⟩
abbrev main_call0_c_86 : Ref sig .tc := ⟨.hbm, 447, rfl⟩
abbrev main_call0_call16_v0 : Ref sig .tc := ⟨.hbm, 448, rfl⟩
abbrev main_call0_call16_v1 : Ref sig .tc := ⟨.hbm, 449, rfl⟩
abbrev main_call0_call16_v2 : Ref sig .tc := ⟨.hbm, 450, rfl⟩
abbrev main_call0_call16_v3 : Ref sig .tc := ⟨.hbm, 451, rfl⟩
abbrev main_call0_call16_v4 : Ref sig .tc := ⟨.hbm, 452, rfl⟩
abbrev main_call0_v247 : Ref sig .tc := ⟨.hbm, 453, rfl⟩
abbrev main_call0_c_87 : Ref sig .tc := ⟨.hbm, 454, rfl⟩
abbrev main_call0_c_88 : Ref sig .tc := ⟨.hbm, 455, rfl⟩
abbrev main_call0_call17_v0 : Ref sig .tc := ⟨.hbm, 456, rfl⟩
abbrev main_call0_call17_v1 : Ref sig .tc := ⟨.hbm, 457, rfl⟩
abbrev main_call0_call17_v2 : Ref sig .tc := ⟨.hbm, 458, rfl⟩
abbrev main_call0_call17_v3 : Ref sig .tc := ⟨.hbm, 459, rfl⟩
abbrev main_call0_call17_v4 : Ref sig .tc := ⟨.hbm, 460, rfl⟩
abbrev main_call0_v248 : Ref sig .tc := ⟨.hbm, 461, rfl⟩
abbrev main_call0_c_89 : Ref sig .tc := ⟨.hbm, 462, rfl⟩
abbrev main_call0_v249 : Ref sig .tc := ⟨.hbm, 463, rfl⟩
abbrev main_call0_v250 : Ref sig .tc := ⟨.hbm, 464, rfl⟩
abbrev main_call0_c_90 : Ref sig .tc := ⟨.hbm, 465, rfl⟩
abbrev main_call0_v251 : Ref sig .tc := ⟨.hbm, 466, rfl⟩
abbrev main_call0_v252 : Ref sig .tc := ⟨.hbm, 467, rfl⟩
abbrev main_call0_v253 : Ref sig .tc := ⟨.hbm, 468, rfl⟩
abbrev main_call0_c_91 : Ref sig .tc := ⟨.hbm, 469, rfl⟩
abbrev main_call0_v254 : Ref sig .tc := ⟨.hbm, 470, rfl⟩
abbrev main_call0_v255 : Ref sig .tc := ⟨.hbm, 471, rfl⟩
abbrev main_call0_c_92 : Ref sig .tc := ⟨.hbm, 472, rfl⟩
abbrev main_call0_v256 : Ref sig .tc := ⟨.hbm, 473, rfl⟩
abbrev main_call0_v257 : Ref sig .tc := ⟨.hbm, 474, rfl⟩
abbrev main_call0_v258 : Ref sig .tc := ⟨.hbm, 475, rfl⟩
abbrev main_call0_v259 : Ref sig .tc := ⟨.hbm, 476, rfl⟩
abbrev main_call0_v260 : Ref sig .tc := ⟨.hbm, 477, rfl⟩
abbrev main_call0_v261 : Ref sig .tc := ⟨.hbm, 478, rfl⟩
abbrev main_call0_v262 : Ref sig .tc := ⟨.hbm, 479, rfl⟩
abbrev main_call0_v263 : Ref sig .tc := ⟨.hbm, 480, rfl⟩
abbrev main_call0_v264 : Ref sig .tc := ⟨.hbm, 481, rfl⟩
abbrev main_call0_v265 : Ref sig .tc := ⟨.hbm, 482, rfl⟩
abbrev main_call0_cst_93 : Ref sig .tc := ⟨.hbm, 483, rfl⟩
abbrev main_call0_v266 : Ref sig .tc := ⟨.hbm, 484, rfl⟩
abbrev main_call0_v267 : Ref sig .tc := ⟨.hbm, 485, rfl⟩
abbrev main_call0_v268 : Ref sig .tc := ⟨.hbm, 486, rfl⟩
abbrev main_call0_v269 : Ref sig .tc := ⟨.hbm, 487, rfl⟩
abbrev main_call0_v270 : Ref sig .tc := ⟨.hbm, 488, rfl⟩
abbrev main_call0_c_94 : Ref sig .tc := ⟨.hbm, 489, rfl⟩
abbrev main_call0_v271 : Ref sig .tc := ⟨.hbm, 490, rfl⟩
abbrev main_call0_v272 : Ref sig .tc := ⟨.hbm, 491, rfl⟩
abbrev main_call0_c_95 : Ref sig .tc := ⟨.hbm, 492, rfl⟩
abbrev main_call0_v273 : Ref sig .tc := ⟨.hbm, 493, rfl⟩
abbrev main_call0_v274 : Ref sig .tc := ⟨.hbm, 494, rfl⟩
abbrev main_call0_c_96 : Ref sig .tc := ⟨.hbm, 495, rfl⟩
abbrev main_call0_v275 : Ref sig .tc := ⟨.hbm, 496, rfl⟩
abbrev main_call0_v276 : Ref sig .tc := ⟨.hbm, 497, rfl⟩
abbrev main_call0_c_97 : Ref sig .tc := ⟨.hbm, 498, rfl⟩
abbrev main_call0_v277 : Ref sig .tc := ⟨.hbm, 499, rfl⟩
abbrev main_call0_v278 : Ref sig .tc := ⟨.hbm, 500, rfl⟩
abbrev main_call0_v279 : Ref sig .tc := ⟨.hbm, 501, rfl⟩
abbrev main_call0_c_98 : Ref sig .tc := ⟨.hbm, 502, rfl⟩
abbrev main_call0_v280 : Ref sig .tc := ⟨.hbm, 503, rfl⟩
abbrev main_call0_v281 : Ref sig .tc := ⟨.hbm, 504, rfl⟩
abbrev main_call0_v282 : Ref sig .tc := ⟨.hbm, 505, rfl⟩
abbrev main_call0_c_99 : Ref sig .tc := ⟨.hbm, 506, rfl⟩
abbrev main_call0_v283 : Ref sig .tc := ⟨.hbm, 507, rfl⟩
abbrev main_call0_v284 : Ref sig .tc := ⟨.hbm, 508, rfl⟩
abbrev main_call0_v285 : Ref sig .tc := ⟨.hbm, 509, rfl⟩
abbrev main_call0_c_100 : Ref sig .tc := ⟨.hbm, 510, rfl⟩
abbrev main_call0_c_101 : Ref sig .tc := ⟨.hbm, 511, rfl⟩
abbrev main_call0_call18_v0 : Ref sig .tc := ⟨.hbm, 512, rfl⟩
abbrev main_call0_call18_v1 : Ref sig .tc := ⟨.hbm, 513, rfl⟩
abbrev main_call0_call18_v2 : Ref sig .tc := ⟨.hbm, 514, rfl⟩
abbrev main_call0_call18_v3 : Ref sig .tc := ⟨.hbm, 515, rfl⟩
abbrev main_call0_call18_v4 : Ref sig .tc := ⟨.hbm, 516, rfl⟩
abbrev main_call0_v286 : Ref sig .tc := ⟨.hbm, 517, rfl⟩
abbrev main_call0_c_102 : Ref sig .tc := ⟨.hbm, 518, rfl⟩
abbrev main_call0_c_103 : Ref sig .tc := ⟨.hbm, 519, rfl⟩
abbrev main_call0_call19_v0 : Ref sig .tc := ⟨.hbm, 520, rfl⟩
abbrev main_call0_call19_v1 : Ref sig .tc := ⟨.hbm, 521, rfl⟩
abbrev main_call0_call19_v2 : Ref sig .tc := ⟨.hbm, 522, rfl⟩
abbrev main_call0_call19_v3 : Ref sig .tc := ⟨.hbm, 523, rfl⟩
abbrev main_call0_call19_v4 : Ref sig .tc := ⟨.hbm, 524, rfl⟩
abbrev main_call0_v287 : Ref sig .tc := ⟨.hbm, 525, rfl⟩
abbrev main_call0_c_104 : Ref sig .tc := ⟨.hbm, 526, rfl⟩
abbrev main_call0_v288 : Ref sig .tc := ⟨.hbm, 527, rfl⟩
abbrev main_call0_v289 : Ref sig .tc := ⟨.hbm, 528, rfl⟩
abbrev main_call0_c_105 : Ref sig .tc := ⟨.hbm, 529, rfl⟩
abbrev main_call0_v290 : Ref sig .tc := ⟨.hbm, 530, rfl⟩
abbrev main_call0_v291 : Ref sig .tc := ⟨.hbm, 531, rfl⟩
abbrev main_call0_v292 : Ref sig .tc := ⟨.hbm, 532, rfl⟩
abbrev main_call0_c_106 : Ref sig .tc := ⟨.hbm, 533, rfl⟩
abbrev main_call0_v293 : Ref sig .tc := ⟨.hbm, 534, rfl⟩
abbrev main_call0_v294 : Ref sig .tc := ⟨.hbm, 535, rfl⟩
abbrev main_call0_c_107 : Ref sig .tc := ⟨.hbm, 536, rfl⟩
abbrev main_call0_v295 : Ref sig .tc := ⟨.hbm, 537, rfl⟩
abbrev main_call0_v296 : Ref sig .tc := ⟨.hbm, 538, rfl⟩
abbrev main_call0_v297 : Ref sig .tc := ⟨.hbm, 539, rfl⟩
abbrev main_call0_v298 : Ref sig .tc := ⟨.hbm, 540, rfl⟩
abbrev main_call0_v299 : Ref sig .tc := ⟨.hbm, 541, rfl⟩
abbrev main_call0_v300 : Ref sig .tc := ⟨.hbm, 542, rfl⟩
abbrev main_call0_v301 : Ref sig .tc := ⟨.hbm, 543, rfl⟩
abbrev main_call0_v302 : Ref sig .tc := ⟨.hbm, 544, rfl⟩
abbrev main_call0_v303 : Ref sig .tc := ⟨.hbm, 545, rfl⟩
abbrev main_call0_v304 : Ref sig .tc := ⟨.hbm, 546, rfl⟩
abbrev main_call0_v305 : Ref sig .tc := ⟨.hbm, 547, rfl⟩
abbrev main_call0_v306 : Ref sig .tc := ⟨.hbm, 548, rfl⟩
abbrev main_call0_v307 : Ref sig .tc := ⟨.hbm, 549, rfl⟩
abbrev main_call0_v308 : Ref sig .tc := ⟨.hbm, 550, rfl⟩
abbrev main_call0_v309 : Ref sig .tc := ⟨.hbm, 551, rfl⟩
abbrev main_call0_v310 : Ref sig .tc := ⟨.hbm, 552, rfl⟩
abbrev main_call0_c_108 : Ref sig .tc := ⟨.hbm, 553, rfl⟩
abbrev main_call0_v311 : Ref sig .tc := ⟨.hbm, 554, rfl⟩
abbrev main_call0_v312 : Ref sig .tc := ⟨.hbm, 555, rfl⟩
abbrev main_call0_c_109 : Ref sig .tc := ⟨.hbm, 556, rfl⟩
abbrev main_call0_v313 : Ref sig .tc := ⟨.hbm, 557, rfl⟩
abbrev main_call0_cst_110 : Ref sig .tc := ⟨.hbm, 558, rfl⟩
abbrev main_call0_call20_v0 : Ref sig .tc := ⟨.hbm, 559, rfl⟩
abbrev main_call0_call20_v1 : Ref sig .tc := ⟨.hbm, 560, rfl⟩
abbrev main_call0_v314 : Ref sig .tc := ⟨.hbm, 561, rfl⟩
abbrev main_call0_values : Ref sig .tc := ⟨.hbm, 562, rfl⟩
abbrev main_call0_indices : Ref sig .tc := ⟨.hbm, 563, rfl⟩
abbrev main_call0_v315 : Ref sig .tc := ⟨.hbm, 564, rfl⟩
abbrev main_call0_v316 : Ref sig .tc := ⟨.hbm, 565, rfl⟩
abbrev main_call0_call21_c : Ref sig .tc := ⟨.hbm, 566, rfl⟩
abbrev main_call0_call21_v0 : Ref sig .tc := ⟨.hbm, 567, rfl⟩
abbrev main_call0_call21_v1 : Ref sig .tc := ⟨.hbm, 568, rfl⟩
abbrev main_call0_call21_c_0 : Ref sig .tc := ⟨.hbm, 569, rfl⟩
abbrev main_call0_call21_v2 : Ref sig .tc := ⟨.hbm, 570, rfl⟩
abbrev main_call0_call21_v3 : Ref sig .tc := ⟨.hbm, 571, rfl⟩
abbrev main_call0_call21_v4 : Ref sig .tc := ⟨.hbm, 572, rfl⟩
abbrev main_call0_call21_v5 : Ref sig .tc := ⟨.hbm, 573, rfl⟩
abbrev main_call0_call21_c_1 : Ref sig .tc := ⟨.hbm, 574, rfl⟩
abbrev main_call0_call21_c_2 : Ref sig .tc := ⟨.hbm, 575, rfl⟩
abbrev main_call0_call21_v6 : Ref sig .tc := ⟨.hbm, 576, rfl⟩
abbrev main_call0_call21_v7 : Ref sig .tc := ⟨.hbm, 577, rfl⟩
abbrev main_call0_call21_v8 : Ref sig .tc := ⟨.hbm, 578, rfl⟩
abbrev main_call0_call21_v9 : Ref sig .tc := ⟨.hbm, 579, rfl⟩
abbrev main_call0_call21_v10 : Ref sig .tc := ⟨.hbm, 580, rfl⟩
abbrev main_call0_call21_v11 : Ref sig .tc := ⟨.hbm, 581, rfl⟩
abbrev main_call0_call21_c_3 : Ref sig .tc := ⟨.hbm, 582, rfl⟩
abbrev main_call0_call21_v12 : Ref sig .tc := ⟨.hbm, 583, rfl⟩
abbrev main_call0_call21_v13 : Ref sig .tc := ⟨.hbm, 584, rfl⟩
abbrev main_call0_call21_v14 : Ref sig .tc := ⟨.hbm, 585, rfl⟩
abbrev main_call0_call21_c_4 : Ref sig .tc := ⟨.hbm, 586, rfl⟩
abbrev main_call0_call21_v15 : Ref sig .tc := ⟨.hbm, 587, rfl⟩
abbrev main_call0_v317 : Ref sig .tc := ⟨.hbm, 588, rfl⟩
abbrev main_call0_v318 : Ref sig .tc := ⟨.hbm, 589, rfl⟩
abbrev main_call0_v319 : Ref sig .tc := ⟨.hbm, 590, rfl⟩
abbrev main_call0_call22_c : Ref sig .tc := ⟨.hbm, 591, rfl⟩
abbrev main_call0_call22_v0 : Ref sig .tc := ⟨.hbm, 592, rfl⟩
abbrev main_call0_call22_v1 : Ref sig .tc := ⟨.hbm, 593, rfl⟩
abbrev main_call0_call22_c_0 : Ref sig .tc := ⟨.hbm, 594, rfl⟩
abbrev main_call0_call22_v2 : Ref sig .tc := ⟨.hbm, 595, rfl⟩
abbrev main_call0_call22_v3 : Ref sig .tc := ⟨.hbm, 596, rfl⟩
abbrev main_call0_call22_v4 : Ref sig .tc := ⟨.hbm, 597, rfl⟩
abbrev main_call0_call22_v5 : Ref sig .tc := ⟨.hbm, 598, rfl⟩
abbrev main_call0_call22_c_1 : Ref sig .tc := ⟨.hbm, 599, rfl⟩
abbrev main_call0_call22_c_2 : Ref sig .tc := ⟨.hbm, 600, rfl⟩
abbrev main_call0_call22_v6 : Ref sig .tc := ⟨.hbm, 601, rfl⟩
abbrev main_call0_call22_v7 : Ref sig .tc := ⟨.hbm, 602, rfl⟩
abbrev main_call0_call22_v8 : Ref sig .tc := ⟨.hbm, 603, rfl⟩
abbrev main_call0_call22_v9 : Ref sig .tc := ⟨.hbm, 604, rfl⟩
abbrev main_call0_call22_v10 : Ref sig .tc := ⟨.hbm, 605, rfl⟩
abbrev main_call0_call22_v11 : Ref sig .tc := ⟨.hbm, 606, rfl⟩
abbrev main_call0_call22_c_3 : Ref sig .tc := ⟨.hbm, 607, rfl⟩
abbrev main_call0_call22_v12 : Ref sig .tc := ⟨.hbm, 608, rfl⟩
abbrev main_call0_call22_v13 : Ref sig .tc := ⟨.hbm, 609, rfl⟩
abbrev main_call0_call22_v14 : Ref sig .tc := ⟨.hbm, 610, rfl⟩
abbrev main_call0_call22_c_4 : Ref sig .tc := ⟨.hbm, 611, rfl⟩
abbrev main_call0_call22_v15 : Ref sig .tc := ⟨.hbm, 612, rfl⟩
abbrev main_call0_v320 : Ref sig .tc := ⟨.hbm, 613, rfl⟩
abbrev main_call0_v321 : Ref sig .tc := ⟨.hbm, 614, rfl⟩
abbrev main_call0_v322 : Ref sig .tc := ⟨.hbm, 615, rfl⟩
abbrev main_call0_v323 : Ref sig .tc := ⟨.hbm, 616, rfl⟩
abbrev main_call0_v324 : Ref sig .tc := ⟨.hbm, 617, rfl⟩
abbrev main_call0_v325 : Ref sig .tc := ⟨.hbm, 618, rfl⟩
abbrev main_call0_v326 : Ref sig .tc := ⟨.hbm, 619, rfl⟩
abbrev main_call0_v327 : Ref sig .tc := ⟨.hbm, 620, rfl⟩
abbrev main_call0_v328 : Ref sig .tc := ⟨.hbm, 621, rfl⟩
abbrev main_call0_v329 : Ref sig .tc := ⟨.hbm, 622, rfl⟩
abbrev main_call0_v330 : Ref sig .tc := ⟨.hbm, 623, rfl⟩
abbrev main_call0_c_111 : Ref sig .tc := ⟨.hbm, 624, rfl⟩
abbrev main_call0_call23_v0 : Ref sig .tc := ⟨.hbm, 625, rfl⟩
abbrev main_call0_call23_c : Ref sig .tc := ⟨.hbm, 626, rfl⟩
abbrev main_call0_call23_v1 : Ref sig .tc := ⟨.hbm, 627, rfl⟩
abbrev main_call0_call23_c_0 : Ref sig .tc := ⟨.hbm, 628, rfl⟩
abbrev main_call0_call23_v2 : Ref sig .tc := ⟨.hbm, 629, rfl⟩
abbrev main_call0_call23_v3 : Ref sig .tc := ⟨.hbm, 630, rfl⟩
abbrev main_call0_call23_v4 : Ref sig .tc := ⟨.hbm, 631, rfl⟩
abbrev main_call0_call23_c_1 : Ref sig .tc := ⟨.hbm, 632, rfl⟩
abbrev main_call0_call23_v5 : Ref sig .tc := ⟨.hbm, 633, rfl⟩
abbrev main_call0_call23_v6 : Ref sig .tc := ⟨.hbm, 634, rfl⟩
abbrev main_call0_call23_c_2 : Ref sig .tc := ⟨.hbm, 635, rfl⟩
abbrev main_call0_call23_v7 : Ref sig .tc := ⟨.hbm, 636, rfl⟩
abbrev main_call0_call23_v8 : Ref sig .tc := ⟨.hbm, 637, rfl⟩
abbrev main_call0_call23_c_3 : Ref sig .tc := ⟨.hbm, 638, rfl⟩
abbrev main_call0_call23_v9 : Ref sig .tc := ⟨.hbm, 639, rfl⟩
abbrev main_call0_call23_v10 : Ref sig .tc := ⟨.hbm, 640, rfl⟩
abbrev main_call0_call23_v11 : Ref sig .tc := ⟨.hbm, 641, rfl⟩
abbrev main_call0_call23_v12 : Ref sig .tc := ⟨.hbm, 642, rfl⟩
abbrev main_call0_call23_v13 : Ref sig .tc := ⟨.hbm, 643, rfl⟩
abbrev main_call0_call23_v14 : Ref sig .tc := ⟨.hbm, 644, rfl⟩
abbrev main_call0_v331 : Ref sig .tc := ⟨.hbm, 645, rfl⟩
abbrev main_call0_v332 : Ref sig .tc := ⟨.hbm, 646, rfl⟩
abbrev main_call0_v333 : Ref sig .tc := ⟨.hbm, 647, rfl⟩
abbrev main_call0_v334 : Ref sig .tc := ⟨.hbm, 648, rfl⟩
abbrev main_call0_v335 : Ref sig .tc := ⟨.hbm, 649, rfl⟩
abbrev main_call0_v336 : Ref sig .tc := ⟨.hbm, 650, rfl⟩
abbrev main_call0_v337 : Ref sig .tc := ⟨.hbm, 651, rfl⟩
abbrev main_call0_v338 : Ref sig .tc := ⟨.hbm, 652, rfl⟩
abbrev main_v0 : Ref sig .tc := ⟨.hbm, 653, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := .none

abbrev stage0_0 : Fin 1 → Memref sig .tc .vmem S64x6400 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x6400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S80x5120 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S5120x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x67 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S1x64x80x80 : Shape := ⟨4, ![1, 64, 80, 80]⟩
abbrev S1x65x80x80 : Shape := ⟨4, ![1, 65, 80, 80]⟩
abbrev S1x1x80x80 : Shape := ⟨4, ![1, 1, 80, 80]⟩
abbrev S2 : Shape := ⟨1, ![2]⟩
abbrev S_ : Shape := ⟨0, ![]⟩
abbrev S1x80x80 : Shape := ⟨3, ![1, 80, 80]⟩
abbrev S1x80x80x64 : Shape := ⟨4, ![1, 80, 80, 64]⟩
abbrev S1x80x80x8x8 : Shape := ⟨5, ![1, 80, 80, 8, 8]⟩
abbrev S1x80x8x80x8 : Shape := ⟨5, ![1, 80, 8, 80, 8]⟩
abbrev S1x1x640x640 : Shape := ⟨4, ![1, 1, 640, 640]⟩
abbrev S640x640 : Shape := ⟨2, ![640, 640]⟩
abbrev S409600 : Shape := ⟨1, ![409600]⟩
abbrev S32768 : Shape := ⟨1, ![32768]⟩
abbrev S409600x1 : Shape := ⟨2, ![409600, 1]⟩
abbrev S1 : Shape := ⟨1, ![1]⟩
abbrev S32768x1 : Shape := ⟨2, ![32768, 1]⟩
abbrev S32768x2 : Shape := ⟨2, ![32768, 2]⟩
abbrev S1x32768x2 : Shape := ⟨3, ![1, 32768, 2]⟩
abbrev S1x1x2 : Shape := ⟨3, ![1, 1, 2]⟩
abbrev S1x32768x1 : Shape := ⟨3, ![1, 32768, 1]⟩
abbrev S1x32768 : Shape := ⟨2, ![1, 32768]⟩
abbrev S1x1x32768 : Shape := ⟨3, ![1, 1, 32768]⟩
abbrev S1x1 : Shape := ⟨2, ![1, 1]⟩
abbrev S1x4096 : Shape := ⟨2, ![1, 4096]⟩
abbrev S1x4096x1 : Shape := ⟨3, ![1, 4096, 1]⟩
abbrev S1x4096x2 : Shape := ⟨3, ![1, 4096, 2]⟩
abbrev S4 : Shape := ⟨1, ![4]⟩
abbrev S4096 : Shape := ⟨1, ![4096]⟩
abbrev S4096x1 : Shape := ⟨2, ![4096, 1]⟩
abbrev S4096x4 : Shape := ⟨2, ![4096, 4]⟩
abbrev S64x80x80 : Shape := ⟨3, ![64, 80, 80]⟩
abbrev S4096x1x1 : Shape := ⟨3, ![4096, 1, 1]⟩
abbrev S1x4x1 : Shape := ⟨3, ![1, 4, 1]⟩
abbrev S4096x4x1 : Shape := ⟨3, ![4096, 4, 1]⟩
abbrev S1x1x4 : Shape := ⟨3, ![1, 1, 4]⟩
abbrev S4096x1x4 : Shape := ⟨3, ![4096, 1, 4]⟩
abbrev S4096x4x4 : Shape := ⟨3, ![4096, 4, 4]⟩
abbrev S4096x4x4x1 : Shape := ⟨4, ![4096, 4, 4, 1]⟩
abbrev S4096x4x4x2 : Shape := ⟨4, ![4096, 4, 4, 2]⟩
abbrev S64x4096x4x4 : Shape := ⟨4, ![64, 4096, 4, 4]⟩
abbrev S1x4096x4x4 : Shape := ⟨4, ![1, 4096, 4, 4]⟩
abbrev S1x4096x1x4 : Shape := ⟨4, ![1, 4096, 1, 4]⟩
abbrev S1x4096x4x1 : Shape := ⟨4, ![1, 4096, 4, 1]⟩
abbrev S64x4096 : Shape := ⟨2, ![64, 4096]⟩
abbrev S1x64x4096 : Shape := ⟨3, ![1, 64, 4096]⟩
abbrev S1x4096x64 : Shape := ⟨3, ![1, 4096, 64]⟩
abbrev S1x4096x3 : Shape := ⟨3, ![1, 4096, 3]⟩
abbrev S1x4096x67 : Shape := ⟨3, ![1, 4096, 67]⟩

abbrev nBuf : Space → Nat
  | .hbm => 946
  | .vmem => 0
  | .smem => 0
  | _ => 0

abbrev hbmTy0_0 (i : Nat) : BufTy := match i % 128 with
  | 0 => ⟨S1x64x80x80, .f32⟩
  | 1 => ⟨S1x65x80x80, .f32⟩
  | 2 => ⟨S1x1x80x80, .f32⟩
  | 3 => ⟨S2, .f32⟩
  | 4 => ⟨S2, .f32⟩
  | 5 => ⟨S2, .f32⟩
  | 6 => ⟨S1x64x80x80, .f32⟩
  | 7 => ⟨S_, .f32⟩
  | 8 => ⟨S1x80x80, .f32⟩
  | 9 => ⟨S1x1x80x80, .f32⟩
  | 10 => ⟨S1x1x80x80, .f32⟩
  | 11 => ⟨S_, .f32⟩
  | 12 => ⟨S1x1x80x80, .f32⟩
  | 13 => ⟨S1x1x80x80, .f32⟩
  | 14 => ⟨S1x64x80x80, .f32⟩
  | 15 => ⟨S1x64x80x80, .f32⟩
  | 16 => ⟨S_, .f32⟩
  | 17 => ⟨S1x80x80, .f32⟩
  | 18 => ⟨S_, .f32⟩
  | 19 => ⟨S1x80x80, .f32⟩
  | 20 => ⟨S1x80x80, .f32⟩
  | 21 => ⟨S1x1x80x80, .f32⟩
  | 22 => ⟨S1x65x80x80, .f32⟩
  | 23 => ⟨S1x65x80x80, .f32⟩
  | 24 => ⟨S1x65x80x80, .f32⟩
  | 25 => ⟨S_, .f32⟩
  | 26 => ⟨S1x80x80, .f32⟩
  | 27 => ⟨S1x1x80x80, .f32⟩
  | 28 => ⟨S1x65x80x80, .f32⟩
  | 29 => ⟨S1x65x80x80, .f32⟩
  | 30 => ⟨S1x64x80x80, .f32⟩
  | 31 => ⟨S1x80x80x64, .f32⟩
  | 32 => ⟨S1x80x80x8x8, .f32⟩
  | 33 => ⟨S1x80x8x80x8, .f32⟩
  | 34 => ⟨S1x1x640x640, .f32⟩
  | 35 => ⟨S_, .f32⟩
  | 36 => ⟨S_, .f32⟩
  | 37 => ⟨S1x1x640x640, .f32⟩
  | 38 => ⟨S1x1x640x640, .i1⟩
  | 39 => ⟨S_, .f32⟩
  | 40 => ⟨S1x1x640x640, .f32⟩
  | 41 => ⟨S1x1x640x640, .i1⟩
  | 42 => ⟨S1x1x640x640, .i1⟩
  | 43 => ⟨S640x640, .i1⟩
  | 44 => ⟨S409600, .i1⟩
  | 45 => ⟨S409600, .i32⟩
  | 46 => ⟨S_, .i32⟩
  | 47 => ⟨S_, .i32⟩
  | 48 => ⟨S409600, .i32⟩
  | 49 => ⟨S_, .i32⟩
  | 50 => ⟨S32768, .i32⟩
  | 51 => ⟨S_, .i32⟩
  | 52 => ⟨S409600, .i32⟩
  | 53 => ⟨S409600, .i1⟩
  | 54 => ⟨S_, .i32⟩
  | 55 => ⟨S409600, .i32⟩
  | 56 => ⟨S409600, .i32⟩
  | 57 => ⟨S409600, .i32⟩
  | 58 => ⟨S409600x1, .i32⟩
  | 59 => ⟨S_, .i32⟩
  | 60 => ⟨S409600, .i32⟩
  | 61 => ⟨S32768, .i32⟩
  | 62 => ⟨S_, .i32⟩
  | 63 => ⟨S_, .i32⟩
  | 64 => ⟨S32768, .i32⟩
  | 65 => ⟨S_, .i32⟩
  | 66 => ⟨S_, .i32⟩
  | 67 => ⟨S32768, .i32⟩
  | 68 => ⟨S32768, .i32⟩
  | 69 => ⟨S32768, .i32⟩
  | 70 => ⟨S_, .i32⟩
  | 71 => ⟨S32768, .i32⟩
  | 72 => ⟨S32768, .i1⟩
  | 73 => ⟨S32768, .i32⟩
  | 74 => ⟨S32768, .i32⟩
  | 75 => ⟨S_, .i32⟩
  | 76 => ⟨S32768, .i32⟩
  | 77 => ⟨S32768, .i1⟩
  | 78 => ⟨S32768, .i1⟩
  | 79 => ⟨S_, .i32⟩
  | 80 => ⟨S32768, .i32⟩
  | 81 => ⟨S32768, .i32⟩
  | 82 => ⟨S32768, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S32768, .i32⟩
  | 90 => ⟨S32768, .i32⟩
  | 91 => ⟨S_, .i32⟩
  | 92 => ⟨S32768, .i32⟩
  | 93 => ⟨S32768, .i1⟩
  | 94 => ⟨S_, .i32⟩
  | 95 => ⟨S32768, .i32⟩
  | 96 => ⟨S32768, .i1⟩
  | 97 => ⟨S_, .i32⟩
  | 98 => ⟨S_, .i1⟩
  | 99 => ⟨S32768, .i1⟩
  | 100 => ⟨S32768, .i1⟩
  | 101 => ⟨S32768, .i1⟩
  | 102 => ⟨S32768, .i32⟩
  | 103 => ⟨S32768, .i32⟩
  | 104 => ⟨S32768, .i32⟩
  | 105 => ⟨S_, .i32⟩
  | 106 => ⟨S_, .i32⟩
  | 107 => ⟨S32768, .i32⟩
  | 108 => ⟨S32768, .i32⟩
  | 109 => ⟨S32768, .i32⟩
  | 110 => ⟨S_, .i32⟩
  | 111 => ⟨S32768, .i32⟩
  | 112 => ⟨S32768, .i1⟩
  | 113 => ⟨S32768, .i32⟩
  | 114 => ⟨S32768, .i32⟩
  | 115 => ⟨S_, .i32⟩
  | 116 => ⟨S32768, .i32⟩
  | 117 => ⟨S32768, .i1⟩
  | 118 => ⟨S32768, .i1⟩
  | 119 => ⟨S_, .i32⟩
  | 120 => ⟨S32768, .i32⟩
  | 121 => ⟨S32768, .i32⟩
  | 122 => ⟨S32768, .i32⟩
  | 123 => ⟨S_, .i32⟩
  | 124 => ⟨S_, .i32⟩
  | 125 => ⟨S_, .i32⟩
  | 126 => ⟨S_, .i1⟩
  | 127 => ⟨S_, .i32⟩
  | _ => ⟨S1x64x80x80, .f32⟩

abbrev hbmTy0_1 (i : Nat) : BufTy := match i % 128 with
  | 0 => ⟨S_, .i32⟩
  | 1 => ⟨S32768, .i32⟩
  | 2 => ⟨S32768, .i32⟩
  | 3 => ⟨S_, .i32⟩
  | 4 => ⟨S32768, .i32⟩
  | 5 => ⟨S32768, .i1⟩
  | 6 => ⟨S_, .i32⟩
  | 7 => ⟨S32768, .i32⟩
  | 8 => ⟨S32768, .i1⟩
  | 9 => ⟨S_, .i32⟩
  | 10 => ⟨S_, .i1⟩
  | 11 => ⟨S32768, .i1⟩
  | 12 => ⟨S32768, .i1⟩
  | 13 => ⟨S32768, .i1⟩
  | 14 => ⟨S32768, .i32⟩
  | 15 => ⟨S32768, .i32⟩
  | 16 => ⟨S32768, .i32⟩
  | 17 => ⟨S409600, .i32⟩
  | 18 => ⟨S_, .i32⟩
  | 19 => ⟨S_, .i32⟩
  | 20 => ⟨S1, .i32⟩
  | 21 => ⟨S32768, .i32⟩
  | 22 => ⟨S32768, .i32⟩
  | 23 => ⟨S32768, .i1⟩
  | 24 => ⟨S_, .i32⟩
  | 25 => ⟨S1, .i32⟩
  | 26 => ⟨S32768, .i32⟩
  | 27 => ⟨S32768, .i32⟩
  | 28 => ⟨S_, .i32⟩
  | 29 => ⟨S1, .i32⟩
  | 30 => ⟨S32768, .i32⟩
  | 31 => ⟨S32768, .i32⟩
  | 32 => ⟨S32768x1, .i32⟩
  | 33 => ⟨S32768x1, .i32⟩
  | 34 => ⟨S32768x2, .i32⟩
  | 35 => ⟨S1x32768x2, .i32⟩
  | 36 => ⟨S1x32768x2, .f32⟩
  | 37 => ⟨S_, .f32⟩
  | 38 => ⟨S1x32768x2, .f32⟩
  | 39 => ⟨S1x32768x2, .f32⟩
  | 40 => ⟨S1x1x2, .f32⟩
  | 41 => ⟨S1x32768x2, .f32⟩
  | 42 => ⟨S1x32768x2, .f32⟩
  | 43 => ⟨S_, .f32⟩
  | 44 => ⟨S1x32768x2, .f32⟩
  | 45 => ⟨S1x32768x2, .f32⟩
  | 46 => ⟨S1x32768x1, .f32⟩
  | 47 => ⟨S1x32768, .f32⟩
  | 48 => ⟨S_, .f32⟩
  | 49 => ⟨S1x32768, .f32⟩
  | 50 => ⟨S1x32768, .f32⟩
  | 51 => ⟨S_, .f32⟩
  | 52 => ⟨S1x32768, .f32⟩
  | 53 => ⟨S1x32768, .f32⟩
  | 54 => ⟨S_, .f32⟩
  | 55 => ⟨S1x32768, .f32⟩
  | 56 => ⟨S1x32768, .f32⟩
  | 57 => ⟨S_, .f32⟩
  | 58 => ⟨S1x32768, .f32⟩
  | 59 => ⟨S1x32768, .f32⟩
  | 60 => ⟨S1x32768x1, .f32⟩
  | 61 => ⟨S1x32768, .f32⟩
  | 62 => ⟨S_, .f32⟩
  | 63 => ⟨S1x32768, .f32⟩
  | 64 => ⟨S1x32768, .f32⟩
  | 65 => ⟨S_, .f32⟩
  | 66 => ⟨S1x32768, .f32⟩
  | 67 => ⟨S1x32768, .f32⟩
  | 68 => ⟨S_, .f32⟩
  | 69 => ⟨S1x32768, .f32⟩
  | 70 => ⟨S1x32768, .f32⟩
  | 71 => ⟨S_, .f32⟩
  | 72 => ⟨S1x32768, .f32⟩
  | 73 => ⟨S1x32768, .f32⟩
  | 74 => ⟨S1x32768, .f32⟩
  | 75 => ⟨S1x32768, .i32⟩
  | 76 => ⟨S1x32768, .f32⟩
  | 77 => ⟨S1x32768, .i32⟩
  | 78 => ⟨S_, .i32⟩
  | 79 => ⟨S1x32768, .i32⟩
  | 80 => ⟨S1x32768, .i1⟩
  | 81 => ⟨S_, .i32⟩
  | 82 => ⟨S1x32768, .i32⟩
  | 83 => ⟨S1x32768, .i1⟩
  | 84 => ⟨S1x32768, .i1⟩
  | 85 => ⟨S_, .i32⟩
  | 86 => ⟨S1x32768, .i32⟩
  | 87 => ⟨S1x32768, .i1⟩
  | 88 => ⟨S1x32768, .i1⟩
  | 89 => ⟨S_, .i32⟩
  | 90 => ⟨S1x32768, .i32⟩
  | 91 => ⟨S1x32768, .i1⟩
  | 92 => ⟨S1x32768, .i1⟩
  | 93 => ⟨S_, .i32⟩
  | 94 => ⟨S_, .i32⟩
  | 95 => ⟨S_, .i32⟩
  | 96 => ⟨S1x32768, .i32⟩
  | 97 => ⟨S1x32768, .i32⟩
  | 98 => ⟨S_, .i32⟩
  | 99 => ⟨S1x32768, .i32⟩
  | 100 => ⟨S1x32768, .i32⟩
  | 101 => ⟨S_, .i32⟩
  | 102 => ⟨S_, .i32⟩
  | 103 => ⟨S_, .i32⟩
  | 104 => ⟨S1x32768, .i32⟩
  | 105 => ⟨S1x32768, .i32⟩
  | 106 => ⟨S_, .i32⟩
  | 107 => ⟨S1x32768, .i32⟩
  | 108 => ⟨S1x32768, .i32⟩
  | 109 => ⟨S_, .i32⟩
  | 110 => ⟨S1x32768, .i32⟩
  | 111 => ⟨S1x32768, .i1⟩
  | 112 => ⟨S_, .i32⟩
  | 113 => ⟨S1x32768, .i32⟩
  | 114 => ⟨S1x32768, .i32⟩
  | 115 => ⟨S1x32768, .i32⟩
  | 116 => ⟨S_, .i32⟩
  | 117 => ⟨S1x32768, .i32⟩
  | 118 => ⟨S1x32768, .i1⟩
  | 119 => ⟨S_, .i32⟩
  | 120 => ⟨S1x32768, .i32⟩
  | 121 => ⟨S1x32768, .i32⟩
  | 122 => ⟨S1x32768, .i32⟩
  | 123 => ⟨S1x32768x1, .i32⟩
  | 124 => ⟨S1x32768x1, .i32⟩
  | 125 => ⟨S1x32768x2, .i32⟩
  | 126 => ⟨S1x1x32768, .f32⟩
  | 127 => ⟨S1x1x32768, .i1⟩
  | _ => ⟨S1x64x80x80, .f32⟩

abbrev hbmTy0_2 (i : Nat) : BufTy := match i % 128 with
  | 0 => ⟨S1x1x32768, .f32⟩
  | 1 => ⟨S1x1x32768, .f32⟩
  | 2 => ⟨S1x32768x1, .f32⟩
  | 3 => ⟨S_, .f32⟩
  | 4 => ⟨S1x32768x2, .f32⟩
  | 5 => ⟨S1x32768x2, .f32⟩
  | 6 => ⟨S1x1x2, .f32⟩
  | 7 => ⟨S1x32768x2, .f32⟩
  | 8 => ⟨S1x32768x2, .f32⟩
  | 9 => ⟨S_, .f32⟩
  | 10 => ⟨S1x32768x2, .f32⟩
  | 11 => ⟨S1x32768x2, .f32⟩
  | 12 => ⟨S1x32768x1, .f32⟩
  | 13 => ⟨S1x32768, .f32⟩
  | 14 => ⟨S_, .f32⟩
  | 15 => ⟨S1x32768, .f32⟩
  | 16 => ⟨S1x32768, .f32⟩
  | 17 => ⟨S_, .f32⟩
  | 18 => ⟨S1x32768, .f32⟩
  | 19 => ⟨S1x32768, .f32⟩
  | 20 => ⟨S_, .f32⟩
  | 21 => ⟨S1x32768, .f32⟩
  | 22 => ⟨S1x32768, .f32⟩
  | 23 => ⟨S_, .f32⟩
  | 24 => ⟨S1x32768, .f32⟩
  | 25 => ⟨S1x32768, .f32⟩
  | 26 => ⟨S1x32768x1, .f32⟩
  | 27 => ⟨S1x32768, .f32⟩
  | 28 => ⟨S_, .f32⟩
  | 29 => ⟨S1x32768, .f32⟩
  | 30 => ⟨S1x32768, .f32⟩
  | 31 => ⟨S_, .f32⟩
  | 32 => ⟨S1x32768, .f32⟩
  | 33 => ⟨S1x32768, .f32⟩
  | 34 => ⟨S_, .f32⟩
  | 35 => ⟨S1x32768, .f32⟩
  | 36 => ⟨S1x32768, .f32⟩
  | 37 => ⟨S_, .f32⟩
  | 38 => ⟨S1x32768, .f32⟩
  | 39 => ⟨S1x32768, .f32⟩
  | 40 => ⟨S1x32768, .f32⟩
  | 41 => ⟨S1x32768, .f32⟩
  | 42 => ⟨S1x32768, .f32⟩
  | 43 => ⟨S1x1x32768, .f32⟩
  | 44 => ⟨S1x32768, .f32⟩
  | 45 => ⟨S1x1x32768, .f32⟩
  | 46 => ⟨S1x32768, .i32⟩
  | 47 => ⟨S1x32768, .i32⟩
  | 48 => ⟨S_, .i32⟩
  | 49 => ⟨S1x32768, .i32⟩
  | 50 => ⟨S1x32768, .i32⟩
  | 51 => ⟨S_, .i32⟩
  | 52 => ⟨S1x32768, .i32⟩
  | 53 => ⟨S1x32768, .i32⟩
  | 54 => ⟨S_, .i32⟩
  | 55 => ⟨S1x32768, .i32⟩
  | 56 => ⟨S1x32768, .i1⟩
  | 57 => ⟨S_, .i32⟩
  | 58 => ⟨S1x32768, .i32⟩
  | 59 => ⟨S1x32768, .i1⟩
  | 60 => ⟨S1x32768, .i1⟩
  | 61 => ⟨S_, .i32⟩
  | 62 => ⟨S1x32768, .i32⟩
  | 63 => ⟨S1x32768, .i1⟩
  | 64 => ⟨S1x32768, .i1⟩
  | 65 => ⟨S_, .i32⟩
  | 66 => ⟨S1x32768, .i32⟩
  | 67 => ⟨S1x32768, .i1⟩
  | 68 => ⟨S1x32768, .i1⟩
  | 69 => ⟨S_, .i32⟩
  | 70 => ⟨S_, .i32⟩
  | 71 => ⟨S_, .i32⟩
  | 72 => ⟨S1x32768, .i32⟩
  | 73 => ⟨S1x32768, .i32⟩
  | 74 => ⟨S_, .i32⟩
  | 75 => ⟨S1x32768, .i32⟩
  | 76 => ⟨S1x32768, .i32⟩
  | 77 => ⟨S_, .i32⟩
  | 78 => ⟨S_, .i32⟩
  | 79 => ⟨S_, .i32⟩
  | 80 => ⟨S1x32768, .i32⟩
  | 81 => ⟨S1x32768, .i32⟩
  | 82 => ⟨S_, .i32⟩
  | 83 => ⟨S1x32768, .i32⟩
  | 84 => ⟨S1x32768, .i32⟩
  | 85 => ⟨S_, .i32⟩
  | 86 => ⟨S1x32768, .i32⟩
  | 87 => ⟨S1x32768, .i1⟩
  | 88 => ⟨S_, .i32⟩
  | 89 => ⟨S1x32768, .i32⟩
  | 90 => ⟨S1x32768, .i32⟩
  | 91 => ⟨S1x32768, .i32⟩
  | 92 => ⟨S_, .i32⟩
  | 93 => ⟨S1x32768, .i32⟩
  | 94 => ⟨S1x32768, .i1⟩
  | 95 => ⟨S_, .i32⟩
  | 96 => ⟨S1x32768, .i32⟩
  | 97 => ⟨S1x32768, .i32⟩
  | 98 => ⟨S1x32768, .i32⟩
  | 99 => ⟨S1x32768x1, .i32⟩
  | 100 => ⟨S1x32768x1, .i32⟩
  | 101 => ⟨S1x32768x2, .i32⟩
  | 102 => ⟨S1x1x32768, .f32⟩
  | 103 => ⟨S1x1x32768, .i1⟩
  | 104 => ⟨S1x1x32768, .f32⟩
  | 105 => ⟨S1x1x32768, .f32⟩
  | 106 => ⟨S_, .f32⟩
  | 107 => ⟨S1x1x32768, .f32⟩
  | 108 => ⟨S1x1x32768, .f32⟩
  | 109 => ⟨S1x1x32768, .f32⟩
  | 110 => ⟨S_, .f32⟩
  | 111 => ⟨S1x1x32768, .f32⟩
  | 112 => ⟨S1x1x32768, .f32⟩
  | 113 => ⟨S1x1x32768, .f32⟩
  | 114 => ⟨S_, .i32⟩
  | 115 => ⟨S1x32768, .i32⟩
  | 116 => ⟨S1x32768, .i32⟩
  | 117 => ⟨S_, .i32⟩
  | 118 => ⟨S1x32768, .i32⟩
  | 119 => ⟨S1x32768, .i32⟩
  | 120 => ⟨S_, .i32⟩
  | 121 => ⟨S1x32768, .i32⟩
  | 122 => ⟨S1x32768, .i1⟩
  | 123 => ⟨S_, .i32⟩
  | 124 => ⟨S1x32768, .i32⟩
  | 125 => ⟨S1x32768, .i1⟩
  | 126 => ⟨S1x32768, .i1⟩
  | 127 => ⟨S_, .i32⟩
  | _ => ⟨S1x64x80x80, .f32⟩

abbrev hbmTy0_3 (i : Nat) : BufTy := match i % 128 with
  | 0 => ⟨S1x32768, .i32⟩
  | 1 => ⟨S1x32768, .i1⟩
  | 2 => ⟨S1x32768, .i1⟩
  | 3 => ⟨S_, .i32⟩
  | 4 => ⟨S1x32768, .i32⟩
  | 5 => ⟨S1x32768, .i1⟩
  | 6 => ⟨S1x32768, .i1⟩
  | 7 => ⟨S_, .i32⟩
  | 8 => ⟨S_, .i32⟩
  | 9 => ⟨S_, .i32⟩
  | 10 => ⟨S1x32768, .i32⟩
  | 11 => ⟨S1x32768, .i32⟩
  | 12 => ⟨S_, .i32⟩
  | 13 => ⟨S1x32768, .i32⟩
  | 14 => ⟨S1x32768, .i32⟩
  | 15 => ⟨S_, .i32⟩
  | 16 => ⟨S_, .i32⟩
  | 17 => ⟨S_, .i32⟩
  | 18 => ⟨S1x32768, .i32⟩
  | 19 => ⟨S1x32768, .i32⟩
  | 20 => ⟨S_, .i32⟩
  | 21 => ⟨S1x32768, .i32⟩
  | 22 => ⟨S1x32768, .i32⟩
  | 23 => ⟨S_, .i32⟩
  | 24 => ⟨S1x32768, .i32⟩
  | 25 => ⟨S1x32768, .i1⟩
  | 26 => ⟨S_, .i32⟩
  | 27 => ⟨S1x32768, .i32⟩
  | 28 => ⟨S1x32768, .i32⟩
  | 29 => ⟨S1x32768, .i32⟩
  | 30 => ⟨S_, .i32⟩
  | 31 => ⟨S1x32768, .i32⟩
  | 32 => ⟨S1x32768, .i1⟩
  | 33 => ⟨S_, .i32⟩
  | 34 => ⟨S1x32768, .i32⟩
  | 35 => ⟨S1x32768, .i32⟩
  | 36 => ⟨S1x32768, .i32⟩
  | 37 => ⟨S1x32768x1, .i32⟩
  | 38 => ⟨S1x32768x1, .i32⟩
  | 39 => ⟨S1x32768x2, .i32⟩
  | 40 => ⟨S1x1x32768, .f32⟩
  | 41 => ⟨S1x1x32768, .i1⟩
  | 42 => ⟨S1x1x32768, .f32⟩
  | 43 => ⟨S1x1x32768, .f32⟩
  | 44 => ⟨S1x1x32768, .f32⟩
  | 45 => ⟨S_, .f32⟩
  | 46 => ⟨S1x1x32768, .f32⟩
  | 47 => ⟨S1x1x32768, .f32⟩
  | 48 => ⟨S1x1x32768, .f32⟩
  | 49 => ⟨S1x1x32768, .f32⟩
  | 50 => ⟨S_, .i32⟩
  | 51 => ⟨S1x32768, .i32⟩
  | 52 => ⟨S1x32768, .i32⟩
  | 53 => ⟨S_, .i32⟩
  | 54 => ⟨S1x32768, .i32⟩
  | 55 => ⟨S1x32768, .i32⟩
  | 56 => ⟨S_, .i32⟩
  | 57 => ⟨S1x32768, .i32⟩
  | 58 => ⟨S1x32768, .i1⟩
  | 59 => ⟨S_, .i32⟩
  | 60 => ⟨S1x32768, .i32⟩
  | 61 => ⟨S1x32768, .i1⟩
  | 62 => ⟨S1x32768, .i1⟩
  | 63 => ⟨S_, .i32⟩
  | 64 => ⟨S1x32768, .i32⟩
  | 65 => ⟨S1x32768, .i1⟩
  | 66 => ⟨S1x32768, .i1⟩
  | 67 => ⟨S_, .i32⟩
  | 68 => ⟨S1x32768, .i32⟩
  | 69 => ⟨S1x32768, .i1⟩
  | 70 => ⟨S1x32768, .i1⟩
  | 71 => ⟨S_, .i32⟩
  | 72 => ⟨S_, .i32⟩
  | 73 => ⟨S_, .i32⟩
  | 74 => ⟨S1x32768, .i32⟩
  | 75 => ⟨S1x32768, .i32⟩
  | 76 => ⟨S_, .i32⟩
  | 77 => ⟨S1x32768, .i32⟩
  | 78 => ⟨S1x32768, .i32⟩
  | 79 => ⟨S_, .i32⟩
  | 80 => ⟨S_, .i32⟩
  | 81 => ⟨S_, .i32⟩
  | 82 => ⟨S1x32768, .i32⟩
  | 83 => ⟨S1x32768, .i32⟩
  | 84 => ⟨S_, .i32⟩
  | 85 => ⟨S1x32768, .i32⟩
  | 86 => ⟨S1x32768, .i32⟩
  | 87 => ⟨S_, .i32⟩
  | 88 => ⟨S1x32768, .i32⟩
  | 89 => ⟨S1x32768, .i1⟩
  | 90 => ⟨S_, .i32⟩
  | 91 => ⟨S1x32768, .i32⟩
  | 92 => ⟨S1x32768, .i32⟩
  | 93 => ⟨S1x32768, .i32⟩
  | 94 => ⟨S_, .i32⟩
  | 95 => ⟨S1x32768, .i32⟩
  | 96 => ⟨S1x32768, .i1⟩
  | 97 => ⟨S_, .i32⟩
  | 98 => ⟨S1x32768, .i32⟩
  | 99 => ⟨S1x32768, .i32⟩
  | 100 => ⟨S1x32768, .i32⟩
  | 101 => ⟨S1x32768x1, .i32⟩
  | 102 => ⟨S1x32768x1, .i32⟩
  | 103 => ⟨S1x32768x2, .i32⟩
  | 104 => ⟨S1x1x32768, .f32⟩
  | 105 => ⟨S1x1x32768, .i1⟩
  | 106 => ⟨S1x1x32768, .f32⟩
  | 107 => ⟨S1x1x32768, .f32⟩
  | 108 => ⟨S_, .f32⟩
  | 109 => ⟨S1x1x32768, .f32⟩
  | 110 => ⟨S1x1x32768, .f32⟩
  | 111 => ⟨S1x1x32768, .f32⟩
  | 112 => ⟨S1x1x32768, .f32⟩
  | 113 => ⟨S1x1x32768, .f32⟩
  | 114 => ⟨S_, .i32⟩
  | 115 => ⟨S1x32768, .i32⟩
  | 116 => ⟨S1x32768, .i32⟩
  | 117 => ⟨S_, .i32⟩
  | 118 => ⟨S1x32768, .i32⟩
  | 119 => ⟨S1x32768, .i32⟩
  | 120 => ⟨S_, .i32⟩
  | 121 => ⟨S1x32768, .i32⟩
  | 122 => ⟨S1x32768, .i1⟩
  | 123 => ⟨S_, .i32⟩
  | 124 => ⟨S1x32768, .i32⟩
  | 125 => ⟨S1x32768, .i1⟩
  | 126 => ⟨S1x32768, .i1⟩
  | 127 => ⟨S_, .i32⟩
  | _ => ⟨S1x64x80x80, .f32⟩

abbrev hbmTy0_4 (i : Nat) : BufTy := match i % 128 with
  | 0 => ⟨S1x32768, .i32⟩
  | 1 => ⟨S1x32768, .i1⟩
  | 2 => ⟨S1x32768, .i1⟩
  | 3 => ⟨S_, .i32⟩
  | 4 => ⟨S1x32768, .i32⟩
  | 5 => ⟨S1x32768, .i1⟩
  | 6 => ⟨S1x32768, .i1⟩
  | 7 => ⟨S_, .i32⟩
  | 8 => ⟨S_, .i32⟩
  | 9 => ⟨S_, .i32⟩
  | 10 => ⟨S1x32768, .i32⟩
  | 11 => ⟨S1x32768, .i32⟩
  | 12 => ⟨S_, .i32⟩
  | 13 => ⟨S1x32768, .i32⟩
  | 14 => ⟨S1x32768, .i32⟩
  | 15 => ⟨S_, .i32⟩
  | 16 => ⟨S_, .i32⟩
  | 17 => ⟨S_, .i32⟩
  | 18 => ⟨S1x32768, .i32⟩
  | 19 => ⟨S1x32768, .i32⟩
  | 20 => ⟨S_, .i32⟩
  | 21 => ⟨S1x32768, .i32⟩
  | 22 => ⟨S1x32768, .i32⟩
  | 23 => ⟨S_, .i32⟩
  | 24 => ⟨S1x32768, .i32⟩
  | 25 => ⟨S1x32768, .i1⟩
  | 26 => ⟨S_, .i32⟩
  | 27 => ⟨S1x32768, .i32⟩
  | 28 => ⟨S1x32768, .i32⟩
  | 29 => ⟨S1x32768, .i32⟩
  | 30 => ⟨S_, .i32⟩
  | 31 => ⟨S1x32768, .i32⟩
  | 32 => ⟨S1x32768, .i1⟩
  | 33 => ⟨S_, .i32⟩
  | 34 => ⟨S1x32768, .i32⟩
  | 35 => ⟨S1x32768, .i32⟩
  | 36 => ⟨S1x32768, .i32⟩
  | 37 => ⟨S1x32768x1, .i32⟩
  | 38 => ⟨S1x32768x1, .i32⟩
  | 39 => ⟨S1x32768x2, .i32⟩
  | 40 => ⟨S1x1x32768, .f32⟩
  | 41 => ⟨S1x1x32768, .i1⟩
  | 42 => ⟨S1x1x32768, .f32⟩
  | 43 => ⟨S1x1x32768, .f32⟩
  | 44 => ⟨S1x1x32768, .f32⟩
  | 45 => ⟨S1x1x32768, .f32⟩
  | 46 => ⟨S1x1x32768, .f32⟩
  | 47 => ⟨S1x32768x1, .f32⟩
  | 48 => ⟨S1x32768x1, .f32⟩
  | 49 => ⟨S1x32768, .f32⟩
  | 50 => ⟨S_, .i32⟩
  | 51 => ⟨S1x32768x2, .i32⟩
  | 52 => ⟨S1x32768x2, .i1⟩
  | 53 => ⟨S_, .i1⟩
  | 54 => ⟨S1x32768, .i1⟩
  | 55 => ⟨S_, .f32⟩
  | 56 => ⟨S_, .f32⟩
  | 57 => ⟨S1x32768, .f32⟩
  | 58 => ⟨S1x32768, .f32⟩
  | 59 => ⟨S1x32768, .f32⟩
  | 60 => ⟨S1x32768, .i32⟩
  | 61 => ⟨S1x32768, .f32⟩
  | 62 => ⟨S1x32768, .i32⟩
  | 63 => ⟨S1x32768x1, .i32⟩
  | 64 => ⟨S1x32768, .i32⟩
  | 65 => ⟨S_, .i32⟩
  | 66 => ⟨S1x32768, .i32⟩
  | 67 => ⟨S1x32768, .i1⟩
  | 68 => ⟨S_, .i32⟩
  | 69 => ⟨S1x32768, .i32⟩
  | 70 => ⟨S1x32768, .i32⟩
  | 71 => ⟨S1x32768, .i32⟩
  | 72 => ⟨S32768x1, .i32⟩
  | 73 => ⟨S1, .i32⟩
  | 74 => ⟨S_, .i32⟩
  | 75 => ⟨S32768x1, .i32⟩
  | 76 => ⟨S32768x1, .i1⟩
  | 77 => ⟨S1x1, .i32⟩
  | 78 => ⟨S32768x1, .i32⟩
  | 79 => ⟨S32768x1, .i1⟩
  | 80 => ⟨S32768x1, .i1⟩
  | 81 => ⟨S_, .i1⟩
  | 82 => ⟨S32768, .i1⟩
  | 83 => ⟨S1x32768, .i32⟩
  | 84 => ⟨S1x32768, .i1⟩
  | 85 => ⟨S_, .i32⟩
  | 86 => ⟨S1x32768, .i32⟩
  | 87 => ⟨S1x32768, .i32⟩
  | 88 => ⟨S1x4096, .i32⟩
  | 89 => ⟨S1x32768x1, .i32⟩
  | 90 => ⟨S1x32768, .i32⟩
  | 91 => ⟨S_, .i32⟩
  | 92 => ⟨S1x32768, .i32⟩
  | 93 => ⟨S1x32768, .i1⟩
  | 94 => ⟨S_, .i32⟩
  | 95 => ⟨S1x32768, .i32⟩
  | 96 => ⟨S1x32768, .i32⟩
  | 97 => ⟨S1x32768, .i32⟩
  | 98 => ⟨S32768x1, .i32⟩
  | 99 => ⟨S1, .i32⟩
  | 100 => ⟨S_, .i32⟩
  | 101 => ⟨S32768x1, .i32⟩
  | 102 => ⟨S32768x1, .i1⟩
  | 103 => ⟨S1x1, .i32⟩
  | 104 => ⟨S32768x1, .i32⟩
  | 105 => ⟨S32768x1, .i1⟩
  | 106 => ⟨S32768x1, .i1⟩
  | 107 => ⟨S_, .i1⟩
  | 108 => ⟨S32768, .i1⟩
  | 109 => ⟨S1x32768, .i32⟩
  | 110 => ⟨S1x32768, .i1⟩
  | 111 => ⟨S_, .i32⟩
  | 112 => ⟨S1x32768, .i32⟩
  | 113 => ⟨S1x32768, .i32⟩
  | 114 => ⟨S1x4096, .i32⟩
  | 115 => ⟨S1x4096x1, .i32⟩
  | 116 => ⟨S1x4096x1, .i32⟩
  | 117 => ⟨S1x4096x2, .i32⟩
  | 118 => ⟨S1x4096x2, .f32⟩
  | 119 => ⟨S_, .i32⟩
  | 120 => ⟨S1x32768, .i32⟩
  | 121 => ⟨S1x32768, .i1⟩
  | 122 => ⟨S_, .i32⟩
  | 123 => ⟨S1x32768, .i32⟩
  | 124 => ⟨S1x32768, .i32⟩
  | 125 => ⟨S1x32768, .i32⟩
  | 126 => ⟨S32768x1, .i32⟩
  | 127 => ⟨S1, .i32⟩
  | _ => ⟨S1x64x80x80, .f32⟩

abbrev hbmTy0_5 (i : Nat) : BufTy := match i % 128 with
  | 0 => ⟨S_, .i32⟩
  | 1 => ⟨S32768x1, .i32⟩
  | 2 => ⟨S32768x1, .i1⟩
  | 3 => ⟨S1x1, .i32⟩
  | 4 => ⟨S32768x1, .i32⟩
  | 5 => ⟨S32768x1, .i1⟩
  | 6 => ⟨S32768x1, .i1⟩
  | 7 => ⟨S_, .i1⟩
  | 8 => ⟨S32768, .i1⟩
  | 9 => ⟨S1x32768, .f32⟩
  | 10 => ⟨S1x32768, .i1⟩
  | 11 => ⟨S_, .f32⟩
  | 12 => ⟨S1x32768, .f32⟩
  | 13 => ⟨S1x32768, .f32⟩
  | 14 => ⟨S1x4096, .f32⟩
  | 15 => ⟨S_, .f32⟩
  | 16 => ⟨S1x4096x2, .f32⟩
  | 17 => ⟨S1x4096x2, .f32⟩
  | 18 => ⟨S1x1x2, .f32⟩
  | 19 => ⟨S1x4096x2, .f32⟩
  | 20 => ⟨S1x4096x2, .f32⟩
  | 21 => ⟨S_, .f32⟩
  | 22 => ⟨S1x4096x2, .f32⟩
  | 23 => ⟨S1x4096x2, .f32⟩
  | 24 => ⟨S1x4096x1, .f32⟩
  | 25 => ⟨S1x4096, .f32⟩
  | 26 => ⟨S_, .f32⟩
  | 27 => ⟨S1x4096, .f32⟩
  | 28 => ⟨S1x4096, .f32⟩
  | 29 => ⟨S_, .f32⟩
  | 30 => ⟨S1x4096, .f32⟩
  | 31 => ⟨S1x4096, .f32⟩
  | 32 => ⟨S_, .f32⟩
  | 33 => ⟨S1x4096, .f32⟩
  | 34 => ⟨S1x4096, .f32⟩
  | 35 => ⟨S_, .f32⟩
  | 36 => ⟨S1x4096, .f32⟩
  | 37 => ⟨S1x4096, .f32⟩
  | 38 => ⟨S1x4096x1, .f32⟩
  | 39 => ⟨S1x4096, .f32⟩
  | 40 => ⟨S_, .f32⟩
  | 41 => ⟨S1x4096, .f32⟩
  | 42 => ⟨S1x4096, .f32⟩
  | 43 => ⟨S_, .f32⟩
  | 44 => ⟨S1x4096, .f32⟩
  | 45 => ⟨S1x4096, .f32⟩
  | 46 => ⟨S_, .f32⟩
  | 47 => ⟨S1x4096, .f32⟩
  | 48 => ⟨S1x4096, .f32⟩
  | 49 => ⟨S_, .f32⟩
  | 50 => ⟨S1x4096, .f32⟩
  | 51 => ⟨S1x4096, .f32⟩
  | 52 => ⟨S1x4096, .f32⟩
  | 53 => ⟨S1x4096, .f32⟩
  | 54 => ⟨S1x4096, .f32⟩
  | 55 => ⟨S1x4096, .f32⟩
  | 56 => ⟨S1x4096, .i32⟩
  | 57 => ⟨S1x4096, .i32⟩
  | 58 => ⟨S4, .i32⟩
  | 59 => ⟨S_, .i32⟩
  | 60 => ⟨S4, .i32⟩
  | 61 => ⟨S4, .i32⟩
  | 62 => ⟨S4096, .f32⟩
  | 63 => ⟨S_, .f32⟩
  | 64 => ⟨S4096, .f32⟩
  | 65 => ⟨S4096, .f32⟩
  | 66 => ⟨S_, .f32⟩
  | 67 => ⟨S4096, .f32⟩
  | 68 => ⟨S4096, .f32⟩
  | 69 => ⟨S_, .f32⟩
  | 70 => ⟨S4096, .f32⟩
  | 71 => ⟨S4096, .f32⟩
  | 72 => ⟨S4096, .f32⟩
  | 73 => ⟨S4096, .f32⟩
  | 74 => ⟨S_, .f32⟩
  | 75 => ⟨S4096, .f32⟩
  | 76 => ⟨S4096, .f32⟩
  | 77 => ⟨S4096, .f32⟩
  | 78 => ⟨S_, .f32⟩
  | 79 => ⟨S4096, .f32⟩
  | 80 => ⟨S4096, .f32⟩
  | 81 => ⟨S4096, .f32⟩
  | 82 => ⟨S_, .f32⟩
  | 83 => ⟨S4096, .f32⟩
  | 84 => ⟨S4096, .f32⟩
  | 85 => ⟨S4096, .f32⟩
  | 86 => ⟨S_, .f32⟩
  | 87 => ⟨S4096, .f32⟩
  | 88 => ⟨S4096, .f32⟩
  | 89 => ⟨S4096, .f32⟩
  | 90 => ⟨S4096, .f32⟩
  | 91 => ⟨S_, .f32⟩
  | 92 => ⟨S4096, .f32⟩
  | 93 => ⟨S4096, .f32⟩
  | 94 => ⟨S4096, .f32⟩
  | 95 => ⟨S_, .f32⟩
  | 96 => ⟨S4096, .f32⟩
  | 97 => ⟨S4096, .f32⟩
  | 98 => ⟨S4096, .f32⟩
  | 99 => ⟨S_, .f32⟩
  | 100 => ⟨S4096, .f32⟩
  | 101 => ⟨S4096, .f32⟩
  | 102 => ⟨S4096, .f32⟩
  | 103 => ⟨S4096, .f32⟩
  | 104 => ⟨S_, .f32⟩
  | 105 => ⟨S4096, .f32⟩
  | 106 => ⟨S4096, .f32⟩
  | 107 => ⟨S4096, .f32⟩
  | 108 => ⟨S_, .f32⟩
  | 109 => ⟨S4096, .f32⟩
  | 110 => ⟨S4096, .f32⟩
  | 111 => ⟨S4096, .f32⟩
  | 112 => ⟨S_, .f32⟩
  | 113 => ⟨S4096, .f32⟩
  | 114 => ⟨S4096, .f32⟩
  | 115 => ⟨S4096, .f32⟩
  | 116 => ⟨S4096, .f32⟩
  | 117 => ⟨S_, .f32⟩
  | 118 => ⟨S4096, .f32⟩
  | 119 => ⟨S4096, .f32⟩
  | 120 => ⟨S4096, .f32⟩
  | 121 => ⟨S_, .f32⟩
  | 122 => ⟨S4096, .f32⟩
  | 123 => ⟨S4096, .f32⟩
  | 124 => ⟨S4096, .f32⟩
  | 125 => ⟨S_, .f32⟩
  | 126 => ⟨S4096, .f32⟩
  | 127 => ⟨S4096, .f32⟩
  | _ => ⟨S1x64x80x80, .f32⟩

abbrev hbmTy0_6 (i : Nat) : BufTy := match i % 128 with
  | 0 => ⟨S4096, .f32⟩
  | 1 => ⟨S_, .f32⟩
  | 2 => ⟨S4096, .f32⟩
  | 3 => ⟨S4096, .f32⟩
  | 4 => ⟨S4096x1, .f32⟩
  | 5 => ⟨S4096x1, .f32⟩
  | 6 => ⟨S4096x1, .f32⟩
  | 7 => ⟨S4096x1, .f32⟩
  | 8 => ⟨S4096x4, .f32⟩
  | 9 => ⟨S4096, .f32⟩
  | 10 => ⟨S_, .f32⟩
  | 11 => ⟨S4096, .f32⟩
  | 12 => ⟨S4096, .f32⟩
  | 13 => ⟨S_, .f32⟩
  | 14 => ⟨S4096, .f32⟩
  | 15 => ⟨S4096, .f32⟩
  | 16 => ⟨S_, .f32⟩
  | 17 => ⟨S4096, .f32⟩
  | 18 => ⟨S4096, .f32⟩
  | 19 => ⟨S4096, .f32⟩
  | 20 => ⟨S4096, .f32⟩
  | 21 => ⟨S_, .f32⟩
  | 22 => ⟨S4096, .f32⟩
  | 23 => ⟨S4096, .f32⟩
  | 24 => ⟨S4096, .f32⟩
  | 25 => ⟨S_, .f32⟩
  | 26 => ⟨S4096, .f32⟩
  | 27 => ⟨S4096, .f32⟩
  | 28 => ⟨S4096, .f32⟩
  | 29 => ⟨S_, .f32⟩
  | 30 => ⟨S4096, .f32⟩
  | 31 => ⟨S4096, .f32⟩
  | 32 => ⟨S4096, .f32⟩
  | 33 => ⟨S_, .f32⟩
  | 34 => ⟨S4096, .f32⟩
  | 35 => ⟨S4096, .f32⟩
  | 36 => ⟨S4096, .f32⟩
  | 37 => ⟨S4096, .f32⟩
  | 38 => ⟨S_, .f32⟩
  | 39 => ⟨S4096, .f32⟩
  | 40 => ⟨S4096, .f32⟩
  | 41 => ⟨S4096, .f32⟩
  | 42 => ⟨S_, .f32⟩
  | 43 => ⟨S4096, .f32⟩
  | 44 => ⟨S4096, .f32⟩
  | 45 => ⟨S4096, .f32⟩
  | 46 => ⟨S_, .f32⟩
  | 47 => ⟨S4096, .f32⟩
  | 48 => ⟨S4096, .f32⟩
  | 49 => ⟨S4096, .f32⟩
  | 50 => ⟨S4096, .f32⟩
  | 51 => ⟨S_, .f32⟩
  | 52 => ⟨S4096, .f32⟩
  | 53 => ⟨S4096, .f32⟩
  | 54 => ⟨S4096, .f32⟩
  | 55 => ⟨S_, .f32⟩
  | 56 => ⟨S4096, .f32⟩
  | 57 => ⟨S4096, .f32⟩
  | 58 => ⟨S4096, .f32⟩
  | 59 => ⟨S_, .f32⟩
  | 60 => ⟨S4096, .f32⟩
  | 61 => ⟨S4096, .f32⟩
  | 62 => ⟨S4096, .f32⟩
  | 63 => ⟨S4096, .f32⟩
  | 64 => ⟨S_, .f32⟩
  | 65 => ⟨S4096, .f32⟩
  | 66 => ⟨S4096, .f32⟩
  | 67 => ⟨S4096, .f32⟩
  | 68 => ⟨S_, .f32⟩
  | 69 => ⟨S4096, .f32⟩
  | 70 => ⟨S4096, .f32⟩
  | 71 => ⟨S4096, .f32⟩
  | 72 => ⟨S_, .f32⟩
  | 73 => ⟨S4096, .f32⟩
  | 74 => ⟨S4096, .f32⟩
  | 75 => ⟨S4096, .f32⟩
  | 76 => ⟨S_, .f32⟩
  | 77 => ⟨S4096, .f32⟩
  | 78 => ⟨S4096, .f32⟩
  | 79 => ⟨S4096x1, .f32⟩
  | 80 => ⟨S4096x1, .f32⟩
  | 81 => ⟨S4096x1, .f32⟩
  | 82 => ⟨S4096x1, .f32⟩
  | 83 => ⟨S4096x4, .f32⟩
  | 84 => ⟨S64x80x80, .f32⟩
  | 85 => ⟨S4096, .i32⟩
  | 86 => ⟨S4096x1x1, .i32⟩
  | 87 => ⟨S1x4x1, .i32⟩
  | 88 => ⟨S4096x4x1, .i32⟩
  | 89 => ⟨S4096x4x1, .i32⟩
  | 90 => ⟨S4096x4x1, .i32⟩
  | 91 => ⟨S4096, .i32⟩
  | 92 => ⟨S4096x1x1, .i32⟩
  | 93 => ⟨S1x1x4, .i32⟩
  | 94 => ⟨S4096x1x4, .i32⟩
  | 95 => ⟨S4096x1x4, .i32⟩
  | 96 => ⟨S4096x1x4, .i32⟩
  | 97 => ⟨S_, .i32⟩
  | 98 => ⟨S4096x4x1, .i32⟩
  | 99 => ⟨S4096x4x1, .i1⟩
  | 100 => ⟨S_, .i32⟩
  | 101 => ⟨S4096x4x1, .i32⟩
  | 102 => ⟨S4096x4x1, .i1⟩
  | 103 => ⟨S4096x4x1, .i1⟩
  | 104 => ⟨S_, .i32⟩
  | 105 => ⟨S4096x1x4, .i32⟩
  | 106 => ⟨S4096x1x4, .i1⟩
  | 107 => ⟨S4096x4x4, .i1⟩
  | 108 => ⟨S4096x4x4, .i1⟩
  | 109 => ⟨S4096x4x4, .i1⟩
  | 110 => ⟨S_, .i32⟩
  | 111 => ⟨S4096x1x4, .i32⟩
  | 112 => ⟨S4096x1x4, .i1⟩
  | 113 => ⟨S4096x4x4, .i1⟩
  | 114 => ⟨S4096x4x4, .i1⟩
  | 115 => ⟨S_, .i32⟩
  | 116 => ⟨S_, .i32⟩
  | 117 => ⟨S_, .i32⟩
  | 118 => ⟨S4096x4x1, .i32⟩
  | 119 => ⟨S4096x4x1, .i32⟩
  | 120 => ⟨S_, .i32⟩
  | 121 => ⟨S4096x4x1, .i32⟩
  | 122 => ⟨S4096x4x1, .i32⟩
  | 123 => ⟨S_, .i32⟩
  | 124 => ⟨S_, .i32⟩
  | 125 => ⟨S_, .i32⟩
  | 126 => ⟨S4096x1x4, .i32⟩
  | 127 => ⟨S4096x1x4, .i32⟩
  | _ => ⟨S1x64x80x80, .f32⟩

abbrev hbmTy0_7 (i : Nat) : BufTy := match i % 128 with
  | 0 => ⟨S_, .i32⟩
  | 1 => ⟨S4096x1x4, .i32⟩
  | 2 => ⟨S4096x1x4, .i32⟩
  | 3 => ⟨S_, .i32⟩
  | 4 => ⟨S4096x4x1, .i32⟩
  | 5 => ⟨S4096x4x1, .i1⟩
  | 6 => ⟨S_, .i32⟩
  | 7 => ⟨S4096x4x1, .i32⟩
  | 8 => ⟨S4096x4x1, .i32⟩
  | 9 => ⟨S4096x4x1, .i32⟩
  | 10 => ⟨S_, .i32⟩
  | 11 => ⟨S4096x1x4, .i32⟩
  | 12 => ⟨S4096x1x4, .i1⟩
  | 13 => ⟨S_, .i32⟩
  | 14 => ⟨S4096x1x4, .i32⟩
  | 15 => ⟨S4096x1x4, .i32⟩
  | 16 => ⟨S4096x1x4, .i32⟩
  | 17 => ⟨S4096x4x4, .i32⟩
  | 18 => ⟨S4096x4x4, .i32⟩
  | 19 => ⟨S4096x4x4x1, .i32⟩
  | 20 => ⟨S4096x4x4x1, .i32⟩
  | 21 => ⟨S4096x4x4x2, .i32⟩
  | 22 => ⟨S64x4096x4x4, .f32⟩
  | 23 => ⟨S1x4096x4x4, .i1⟩
  | 24 => ⟨S1x4096x4x4, .f32⟩
  | 25 => ⟨S64x4096x4x4, .f32⟩
  | 26 => ⟨S64x4096x4x4, .f32⟩
  | 27 => ⟨S1x4096x1x4, .f32⟩
  | 28 => ⟨S64x4096x4x4, .f32⟩
  | 29 => ⟨S64x4096x4x4, .f32⟩
  | 30 => ⟨S1x4096x4x1, .f32⟩
  | 31 => ⟨S64x4096x4x4, .f32⟩
  | 32 => ⟨S64x4096x4x4, .f32⟩
  | 33 => ⟨S_, .f32⟩
  | 34 => ⟨S64x4096, .f32⟩
  | 35 => ⟨S1x64x4096, .f32⟩
  | 36 => ⟨S1x4096x64, .f32⟩
  | 37 => ⟨S1x4096x64, .f32⟩
  | 38 => ⟨S_, .f32⟩
  | 39 => ⟨S1x4096, .f32⟩
  | 40 => ⟨S1x4096x1, .f32⟩
  | 41 => ⟨S1x4096x1, .f32⟩
  | 42 => ⟨S_, .f32⟩
  | 43 => ⟨S1x4096x1, .f32⟩
  | 44 => ⟨S1x4096x1, .f32⟩
  | 45 => ⟨S1x4096x64, .f32⟩
  | 46 => ⟨S1x4096x64, .f32⟩
  | 47 => ⟨S1x4096x1, .f32⟩
  | 48 => ⟨S1x4096x3, .f32⟩
  | 49 => ⟨S1x4096x67, .f32⟩
  | _ => ⟨S1x64x80x80, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1x64x80x80, .f32⟩

abbrev bufTy : (tb : Table) → Fin (tcTables nBuf tb) → BufTy
  | .hbm, ⟨i, _⟩ => hbmTy i
  | _, _ => ⟨S1x64x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_v0 : Ref sig .tc := ⟨.hbm, 45, rfl⟩
abbrev main_call1_call0_c : Ref sig .tc := ⟨.hbm, 46, rfl⟩
abbrev main_call1_call0_v0 : Ref sig .tc := ⟨.hbm, 47, rfl⟩
abbrev main_v29 : Ref sig .tc := ⟨.hbm, 48, rfl⟩
abbrev main_c : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_c_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_10 : Ref sig .tc := ⟨.hbm, 59, rfl⟩
abbrev main_v37 : Ref sig .tc := ⟨.hbm, 60, rfl⟩
abbrev main_v38 : Ref sig .tc := ⟨.hbm, 61, rfl⟩
abbrev main_call2_call0_c : Ref sig .tc := ⟨.hbm, 62, rfl⟩
abbrev main_call2_call0_v0 : Ref sig .tc := ⟨.hbm, 63, rfl⟩
abbrev main_v39 : Ref sig .tc := ⟨.hbm, 64, rfl⟩
abbrev main_c_11 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_c : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_0 : Ref sig .tc := ⟨.hbm, 79, rfl⟩
abbrev main_call3_v12 : Ref sig .tc := ⟨.hbm, 80, rfl⟩
abbrev main_call3_v13 : Ref sig .tc := ⟨.hbm, 81, rfl⟩
abbrev main_v40 : Ref sig .tc := ⟨.hbm, 82, rfl⟩
abbrev main_c_12 : Ref sig .tc := ⟨.hbm, 83, rfl⟩
abbrev main_call4_v0 : Ref sig .tc := ⟨.hbm, 84, rfl⟩
abbrev main_call4_c : Ref sig .tc := ⟨.hbm, 85, rfl⟩
abbrev main_call4_v1 : Ref sig .tc := ⟨.hbm, 86, rfl⟩
abbrev main_call4_c_0 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_call4_c_1 : Ref sig .tc := ⟨.hbm, 91, rfl⟩
abbrev main_call4_v5 : Ref sig .tc := ⟨.hbm, 92, rfl⟩
abbrev main_call4_v6 : Ref sig .tc := ⟨.hbm, 93, rfl⟩
abbrev main_call4_c_2 : Ref sig .tc := ⟨.hbm, 94, rfl⟩
abbrev main_call4_v7 : Ref sig .tc := ⟨.hbm, 95, rfl⟩
abbrev main_call4_v8 : Ref sig .tc := ⟨.hbm, 96, rfl⟩
abbrev main_call4_c_3 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_v12 : Ref sig .tc := ⟨.hbm, 101, rfl⟩
abbrev main_call4_v13 : Ref sig .tc := ⟨.hbm, 102, rfl⟩
abbrev main_call4_v14 : Ref sig .tc := ⟨.hbm, 103, rfl⟩
abbrev main_v41 : Ref sig .tc := ⟨.hbm, 104, rfl⟩
abbrev main_c_13 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_v6 : Ref sig .tc := ⟨.hbm, 112, rfl⟩
abbrev main_call5_v7 : Ref sig .tc := ⟨.hbm, 113, rfl⟩
abbrev main_call5_v8 : Ref sig .tc := ⟨.hbm, 114, rfl⟩
abbrev main_call5_c : Ref sig .tc := ⟨.hbm, 115, rfl⟩
abbrev main_call5_v9 : Ref sig .tc := ⟨.hbm, 116, rfl⟩
abbrev main_call5_v10 : Ref sig .tc := ⟨.hbm, 117, rfl⟩
abbrev main_call5_v11 : Ref sig .tc := ⟨.hbm, 118, rfl⟩
abbrev main_call5_c_0 : Ref sig .tc := ⟨.hbm, 119, rfl⟩
abbrev main_call5_v12 : Ref sig .tc := ⟨.hbm, 120, rfl⟩
abbrev main_call5_v13 : Ref sig .tc := ⟨.hbm, 121, rfl⟩
abbrev main_v42 : Ref sig .tc := ⟨.hbm, 122, rfl⟩
abbrev main_c_14 : Ref sig .tc := ⟨.hbm, 123, rfl⟩
abbrev main_call6_v0 : Ref sig .tc := ⟨.hbm, 124, rfl⟩
abbrev main_call6_c : Ref sig .tc := ⟨.hbm, 125, rfl⟩
abbrev main_call6_v1 : Ref sig .tc := ⟨.hbm, 126, rfl⟩
abbrev main_call6_c_0 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_call6_c_1 : Ref sig .tc := ⟨.hbm, 131, rfl⟩
abbrev main_call6_v5 : Ref sig .tc := ⟨.hbm, 132, rfl⟩
abbrev main_call6_v6 : Ref sig .tc := ⟨.hbm, 133, rfl⟩
abbrev main_call6_c_2 : Ref sig .tc := ⟨.hbm, 134, rfl⟩
abbrev main_call6_v7 : Ref sig .tc := ⟨.hbm, 135, rfl⟩
abbrev main_call6_v8 : Ref sig .tc := ⟨.hbm, 136, rfl⟩
abbrev main_call6_c_3 : Ref sig .tc := ⟨.hbm, 137, rfl⟩
abbrev main_call6_v9 : Ref sig .tc := ⟨.hbm, 138, rfl⟩
abbrev main_call6_v10 : Ref sig .tc := ⟨.hbm, 139, rfl⟩
abbrev main_call6_v11 : Ref sig .tc := ⟨.hbm, 140, rfl⟩
abbrev main_call6_v12 : Ref sig .tc := ⟨.hbm, 141, rfl⟩
abbrev main_call6_v13 : Ref sig .tc := ⟨.hbm, 142, rfl⟩
abbrev main_call6_v14 : Ref sig .tc := ⟨.hbm, 143, rfl⟩
abbrev main_v43 : Ref sig .tc := ⟨.hbm, 144, rfl⟩
abbrev main_v44 : Ref sig .tc := ⟨.hbm, 145, rfl⟩
abbrev main_c_15 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_c_16 : Ref sig .tc := ⟨.hbm, 152, rfl⟩
abbrev main_v50 : Ref sig .tc := ⟨.hbm, 153, rfl⟩
abbrev main_call7_v0 : Ref sig .tc := ⟨.hbm, 154, rfl⟩
abbrev main_v51 : Ref sig .tc := ⟨.hbm, 155, rfl⟩
abbrev main_c_17 : Ref sig .tc := ⟨.hbm, 156, rfl⟩
abbrev main_v52 : Ref sig .tc := ⟨.hbm, 157, rfl⟩
abbrev main_call8_v0 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_cst_18 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_cst_19 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_cst_20 : Ref sig .tc := ⟨.hbm, 176, rfl⟩
abbrev main_v68 : Ref sig .tc := ⟨.hbm, 177, rfl⟩
abbrev main_v69 : Ref sig .tc := ⟨.hbm, 178, rfl⟩
abbrev main_cst_21 : Ref sig .tc := ⟨.hbm, 179, rfl⟩
abbrev main_v70 : Ref sig .tc := ⟨.hbm, 180, rfl⟩
abbrev main_v71 : Ref sig .tc := ⟨.hbm, 181, rfl⟩
abbrev main_cst_22 : Ref sig .tc := ⟨.hbm, 182, rfl⟩
abbrev main_v72 : Ref sig .tc := ⟨.hbm, 183, rfl⟩
abbrev main_v73 : Ref sig .tc := ⟨.hbm, 184, rfl⟩
abbrev main_cst_23 : Ref sig .tc := ⟨.hbm, 185, rfl⟩
abbrev main_v74 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_cst_24 : Ref sig .tc := ⟨.hbm, 190, rfl⟩
abbrev main_v78 : Ref sig .tc := ⟨.hbm, 191, rfl⟩
abbrev main_v79 : Ref sig .tc := ⟨.hbm, 192, rfl⟩
abbrev main_cst_25 : Ref sig .tc := ⟨.hbm, 193, rfl⟩
abbrev main_v80 : Ref sig .tc := ⟨.hbm, 194, rfl⟩
abbrev main_v81 : Ref sig .tc := ⟨.hbm, 195, rfl⟩
abbrev main_cst_26 : Ref sig .tc := ⟨.hbm, 196, rfl⟩
abbrev main_v82 : Ref sig .tc := ⟨.hbm, 197, rfl⟩
abbrev main_v83 : Ref sig .tc := ⟨.hbm, 198, rfl⟩
abbrev main_cst_27 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_c_28 : Ref sig .tc := ⟨.hbm, 206, rfl⟩
abbrev main_v90 : Ref sig .tc := ⟨.hbm, 207, rfl⟩
abbrev main_v91 : Ref sig .tc := ⟨.hbm, 208, rfl⟩
abbrev main_c_29 : Ref sig .tc := ⟨.hbm, 209, rfl⟩
abbrev main_v92 : Ref sig .tc := ⟨.hbm, 210, rfl⟩
abbrev main_v93 : Ref sig .tc := ⟨.hbm, 211, rfl⟩
abbrev main_v94 : Ref sig .tc := ⟨.hbm, 212, rfl⟩
abbrev main_c_30 : Ref sig .tc := ⟨.hbm, 213, rfl⟩
abbrev main_v95 : Ref sig .tc := ⟨.hbm, 214, rfl⟩
abbrev main_v96 : Ref sig .tc := ⟨.hbm, 215, rfl⟩
abbrev main_v97 : Ref sig .tc := ⟨.hbm, 216, rfl⟩
abbrev main_c_31 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_c_32 : Ref sig .tc := ⟨.hbm, 221, rfl⟩
abbrev main_c_33 : Ref sig .tc := ⟨.hbm, 222, rfl⟩
abbrev main_call11_v0 : Ref sig .tc := ⟨.hbm, 223, rfl⟩
abbrev main_call11_v1 : Ref sig .tc := ⟨.hbm, 224, rfl⟩
abbrev main_call11_v2 : Ref sig .tc := ⟨.hbm, 225, rfl⟩
abbrev main_call11_v3 : Ref sig .tc := ⟨.hbm, 226, rfl⟩
abbrev main_call11_v4 : Ref sig .tc := ⟨.hbm, 227, rfl⟩
abbrev main_v101 : Ref sig .tc := ⟨.hbm, 228, rfl⟩
abbrev main_c_34 : Ref sig .tc := ⟨.hbm, 229, rfl⟩
abbrev main_c_35 : Ref sig .tc := ⟨.hbm, 230, rfl⟩
abbrev main_call12_v0 : Ref sig .tc := ⟨.hbm, 231, rfl⟩
abbrev main_call12_v1 : Ref sig .tc := ⟨.hbm, 232, rfl⟩
abbrev main_call12_v2 : Ref sig .tc := ⟨.hbm, 233, rfl⟩
abbrev main_call12_v3 : Ref sig .tc := ⟨.hbm, 234, rfl⟩
abbrev main_call12_v4 : Ref sig .tc := ⟨.hbm, 235, rfl⟩
abbrev main_v102 : Ref sig .tc := ⟨.hbm, 236, rfl⟩
abbrev main_c_36 : Ref sig .tc := ⟨.hbm, 237, rfl⟩
abbrev main_v103 : Ref sig .tc := ⟨.hbm, 238, rfl⟩
abbrev main_v104 : Ref sig .tc := ⟨.hbm, 239, rfl⟩
abbrev main_c_37 : Ref sig .tc := ⟨.hbm, 240, rfl⟩
abbrev main_v105 : Ref sig .tc := ⟨.hbm, 241, rfl⟩
abbrev main_v106 : Ref sig .tc := ⟨.hbm, 242, rfl⟩
abbrev main_v107 : Ref sig .tc := ⟨.hbm, 243, rfl⟩
abbrev main_c_38 : Ref sig .tc := ⟨.hbm, 244, rfl⟩
abbrev main_v108 : Ref sig .tc := ⟨.hbm, 245, rfl⟩
abbrev main_v109 : Ref sig .tc := ⟨.hbm, 246, rfl⟩
abbrev main_c_39 : Ref sig .tc := ⟨.hbm, 247, rfl⟩
abbrev main_v110 : Ref sig .tc := ⟨.hbm, 248, rfl⟩
abbrev main_v111 : Ref sig .tc := ⟨.hbm, 249, rfl⟩
abbrev main_v112 : Ref sig .tc := ⟨.hbm, 250, rfl⟩
abbrev main_v113 : Ref sig .tc := ⟨.hbm, 251, rfl⟩
abbrev main_v114 : Ref sig .tc := ⟨.hbm, 252, rfl⟩
abbrev main_v115 : Ref sig .tc := ⟨.hbm, 253, rfl⟩
abbrev main_v116 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩
abbrev main_v120 : Ref sig .tc := ⟨.hbm, 258, rfl⟩
abbrev main_cst_40 : Ref sig .tc := ⟨.hbm, 259, rfl⟩
abbrev main_v121 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_cst_41 : Ref sig .tc := ⟨.hbm, 265, rfl⟩
abbrev main_v126 : Ref sig .tc := ⟨.hbm, 266, rfl⟩
abbrev main_v127 : Ref sig .tc := ⟨.hbm, 267, rfl⟩
abbrev main_v128 : Ref sig .tc := ⟨.hbm, 268, rfl⟩
abbrev main_v129 : Ref sig .tc := ⟨.hbm, 269, rfl⟩
abbrev main_cst_42 : Ref sig .tc := ⟨.hbm, 270, rfl⟩
abbrev main_v130 : Ref sig .tc := ⟨.hbm, 271, rfl⟩
abbrev main_v131 : Ref sig .tc := ⟨.hbm, 272, rfl⟩
abbrev main_cst_43 : Ref sig .tc := ⟨.hbm, 273, rfl⟩
abbrev main_v132 : Ref sig .tc := ⟨.hbm, 274, rfl⟩
abbrev main_v133 : Ref sig .tc := ⟨.hbm, 275, rfl⟩
abbrev main_cst_44 : Ref sig .tc := ⟨.hbm, 276, rfl⟩
abbrev main_v134 : Ref sig .tc := ⟨.hbm, 277, rfl⟩
abbrev main_v135 : Ref sig .tc := ⟨.hbm, 278, rfl⟩
abbrev main_cst_45 : Ref sig .tc := ⟨.hbm, 279, rfl⟩
abbrev main_v136 : Ref sig .tc := ⟨.hbm, 280, rfl⟩
abbrev main_v137 : Ref sig .tc := ⟨.hbm, 281, rfl⟩
abbrev main_v138 : Ref sig .tc := ⟨.hbm, 282, rfl⟩
abbrev main_v139 : Ref sig .tc := ⟨.hbm, 283, rfl⟩
abbrev main_cst_46 : Ref sig .tc := ⟨.hbm, 284, rfl⟩
abbrev main_v140 : Ref sig .tc := ⟨.hbm, 285, rfl⟩
abbrev main_v141 : Ref sig .tc := ⟨.hbm, 286, rfl⟩
abbrev main_cst_47 : Ref sig .tc := ⟨.hbm, 287, rfl⟩
abbrev main_v142 : Ref sig .tc := ⟨.hbm, 288, rfl⟩
abbrev main_v143 : Ref sig .tc := ⟨.hbm, 289, rfl⟩
abbrev main_cst_48 : Ref sig .tc := ⟨.hbm, 290, rfl⟩
abbrev main_v144 : Ref sig .tc := ⟨.hbm, 291, rfl⟩
abbrev main_v145 : Ref sig .tc := ⟨.hbm, 292, rfl⟩
abbrev main_cst_49 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_c_50 : Ref sig .tc := ⟨.hbm, 304, rfl⟩
abbrev main_v156 : Ref sig .tc := ⟨.hbm, 305, rfl⟩
abbrev main_v157 : Ref sig .tc := ⟨.hbm, 306, rfl⟩
abbrev main_c_51 : Ref sig .tc := ⟨.hbm, 307, rfl⟩
abbrev main_v158 : Ref sig .tc := ⟨.hbm, 308, rfl⟩
abbrev main_v159 : Ref sig .tc := ⟨.hbm, 309, rfl⟩
abbrev main_c_52 : Ref sig .tc := ⟨.hbm, 310, rfl⟩
abbrev main_v160 : Ref sig .tc := ⟨.hbm, 311, rfl⟩
abbrev main_v161 : Ref sig .tc := ⟨.hbm, 312, rfl⟩
abbrev main_c_53 : Ref sig .tc := ⟨.hbm, 313, rfl⟩
abbrev main_v162 : Ref sig .tc := ⟨.hbm, 314, rfl⟩
abbrev main_v163 : Ref sig .tc := ⟨.hbm, 315, rfl⟩
abbrev main_v164 : Ref sig .tc := ⟨.hbm, 316, rfl⟩
abbrev main_c_54 : Ref sig .tc := ⟨.hbm, 317, rfl⟩
abbrev main_v165 : Ref sig .tc := ⟨.hbm, 318, rfl⟩
abbrev main_v166 : Ref sig .tc := ⟨.hbm, 319, rfl⟩
abbrev main_v167 : Ref sig .tc := ⟨.hbm, 320, rfl⟩
abbrev main_c_55 : Ref sig .tc := ⟨.hbm, 321, rfl⟩
abbrev main_v168 : Ref sig .tc := ⟨.hbm, 322, rfl⟩
abbrev main_v169 : Ref sig .tc := ⟨.hbm, 323, rfl⟩
abbrev main_v170 : Ref sig .tc := ⟨.hbm, 324, rfl⟩
abbrev main_c_56 : Ref sig .tc := ⟨.hbm, 325, rfl⟩
abbrev main_c_57 : Ref sig .tc := ⟨.hbm, 326, rfl⟩
abbrev main_call13_v0 : Ref sig .tc := ⟨.hbm, 327, rfl⟩
abbrev main_call13_v1 : Ref sig .tc := ⟨.hbm, 328, rfl⟩
abbrev main_call13_v2 : Ref sig .tc := ⟨.hbm, 329, rfl⟩
abbrev main_call13_v3 : Ref sig .tc := ⟨.hbm, 330, rfl⟩
abbrev main_call13_v4 : Ref sig .tc := ⟨.hbm, 331, rfl⟩
abbrev main_v171 : Ref sig .tc := ⟨.hbm, 332, rfl⟩
abbrev main_c_58 : Ref sig .tc := ⟨.hbm, 333, rfl⟩
abbrev main_c_59 : Ref sig .tc := ⟨.hbm, 334, rfl⟩
abbrev main_call14_v0 : Ref sig .tc := ⟨.hbm, 335, rfl⟩
abbrev main_call14_v1 : Ref sig .tc := ⟨.hbm, 336, rfl⟩
abbrev main_call14_v2 : Ref sig .tc := ⟨.hbm, 337, rfl⟩
abbrev main_call14_v3 : Ref sig .tc := ⟨.hbm, 338, rfl⟩
abbrev main_call14_v4 : Ref sig .tc := ⟨.hbm, 339, rfl⟩
abbrev main_v172 : Ref sig .tc := ⟨.hbm, 340, rfl⟩
abbrev main_c_60 : Ref sig .tc := ⟨.hbm, 341, rfl⟩
abbrev main_v173 : Ref sig .tc := ⟨.hbm, 342, rfl⟩
abbrev main_v174 : Ref sig .tc := ⟨.hbm, 343, rfl⟩
abbrev main_c_61 : Ref sig .tc := ⟨.hbm, 344, rfl⟩
abbrev main_v175 : Ref sig .tc := ⟨.hbm, 345, rfl⟩
abbrev main_v176 : Ref sig .tc := ⟨.hbm, 346, rfl⟩
abbrev main_v177 : Ref sig .tc := ⟨.hbm, 347, rfl⟩
abbrev main_c_62 : Ref sig .tc := ⟨.hbm, 348, rfl⟩
abbrev main_v178 : Ref sig .tc := ⟨.hbm, 349, rfl⟩
abbrev main_v179 : Ref sig .tc := ⟨.hbm, 350, rfl⟩
abbrev main_c_63 : Ref sig .tc := ⟨.hbm, 351, rfl⟩
abbrev main_v180 : Ref sig .tc := ⟨.hbm, 352, rfl⟩
abbrev main_v181 : Ref sig .tc := ⟨.hbm, 353, rfl⟩
abbrev main_v182 : Ref sig .tc := ⟨.hbm, 354, rfl⟩
abbrev main_v183 : Ref sig .tc := ⟨.hbm, 355, rfl⟩
abbrev main_v184 : Ref sig .tc := ⟨.hbm, 356, rfl⟩
abbrev main_v185 : Ref sig .tc := ⟨.hbm, 357, rfl⟩
abbrev main_v186 : Ref sig .tc := ⟨.hbm, 358, rfl⟩
abbrev main_v187 : Ref sig .tc := ⟨.hbm, 359, rfl⟩
abbrev main_v188 : Ref sig .tc := ⟨.hbm, 360, rfl⟩
abbrev main_v189 : Ref sig .tc := ⟨.hbm, 361, rfl⟩
abbrev main_cst_64 : Ref sig .tc := ⟨.hbm, 362, rfl⟩
abbrev main_v190 : Ref sig .tc := ⟨.hbm, 363, rfl⟩
abbrev main_v191 : Ref sig .tc := ⟨.hbm, 364, rfl⟩
abbrev main_v192 : Ref sig .tc := ⟨.hbm, 365, rfl⟩
abbrev main_cst_65 : Ref sig .tc := ⟨.hbm, 366, rfl⟩
abbrev main_v193 : Ref sig .tc := ⟨.hbm, 367, rfl⟩
abbrev main_v194 : Ref sig .tc := ⟨.hbm, 368, rfl⟩
abbrev main_v195 : Ref sig .tc := ⟨.hbm, 369, rfl⟩
abbrev main_c_66 : Ref sig .tc := ⟨.hbm, 370, rfl⟩
abbrev main_v196 : Ref sig .tc := ⟨.hbm, 371, rfl⟩
abbrev main_v197 : Ref sig .tc := ⟨.hbm, 372, rfl⟩
abbrev main_c_67 : Ref sig .tc := ⟨.hbm, 373, rfl⟩
abbrev main_v198 : Ref sig .tc := ⟨.hbm, 374, rfl⟩
abbrev main_v199 : Ref sig .tc := ⟨.hbm, 375, rfl⟩
abbrev main_c_68 : Ref sig .tc := ⟨.hbm, 376, rfl⟩
abbrev main_v200 : Ref sig .tc := ⟨.hbm, 377, rfl⟩
abbrev main_v201 : Ref sig .tc := ⟨.hbm, 378, rfl⟩
abbrev main_c_69 : Ref sig .tc := ⟨.hbm, 379, rfl⟩
abbrev main_v202 : Ref sig .tc := ⟨.hbm, 380, rfl⟩
abbrev main_v203 : Ref sig .tc := ⟨.hbm, 381, rfl⟩
abbrev main_v204 : Ref sig .tc := ⟨.hbm, 382, rfl⟩
abbrev main_c_70 : Ref sig .tc := ⟨.hbm, 383, rfl⟩
abbrev main_v205 : Ref sig .tc := ⟨.hbm, 384, rfl⟩
abbrev main_v206 : Ref sig .tc := ⟨.hbm, 385, rfl⟩
abbrev main_v207 : Ref sig .tc := ⟨.hbm, 386, rfl⟩
abbrev main_c_71 : Ref sig .tc := ⟨.hbm, 387, rfl⟩
abbrev main_v208 : Ref sig .tc := ⟨.hbm, 388, rfl⟩
abbrev main_v209 : Ref sig .tc := ⟨.hbm, 389, rfl⟩
abbrev main_v210 : Ref sig .tc := ⟨.hbm, 390, rfl⟩
abbrev main_c_72 : Ref sig .tc := ⟨.hbm, 391, rfl⟩
abbrev main_c_73 : Ref sig .tc := ⟨.hbm, 392, rfl⟩
abbrev main_call15_v0 : Ref sig .tc := ⟨.hbm, 393, rfl⟩
abbrev main_call15_v1 : Ref sig .tc := ⟨.hbm, 394, rfl⟩
abbrev main_call15_v2 : Ref sig .tc := ⟨.hbm, 395, rfl⟩
abbrev main_call15_v3 : Ref sig .tc := ⟨.hbm, 396, rfl⟩
abbrev main_call15_v4 : Ref sig .tc := ⟨.hbm, 397, rfl⟩
abbrev main_v211 : Ref sig .tc := ⟨.hbm, 398, rfl⟩
abbrev main_c_74 : Ref sig .tc := ⟨.hbm, 399, rfl⟩
abbrev main_c_75 : Ref sig .tc := ⟨.hbm, 400, rfl⟩
abbrev main_call16_v0 : Ref sig .tc := ⟨.hbm, 401, rfl⟩
abbrev main_call16_v1 : Ref sig .tc := ⟨.hbm, 402, rfl⟩
abbrev main_call16_v2 : Ref sig .tc := ⟨.hbm, 403, rfl⟩
abbrev main_call16_v3 : Ref sig .tc := ⟨.hbm, 404, rfl⟩
abbrev main_call16_v4 : Ref sig .tc := ⟨.hbm, 405, rfl⟩
abbrev main_v212 : Ref sig .tc := ⟨.hbm, 406, rfl⟩
abbrev main_c_76 : Ref sig .tc := ⟨.hbm, 407, rfl⟩
abbrev main_v213 : Ref sig .tc := ⟨.hbm, 408, rfl⟩
abbrev main_v214 : Ref sig .tc := ⟨.hbm, 409, rfl⟩
abbrev main_c_77 : Ref sig .tc := ⟨.hbm, 410, rfl⟩
abbrev main_v215 : Ref sig .tc := ⟨.hbm, 411, rfl⟩
abbrev main_v216 : Ref sig .tc := ⟨.hbm, 412, rfl⟩
abbrev main_v217 : Ref sig .tc := ⟨.hbm, 413, rfl⟩
abbrev main_c_78 : Ref sig .tc := ⟨.hbm, 414, rfl⟩
abbrev main_v218 : Ref sig .tc := ⟨.hbm, 415, rfl⟩
abbrev main_v219 : Ref sig .tc := ⟨.hbm, 416, rfl⟩
abbrev main_c_79 : Ref sig .tc := ⟨.hbm, 417, rfl⟩
abbrev main_v220 : Ref sig .tc := ⟨.hbm, 418, rfl⟩
abbrev main_v221 : Ref sig .tc := ⟨.hbm, 419, rfl⟩
abbrev main_v222 : Ref sig .tc := ⟨.hbm, 420, rfl⟩
abbrev main_v223 : Ref sig .tc := ⟨.hbm, 421, rfl⟩
abbrev main_v224 : Ref sig .tc := ⟨.hbm, 422, rfl⟩
abbrev main_v225 : Ref sig .tc := ⟨.hbm, 423, rfl⟩
abbrev main_v226 : Ref sig .tc := ⟨.hbm, 424, rfl⟩
abbrev main_v227 : Ref sig .tc := ⟨.hbm, 425, rfl⟩
abbrev main_v228 : Ref sig .tc := ⟨.hbm, 426, rfl⟩
abbrev main_v229 : Ref sig .tc := ⟨.hbm, 427, rfl⟩
abbrev main_v230 : Ref sig .tc := ⟨.hbm, 428, rfl⟩
abbrev main_cst_80 : Ref sig .tc := ⟨.hbm, 429, rfl⟩
abbrev main_v231 : Ref sig .tc := ⟨.hbm, 430, rfl⟩
abbrev main_v232 : Ref sig .tc := ⟨.hbm, 431, rfl⟩
abbrev main_v233 : Ref sig .tc := ⟨.hbm, 432, rfl⟩
abbrev main_v234 : Ref sig .tc := ⟨.hbm, 433, rfl⟩
abbrev main_c_81 : Ref sig .tc := ⟨.hbm, 434, rfl⟩
abbrev main_v235 : Ref sig .tc := ⟨.hbm, 435, rfl⟩
abbrev main_v236 : Ref sig .tc := ⟨.hbm, 436, rfl⟩
abbrev main_c_82 : Ref sig .tc := ⟨.hbm, 437, rfl⟩
abbrev main_v237 : Ref sig .tc := ⟨.hbm, 438, rfl⟩
abbrev main_v238 : Ref sig .tc := ⟨.hbm, 439, rfl⟩
abbrev main_c_83 : Ref sig .tc := ⟨.hbm, 440, rfl⟩
abbrev main_v239 : Ref sig .tc := ⟨.hbm, 441, rfl⟩
abbrev main_v240 : Ref sig .tc := ⟨.hbm, 442, rfl⟩
abbrev main_c_84 : Ref sig .tc := ⟨.hbm, 443, rfl⟩
abbrev main_v241 : Ref sig .tc := ⟨.hbm, 444, rfl⟩
abbrev main_v242 : Ref sig .tc := ⟨.hbm, 445, rfl⟩
abbrev main_v243 : Ref sig .tc := ⟨.hbm, 446, rfl⟩
abbrev main_c_85 : Ref sig .tc := ⟨.hbm, 447, rfl⟩
abbrev main_v244 : Ref sig .tc := ⟨.hbm, 448, rfl⟩
abbrev main_v245 : Ref sig .tc := ⟨.hbm, 449, rfl⟩
abbrev main_v246 : Ref sig .tc := ⟨.hbm, 450, rfl⟩
abbrev main_c_86 : Ref sig .tc := ⟨.hbm, 451, rfl⟩
abbrev main_v247 : Ref sig .tc := ⟨.hbm, 452, rfl⟩
abbrev main_v248 : Ref sig .tc := ⟨.hbm, 453, rfl⟩
abbrev main_v249 : Ref sig .tc := ⟨.hbm, 454, rfl⟩
abbrev main_c_87 : Ref sig .tc := ⟨.hbm, 455, rfl⟩
abbrev main_c_88 : Ref sig .tc := ⟨.hbm, 456, rfl⟩
abbrev main_call17_v0 : Ref sig .tc := ⟨.hbm, 457, rfl⟩
abbrev main_call17_v1 : Ref sig .tc := ⟨.hbm, 458, rfl⟩
abbrev main_call17_v2 : Ref sig .tc := ⟨.hbm, 459, rfl⟩
abbrev main_call17_v3 : Ref sig .tc := ⟨.hbm, 460, rfl⟩
abbrev main_call17_v4 : Ref sig .tc := ⟨.hbm, 461, rfl⟩
abbrev main_v250 : Ref sig .tc := ⟨.hbm, 462, rfl⟩
abbrev main_c_89 : Ref sig .tc := ⟨.hbm, 463, rfl⟩
abbrev main_c_90 : Ref sig .tc := ⟨.hbm, 464, rfl⟩
abbrev main_call18_v0 : Ref sig .tc := ⟨.hbm, 465, rfl⟩
abbrev main_call18_v1 : Ref sig .tc := ⟨.hbm, 466, rfl⟩
abbrev main_call18_v2 : Ref sig .tc := ⟨.hbm, 467, rfl⟩
abbrev main_call18_v3 : Ref sig .tc := ⟨.hbm, 468, rfl⟩
abbrev main_call18_v4 : Ref sig .tc := ⟨.hbm, 469, rfl⟩
abbrev main_v251 : Ref sig .tc := ⟨.hbm, 470, rfl⟩
abbrev main_c_91 : Ref sig .tc := ⟨.hbm, 471, rfl⟩
abbrev main_v252 : Ref sig .tc := ⟨.hbm, 472, rfl⟩
abbrev main_v253 : Ref sig .tc := ⟨.hbm, 473, rfl⟩
abbrev main_c_92 : Ref sig .tc := ⟨.hbm, 474, rfl⟩
abbrev main_v254 : Ref sig .tc := ⟨.hbm, 475, rfl⟩
abbrev main_v255 : Ref sig .tc := ⟨.hbm, 476, rfl⟩
abbrev main_v256 : Ref sig .tc := ⟨.hbm, 477, rfl⟩
abbrev main_c_93 : Ref sig .tc := ⟨.hbm, 478, rfl⟩
abbrev main_v257 : Ref sig .tc := ⟨.hbm, 479, rfl⟩
abbrev main_v258 : Ref sig .tc := ⟨.hbm, 480, rfl⟩
abbrev main_c_94 : Ref sig .tc := ⟨.hbm, 481, rfl⟩
abbrev main_v259 : Ref sig .tc := ⟨.hbm, 482, rfl⟩
abbrev main_v260 : Ref sig .tc := ⟨.hbm, 483, rfl⟩
abbrev main_v261 : Ref sig .tc := ⟨.hbm, 484, rfl⟩
abbrev main_v262 : Ref sig .tc := ⟨.hbm, 485, rfl⟩
abbrev main_v263 : Ref sig .tc := ⟨.hbm, 486, rfl⟩
abbrev main_v264 : Ref sig .tc := ⟨.hbm, 487, rfl⟩
abbrev main_v265 : Ref sig .tc := ⟨.hbm, 488, rfl⟩
abbrev main_v266 : Ref sig .tc := ⟨.hbm, 489, rfl⟩
abbrev main_v267 : Ref sig .tc := ⟨.hbm, 490, rfl⟩
abbrev main_v268 : Ref sig .tc := ⟨.hbm, 491, rfl⟩
abbrev main_cst_95 : Ref sig .tc := ⟨.hbm, 492, rfl⟩
abbrev main_v269 : Ref sig .tc := ⟨.hbm, 493, rfl⟩
abbrev main_v270 : Ref sig .tc := ⟨.hbm, 494, rfl⟩
abbrev main_v271 : Ref sig .tc := ⟨.hbm, 495, rfl⟩
abbrev main_v272 : Ref sig .tc := ⟨.hbm, 496, rfl⟩
abbrev main_v273 : Ref sig .tc := ⟨.hbm, 497, rfl⟩
abbrev main_c_96 : Ref sig .tc := ⟨.hbm, 498, rfl⟩
abbrev main_v274 : Ref sig .tc := ⟨.hbm, 499, rfl⟩
abbrev main_v275 : Ref sig .tc := ⟨.hbm, 500, rfl⟩
abbrev main_c_97 : Ref sig .tc := ⟨.hbm, 501, rfl⟩
abbrev main_v276 : Ref sig .tc := ⟨.hbm, 502, rfl⟩
abbrev main_v277 : Ref sig .tc := ⟨.hbm, 503, rfl⟩
abbrev main_c_98 : Ref sig .tc := ⟨.hbm, 504, rfl⟩
abbrev main_v278 : Ref sig .tc := ⟨.hbm, 505, rfl⟩
abbrev main_v279 : Ref sig .tc := ⟨.hbm, 506, rfl⟩
abbrev main_c_99 : Ref sig .tc := ⟨.hbm, 507, rfl⟩
abbrev main_v280 : Ref sig .tc := ⟨.hbm, 508, rfl⟩
abbrev main_v281 : Ref sig .tc := ⟨.hbm, 509, rfl⟩
abbrev main_v282 : Ref sig .tc := ⟨.hbm, 510, rfl⟩
abbrev main_c_100 : Ref sig .tc := ⟨.hbm, 511, rfl⟩
abbrev main_v283 : Ref sig .tc := ⟨.hbm, 512, rfl⟩
abbrev main_v284 : Ref sig .tc := ⟨.hbm, 513, rfl⟩
abbrev main_v285 : Ref sig .tc := ⟨.hbm, 514, rfl⟩
abbrev main_c_101 : Ref sig .tc := ⟨.hbm, 515, rfl⟩
abbrev main_v286 : Ref sig .tc := ⟨.hbm, 516, rfl⟩
abbrev main_v287 : Ref sig .tc := ⟨.hbm, 517, rfl⟩
abbrev main_v288 : Ref sig .tc := ⟨.hbm, 518, rfl⟩
abbrev main_c_102 : Ref sig .tc := ⟨.hbm, 519, rfl⟩
abbrev main_c_103 : Ref sig .tc := ⟨.hbm, 520, rfl⟩
abbrev main_call19_v0 : Ref sig .tc := ⟨.hbm, 521, rfl⟩
abbrev main_call19_v1 : Ref sig .tc := ⟨.hbm, 522, rfl⟩
abbrev main_call19_v2 : Ref sig .tc := ⟨.hbm, 523, rfl⟩
abbrev main_call19_v3 : Ref sig .tc := ⟨.hbm, 524, rfl⟩
abbrev main_call19_v4 : Ref sig .tc := ⟨.hbm, 525, rfl⟩
abbrev main_v289 : Ref sig .tc := ⟨.hbm, 526, rfl⟩
abbrev main_c_104 : Ref sig .tc := ⟨.hbm, 527, rfl⟩
abbrev main_c_105 : Ref sig .tc := ⟨.hbm, 528, rfl⟩
abbrev main_call20_v0 : Ref sig .tc := ⟨.hbm, 529, rfl⟩
abbrev main_call20_v1 : Ref sig .tc := ⟨.hbm, 530, rfl⟩
abbrev main_call20_v2 : Ref sig .tc := ⟨.hbm, 531, rfl⟩
abbrev main_call20_v3 : Ref sig .tc := ⟨.hbm, 532, rfl⟩
abbrev main_call20_v4 : Ref sig .tc := ⟨.hbm, 533, rfl⟩
abbrev main_v290 : Ref sig .tc := ⟨.hbm, 534, rfl⟩
abbrev main_c_106 : Ref sig .tc := ⟨.hbm, 535, rfl⟩
abbrev main_v291 : Ref sig .tc := ⟨.hbm, 536, rfl⟩
abbrev main_v292 : Ref sig .tc := ⟨.hbm, 537, rfl⟩
abbrev main_c_107 : Ref sig .tc := ⟨.hbm, 538, rfl⟩
abbrev main_v293 : Ref sig .tc := ⟨.hbm, 539, rfl⟩
abbrev main_v294 : Ref sig .tc := ⟨.hbm, 540, rfl⟩
abbrev main_v295 : Ref sig .tc := ⟨.hbm, 541, rfl⟩
abbrev main_c_108 : Ref sig .tc := ⟨.hbm, 542, rfl⟩
abbrev main_v296 : Ref sig .tc := ⟨.hbm, 543, rfl⟩
abbrev main_v297 : Ref sig .tc := ⟨.hbm, 544, rfl⟩
abbrev main_c_109 : Ref sig .tc := ⟨.hbm, 545, rfl⟩
abbrev main_v298 : Ref sig .tc := ⟨.hbm, 546, rfl⟩
abbrev main_v299 : Ref sig .tc := ⟨.hbm, 547, rfl⟩
abbrev main_v300 : Ref sig .tc := ⟨.hbm, 548, rfl⟩
abbrev main_v301 : Ref sig .tc := ⟨.hbm, 549, rfl⟩
abbrev main_v302 : Ref sig .tc := ⟨.hbm, 550, rfl⟩
abbrev main_v303 : Ref sig .tc := ⟨.hbm, 551, rfl⟩
abbrev main_v304 : Ref sig .tc := ⟨.hbm, 552, rfl⟩
abbrev main_v305 : Ref sig .tc := ⟨.hbm, 553, rfl⟩
abbrev main_v306 : Ref sig .tc := ⟨.hbm, 554, rfl⟩
abbrev main_v307 : Ref sig .tc := ⟨.hbm, 555, rfl⟩
abbrev main_v308 : Ref sig .tc := ⟨.hbm, 556, rfl⟩
abbrev main_v309 : Ref sig .tc := ⟨.hbm, 557, rfl⟩
abbrev main_v310 : Ref sig .tc := ⟨.hbm, 558, rfl⟩
abbrev main_v311 : Ref sig .tc := ⟨.hbm, 559, rfl⟩
abbrev main_v312 : Ref sig .tc := ⟨.hbm, 560, rfl⟩
abbrev main_v313 : Ref sig .tc := ⟨.hbm, 561, rfl⟩
abbrev main_c_110 : Ref sig .tc := ⟨.hbm, 562, rfl⟩
abbrev main_v314 : Ref sig .tc := ⟨.hbm, 563, rfl⟩
abbrev main_v315 : Ref sig .tc := ⟨.hbm, 564, rfl⟩
abbrev main_c_111 : Ref sig .tc := ⟨.hbm, 565, rfl⟩
abbrev main_v316 : Ref sig .tc := ⟨.hbm, 566, rfl⟩
abbrev main_cst_112 : Ref sig .tc := ⟨.hbm, 567, rfl⟩
abbrev main_call21_v0 : Ref sig .tc := ⟨.hbm, 568, rfl⟩
abbrev main_call21_v1 : Ref sig .tc := ⟨.hbm, 569, rfl⟩
abbrev main_v317 : Ref sig .tc := ⟨.hbm, 570, rfl⟩
abbrev main_v318 : Ref sig .tc := ⟨.hbm, 571, rfl⟩
abbrev main_call22_v0 : Ref sig .tc := ⟨.hbm, 572, rfl⟩
abbrev main_call22_v1_0 : Ref sig .tc := ⟨.hbm, 573, rfl⟩
abbrev main_v319 : Ref sig .tc := ⟨.hbm, 574, rfl⟩
abbrev main_v320 : Ref sig .tc := ⟨.hbm, 575, rfl⟩
abbrev main_v321 : Ref sig .tc := ⟨.hbm, 576, rfl⟩
abbrev main_call23_c : Ref sig .tc := ⟨.hbm, 577, rfl⟩
abbrev main_call23_v0 : Ref sig .tc := ⟨.hbm, 578, rfl⟩
abbrev main_call23_v1 : Ref sig .tc := ⟨.hbm, 579, rfl⟩
abbrev main_call23_c_0 : Ref sig .tc := ⟨.hbm, 580, rfl⟩
abbrev main_call23_v2 : Ref sig .tc := ⟨.hbm, 581, rfl⟩
abbrev main_call23_v3 : Ref sig .tc := ⟨.hbm, 582, rfl⟩
abbrev main_call23_v4 : Ref sig .tc := ⟨.hbm, 583, rfl⟩
abbrev main_call23_v5 : Ref sig .tc := ⟨.hbm, 584, rfl⟩
abbrev main_call23_c_1 : Ref sig .tc := ⟨.hbm, 585, rfl⟩
abbrev main_call23_c_2 : Ref sig .tc := ⟨.hbm, 586, rfl⟩
abbrev main_call23_v6 : Ref sig .tc := ⟨.hbm, 587, rfl⟩
abbrev main_call23_v7 : Ref sig .tc := ⟨.hbm, 588, rfl⟩
abbrev main_call23_v8 : Ref sig .tc := ⟨.hbm, 589, rfl⟩
abbrev main_call23_v9 : Ref sig .tc := ⟨.hbm, 590, rfl⟩
abbrev main_call23_v10 : Ref sig .tc := ⟨.hbm, 591, rfl⟩
abbrev main_call23_v11 : Ref sig .tc := ⟨.hbm, 592, rfl⟩
abbrev main_call23_c_3 : Ref sig .tc := ⟨.hbm, 593, rfl⟩
abbrev main_call23_v12 : Ref sig .tc := ⟨.hbm, 594, rfl⟩
abbrev main_call23_v13 : Ref sig .tc := ⟨.hbm, 595, rfl⟩
abbrev main_call23_v14 : Ref sig .tc := ⟨.hbm, 596, rfl⟩
abbrev main_call23_c_4 : Ref sig .tc := ⟨.hbm, 597, rfl⟩
abbrev main_call23_v15 : Ref sig .tc := ⟨.hbm, 598, rfl⟩
abbrev main_v322 : Ref sig .tc := ⟨.hbm, 599, rfl⟩
abbrev main_v323 : Ref sig .tc := ⟨.hbm, 600, rfl⟩
abbrev main_v324 : Ref sig .tc := ⟨.hbm, 601, rfl⟩
abbrev main_v325 : Ref sig .tc := ⟨.hbm, 602, rfl⟩
abbrev main_call24_c : Ref sig .tc := ⟨.hbm, 603, rfl⟩
abbrev main_call24_v0 : Ref sig .tc := ⟨.hbm, 604, rfl⟩
abbrev main_call24_v1 : Ref sig .tc := ⟨.hbm, 605, rfl⟩
abbrev main_call24_c_0 : Ref sig .tc := ⟨.hbm, 606, rfl⟩
abbrev main_call24_v2 : Ref sig .tc := ⟨.hbm, 607, rfl⟩
abbrev main_call24_v3 : Ref sig .tc := ⟨.hbm, 608, rfl⟩
abbrev main_call24_v4 : Ref sig .tc := ⟨.hbm, 609, rfl⟩
abbrev main_call24_v5 : Ref sig .tc := ⟨.hbm, 610, rfl⟩
abbrev main_call24_c_1 : Ref sig .tc := ⟨.hbm, 611, rfl⟩
abbrev main_call24_c_2 : Ref sig .tc := ⟨.hbm, 612, rfl⟩
abbrev main_call24_v6 : Ref sig .tc := ⟨.hbm, 613, rfl⟩
abbrev main_call24_v7 : Ref sig .tc := ⟨.hbm, 614, rfl⟩
abbrev main_call24_v8 : Ref sig .tc := ⟨.hbm, 615, rfl⟩
abbrev main_call24_v9 : Ref sig .tc := ⟨.hbm, 616, rfl⟩
abbrev main_call24_v10 : Ref sig .tc := ⟨.hbm, 617, rfl⟩
abbrev main_call24_v11 : Ref sig .tc := ⟨.hbm, 618, rfl⟩
abbrev main_call24_c_3 : Ref sig .tc := ⟨.hbm, 619, rfl⟩
abbrev main_call24_v12 : Ref sig .tc := ⟨.hbm, 620, rfl⟩
abbrev main_call24_v13 : Ref sig .tc := ⟨.hbm, 621, rfl⟩
abbrev main_call24_v14 : Ref sig .tc := ⟨.hbm, 622, rfl⟩
abbrev main_call24_c_4 : Ref sig .tc := ⟨.hbm, 623, rfl⟩
abbrev main_call24_v15 : Ref sig .tc := ⟨.hbm, 624, rfl⟩
abbrev main_v326 : Ref sig .tc := ⟨.hbm, 625, rfl⟩
abbrev main_v327 : Ref sig .tc := ⟨.hbm, 626, rfl⟩
abbrev main_v328 : Ref sig .tc := ⟨.hbm, 627, rfl⟩
abbrev main_v329 : Ref sig .tc := ⟨.hbm, 628, rfl⟩
abbrev main_v330 : Ref sig .tc := ⟨.hbm, 629, rfl⟩
abbrev main_v331 : Ref sig .tc := ⟨.hbm, 630, rfl⟩
abbrev main_call25_c : Ref sig .tc := ⟨.hbm, 631, rfl⟩
abbrev main_call25_v0 : Ref sig .tc := ⟨.hbm, 632, rfl⟩
abbrev main_call25_v1 : Ref sig .tc := ⟨.hbm, 633, rfl⟩
abbrev main_call25_c_0 : Ref sig .tc := ⟨.hbm, 634, rfl⟩
abbrev main_call25_v2 : Ref sig .tc := ⟨.hbm, 635, rfl⟩
abbrev main_call25_v3 : Ref sig .tc := ⟨.hbm, 636, rfl⟩
abbrev main_call25_v4 : Ref sig .tc := ⟨.hbm, 637, rfl⟩
abbrev main_call25_v5 : Ref sig .tc := ⟨.hbm, 638, rfl⟩
abbrev main_call25_c_1 : Ref sig .tc := ⟨.hbm, 639, rfl⟩
abbrev main_call25_c_2 : Ref sig .tc := ⟨.hbm, 640, rfl⟩
abbrev main_call25_v6 : Ref sig .tc := ⟨.hbm, 641, rfl⟩
abbrev main_call25_v7 : Ref sig .tc := ⟨.hbm, 642, rfl⟩
abbrev main_call25_v8 : Ref sig .tc := ⟨.hbm, 643, rfl⟩
abbrev main_call25_v9 : Ref sig .tc := ⟨.hbm, 644, rfl⟩
abbrev main_call25_v10 : Ref sig .tc := ⟨.hbm, 645, rfl⟩
abbrev main_call25_v11 : Ref sig .tc := ⟨.hbm, 646, rfl⟩
abbrev main_call25_c_3 : Ref sig .tc := ⟨.hbm, 647, rfl⟩
abbrev main_call25_v12 : Ref sig .tc := ⟨.hbm, 648, rfl⟩
abbrev main_call25_v13 : Ref sig .tc := ⟨.hbm, 649, rfl⟩
abbrev main_call25_v14 : Ref sig .tc := ⟨.hbm, 650, rfl⟩
abbrev main_call25_cst : Ref sig .tc := ⟨.hbm, 651, rfl⟩
abbrev main_call25_v15 : Ref sig .tc := ⟨.hbm, 652, rfl⟩
abbrev main_v332 : Ref sig .tc := ⟨.hbm, 653, rfl⟩
abbrev main_v333 : Ref sig .tc := ⟨.hbm, 654, rfl⟩
abbrev main_cst_113 : Ref sig .tc := ⟨.hbm, 655, rfl⟩
abbrev main_v334 : Ref sig .tc := ⟨.hbm, 656, rfl⟩
abbrev main_v335 : Ref sig .tc := ⟨.hbm, 657, rfl⟩
abbrev main_v336 : Ref sig .tc := ⟨.hbm, 658, rfl⟩
abbrev main_v337 : Ref sig .tc := ⟨.hbm, 659, rfl⟩
abbrev main_v338 : Ref sig .tc := ⟨.hbm, 660, rfl⟩
abbrev main_cst_114 : Ref sig .tc := ⟨.hbm, 661, rfl⟩
abbrev main_v339 : Ref sig .tc := ⟨.hbm, 662, rfl⟩
abbrev main_v340 : Ref sig .tc := ⟨.hbm, 663, rfl⟩
abbrev main_v341 : Ref sig .tc := ⟨.hbm, 664, rfl⟩
abbrev main_v342 : Ref sig .tc := ⟨.hbm, 665, rfl⟩
abbrev main_cst_115 : Ref sig .tc := ⟨.hbm, 666, rfl⟩
abbrev main_v343 : Ref sig .tc := ⟨.hbm, 667, rfl⟩
abbrev main_v344 : Ref sig .tc := ⟨.hbm, 668, rfl⟩
abbrev main_cst_116 : Ref sig .tc := ⟨.hbm, 669, rfl⟩
abbrev main_v345 : Ref sig .tc := ⟨.hbm, 670, rfl⟩
abbrev main_v346 : Ref sig .tc := ⟨.hbm, 671, rfl⟩
abbrev main_cst_117 : Ref sig .tc := ⟨.hbm, 672, rfl⟩
abbrev main_v347 : Ref sig .tc := ⟨.hbm, 673, rfl⟩
abbrev main_v348 : Ref sig .tc := ⟨.hbm, 674, rfl⟩
abbrev main_cst_118 : Ref sig .tc := ⟨.hbm, 675, rfl⟩
abbrev main_v349 : Ref sig .tc := ⟨.hbm, 676, rfl⟩
abbrev main_v350 : Ref sig .tc := ⟨.hbm, 677, rfl⟩
abbrev main_v351 : Ref sig .tc := ⟨.hbm, 678, rfl⟩
abbrev main_v352 : Ref sig .tc := ⟨.hbm, 679, rfl⟩
abbrev main_cst_119 : Ref sig .tc := ⟨.hbm, 680, rfl⟩
abbrev main_v353 : Ref sig .tc := ⟨.hbm, 681, rfl⟩
abbrev main_v354 : Ref sig .tc := ⟨.hbm, 682, rfl⟩
abbrev main_cst_120 : Ref sig .tc := ⟨.hbm, 683, rfl⟩
abbrev main_v355 : Ref sig .tc := ⟨.hbm, 684, rfl⟩
abbrev main_v356 : Ref sig .tc := ⟨.hbm, 685, rfl⟩
abbrev main_cst_121 : Ref sig .tc := ⟨.hbm, 686, rfl⟩
abbrev main_v357 : Ref sig .tc := ⟨.hbm, 687, rfl⟩
abbrev main_v358 : Ref sig .tc := ⟨.hbm, 688, rfl⟩
abbrev main_cst_122 : Ref sig .tc := ⟨.hbm, 689, rfl⟩
abbrev main_v359 : Ref sig .tc := ⟨.hbm, 690, rfl⟩
abbrev main_v360 : Ref sig .tc := ⟨.hbm, 691, rfl⟩
abbrev main_v361 : Ref sig .tc := ⟨.hbm, 692, rfl⟩
abbrev main_v362 : Ref sig .tc := ⟨.hbm, 693, rfl⟩
abbrev main_v363 : Ref sig .tc := ⟨.hbm, 694, rfl⟩
abbrev main_v364 : Ref sig .tc := ⟨.hbm, 695, rfl⟩
abbrev main_v365 : Ref sig .tc := ⟨.hbm, 696, rfl⟩
abbrev main_v366 : Ref sig .tc := ⟨.hbm, 697, rfl⟩
abbrev main_v367 : Ref sig .tc := ⟨.hbm, 698, rfl⟩
abbrev main_c_123 : Ref sig .tc := ⟨.hbm, 699, rfl⟩
abbrev main_v368 : Ref sig .tc := ⟨.hbm, 700, rfl⟩
abbrev main_v369 : Ref sig .tc := ⟨.hbm, 701, rfl⟩
abbrev main_v370 : Ref sig .tc := ⟨.hbm, 702, rfl⟩
abbrev main_cst_124 : Ref sig .tc := ⟨.hbm, 703, rfl⟩
abbrev main_v371 : Ref sig .tc := ⟨.hbm, 704, rfl⟩
abbrev main_v372 : Ref sig .tc := ⟨.hbm, 705, rfl⟩
abbrev main_cst_125 : Ref sig .tc := ⟨.hbm, 706, rfl⟩
abbrev main_v373 : Ref sig .tc := ⟨.hbm, 707, rfl⟩
abbrev main_v374 : Ref sig .tc := ⟨.hbm, 708, rfl⟩
abbrev main_cst_126 : Ref sig .tc := ⟨.hbm, 709, rfl⟩
abbrev main_v375 : Ref sig .tc := ⟨.hbm, 710, rfl⟩
abbrev main_v376 : Ref sig .tc := ⟨.hbm, 711, rfl⟩
abbrev main_v377 : Ref sig .tc := ⟨.hbm, 712, rfl⟩
abbrev main_v378 : Ref sig .tc := ⟨.hbm, 713, rfl⟩
abbrev main_cst_127 : Ref sig .tc := ⟨.hbm, 714, rfl⟩
abbrev main_v379 : Ref sig .tc := ⟨.hbm, 715, rfl⟩
abbrev main_v380 : Ref sig .tc := ⟨.hbm, 716, rfl⟩
abbrev main_v381 : Ref sig .tc := ⟨.hbm, 717, rfl⟩
abbrev main_cst_128 : Ref sig .tc := ⟨.hbm, 718, rfl⟩
abbrev main_v382 : Ref sig .tc := ⟨.hbm, 719, rfl⟩
abbrev main_v383 : Ref sig .tc := ⟨.hbm, 720, rfl⟩
abbrev main_v384 : Ref sig .tc := ⟨.hbm, 721, rfl⟩
abbrev main_cst_129 : Ref sig .tc := ⟨.hbm, 722, rfl⟩
abbrev main_v385 : Ref sig .tc := ⟨.hbm, 723, rfl⟩
abbrev main_v386 : Ref sig .tc := ⟨.hbm, 724, rfl⟩
abbrev main_v387 : Ref sig .tc := ⟨.hbm, 725, rfl⟩
abbrev main_cst_130 : Ref sig .tc := ⟨.hbm, 726, rfl⟩
abbrev main_v388 : Ref sig .tc := ⟨.hbm, 727, rfl⟩
abbrev main_v389 : Ref sig .tc := ⟨.hbm, 728, rfl⟩
abbrev main_v390 : Ref sig .tc := ⟨.hbm, 729, rfl⟩
abbrev main_v391 : Ref sig .tc := ⟨.hbm, 730, rfl⟩
abbrev main_cst_131 : Ref sig .tc := ⟨.hbm, 731, rfl⟩
abbrev main_v392 : Ref sig .tc := ⟨.hbm, 732, rfl⟩
abbrev main_v393 : Ref sig .tc := ⟨.hbm, 733, rfl⟩
abbrev main_v394 : Ref sig .tc := ⟨.hbm, 734, rfl⟩
abbrev main_cst_132 : Ref sig .tc := ⟨.hbm, 735, rfl⟩
abbrev main_v395 : Ref sig .tc := ⟨.hbm, 736, rfl⟩
abbrev main_v396 : Ref sig .tc := ⟨.hbm, 737, rfl⟩
abbrev main_v397 : Ref sig .tc := ⟨.hbm, 738, rfl⟩
abbrev main_cst_133 : Ref sig .tc := ⟨.hbm, 739, rfl⟩
abbrev main_v398 : Ref sig .tc := ⟨.hbm, 740, rfl⟩
abbrev main_v399 : Ref sig .tc := ⟨.hbm, 741, rfl⟩
abbrev main_v400 : Ref sig .tc := ⟨.hbm, 742, rfl⟩
abbrev main_v401 : Ref sig .tc := ⟨.hbm, 743, rfl⟩
abbrev main_cst_134 : Ref sig .tc := ⟨.hbm, 744, rfl⟩
abbrev main_v402 : Ref sig .tc := ⟨.hbm, 745, rfl⟩
abbrev main_v403 : Ref sig .tc := ⟨.hbm, 746, rfl⟩
abbrev main_v404 : Ref sig .tc := ⟨.hbm, 747, rfl⟩
abbrev main_cst_135 : Ref sig .tc := ⟨.hbm, 748, rfl⟩
abbrev main_v405 : Ref sig .tc := ⟨.hbm, 749, rfl⟩
abbrev main_v406 : Ref sig .tc := ⟨.hbm, 750, rfl⟩
abbrev main_v407 : Ref sig .tc := ⟨.hbm, 751, rfl⟩
abbrev main_cst_136 : Ref sig .tc := ⟨.hbm, 752, rfl⟩
abbrev main_v408 : Ref sig .tc := ⟨.hbm, 753, rfl⟩
abbrev main_v409 : Ref sig .tc := ⟨.hbm, 754, rfl⟩
abbrev main_v410 : Ref sig .tc := ⟨.hbm, 755, rfl⟩
abbrev main_v411 : Ref sig .tc := ⟨.hbm, 756, rfl⟩
abbrev main_cst_137 : Ref sig .tc := ⟨.hbm, 757, rfl⟩
abbrev main_v412 : Ref sig .tc := ⟨.hbm, 758, rfl⟩
abbrev main_v413 : Ref sig .tc := ⟨.hbm, 759, rfl⟩
abbrev main_v414 : Ref sig .tc := ⟨.hbm, 760, rfl⟩
abbrev main_cst_138 : Ref sig .tc := ⟨.hbm, 761, rfl⟩
abbrev main_v415 : Ref sig .tc := ⟨.hbm, 762, rfl⟩
abbrev main_v416 : Ref sig .tc := ⟨.hbm, 763, rfl⟩
abbrev main_v417 : Ref sig .tc := ⟨.hbm, 764, rfl⟩
abbrev main_cst_139 : Ref sig .tc := ⟨.hbm, 765, rfl⟩
abbrev main_v418 : Ref sig .tc := ⟨.hbm, 766, rfl⟩
abbrev main_v419 : Ref sig .tc := ⟨.hbm, 767, rfl⟩
abbrev main_v420 : Ref sig .tc := ⟨.hbm, 768, rfl⟩
abbrev main_cst_140 : Ref sig .tc := ⟨.hbm, 769, rfl⟩
abbrev main_v421 : Ref sig .tc := ⟨.hbm, 770, rfl⟩
abbrev main_v422 : Ref sig .tc := ⟨.hbm, 771, rfl⟩
abbrev main_v423 : Ref sig .tc := ⟨.hbm, 772, rfl⟩
abbrev main_v424 : Ref sig .tc := ⟨.hbm, 773, rfl⟩
abbrev main_v425 : Ref sig .tc := ⟨.hbm, 774, rfl⟩
abbrev main_v426 : Ref sig .tc := ⟨.hbm, 775, rfl⟩
abbrev main_v427 : Ref sig .tc := ⟨.hbm, 776, rfl⟩
abbrev main_v428 : Ref sig .tc := ⟨.hbm, 777, rfl⟩
abbrev main_cst_141 : Ref sig .tc := ⟨.hbm, 778, rfl⟩
abbrev main_v429 : Ref sig .tc := ⟨.hbm, 779, rfl⟩
abbrev main_v430 : Ref sig .tc := ⟨.hbm, 780, rfl⟩
abbrev main_cst_142 : Ref sig .tc := ⟨.hbm, 781, rfl⟩
abbrev main_v431 : Ref sig .tc := ⟨.hbm, 782, rfl⟩
abbrev main_v432 : Ref sig .tc := ⟨.hbm, 783, rfl⟩
abbrev main_cst_143 : Ref sig .tc := ⟨.hbm, 784, rfl⟩
abbrev main_v433 : Ref sig .tc := ⟨.hbm, 785, rfl⟩
abbrev main_v434 : Ref sig .tc := ⟨.hbm, 786, rfl⟩
abbrev main_v435 : Ref sig .tc := ⟨.hbm, 787, rfl⟩
abbrev main_v436 : Ref sig .tc := ⟨.hbm, 788, rfl⟩
abbrev main_cst_144 : Ref sig .tc := ⟨.hbm, 789, rfl⟩
abbrev main_v437 : Ref sig .tc := ⟨.hbm, 790, rfl⟩
abbrev main_v438 : Ref sig .tc := ⟨.hbm, 791, rfl⟩
abbrev main_v439 : Ref sig .tc := ⟨.hbm, 792, rfl⟩
abbrev main_cst_145 : Ref sig .tc := ⟨.hbm, 793, rfl⟩
abbrev main_v440 : Ref sig .tc := ⟨.hbm, 794, rfl⟩
abbrev main_v441 : Ref sig .tc := ⟨.hbm, 795, rfl⟩
abbrev main_v442 : Ref sig .tc := ⟨.hbm, 796, rfl⟩
abbrev main_cst_146 : Ref sig .tc := ⟨.hbm, 797, rfl⟩
abbrev main_v443 : Ref sig .tc := ⟨.hbm, 798, rfl⟩
abbrev main_v444 : Ref sig .tc := ⟨.hbm, 799, rfl⟩
abbrev main_v445 : Ref sig .tc := ⟨.hbm, 800, rfl⟩
abbrev main_cst_147 : Ref sig .tc := ⟨.hbm, 801, rfl⟩
abbrev main_v446 : Ref sig .tc := ⟨.hbm, 802, rfl⟩
abbrev main_v447 : Ref sig .tc := ⟨.hbm, 803, rfl⟩
abbrev main_v448 : Ref sig .tc := ⟨.hbm, 804, rfl⟩
abbrev main_v449 : Ref sig .tc := ⟨.hbm, 805, rfl⟩
abbrev main_cst_148 : Ref sig .tc := ⟨.hbm, 806, rfl⟩
abbrev main_v450 : Ref sig .tc := ⟨.hbm, 807, rfl⟩
abbrev main_v451 : Ref sig .tc := ⟨.hbm, 808, rfl⟩
abbrev main_v452 : Ref sig .tc := ⟨.hbm, 809, rfl⟩
abbrev main_cst_149 : Ref sig .tc := ⟨.hbm, 810, rfl⟩
abbrev main_v453 : Ref sig .tc := ⟨.hbm, 811, rfl⟩
abbrev main_v454 : Ref sig .tc := ⟨.hbm, 812, rfl⟩
abbrev main_v455 : Ref sig .tc := ⟨.hbm, 813, rfl⟩
abbrev main_cst_150 : Ref sig .tc := ⟨.hbm, 814, rfl⟩
abbrev main_v456 : Ref sig .tc := ⟨.hbm, 815, rfl⟩
abbrev main_v457 : Ref sig .tc := ⟨.hbm, 816, rfl⟩
abbrev main_v458 : Ref sig .tc := ⟨.hbm, 817, rfl⟩
abbrev main_v459 : Ref sig .tc := ⟨.hbm, 818, rfl⟩
abbrev main_cst_151 : Ref sig .tc := ⟨.hbm, 819, rfl⟩
abbrev main_v460 : Ref sig .tc := ⟨.hbm, 820, rfl⟩
abbrev main_v461 : Ref sig .tc := ⟨.hbm, 821, rfl⟩
abbrev main_v462 : Ref sig .tc := ⟨.hbm, 822, rfl⟩
abbrev main_cst_152 : Ref sig .tc := ⟨.hbm, 823, rfl⟩
abbrev main_v463 : Ref sig .tc := ⟨.hbm, 824, rfl⟩
abbrev main_v464 : Ref sig .tc := ⟨.hbm, 825, rfl⟩
abbrev main_v465 : Ref sig .tc := ⟨.hbm, 826, rfl⟩
abbrev main_cst_153 : Ref sig .tc := ⟨.hbm, 827, rfl⟩
abbrev main_v466 : Ref sig .tc := ⟨.hbm, 828, rfl⟩
abbrev main_v467 : Ref sig .tc := ⟨.hbm, 829, rfl⟩
abbrev main_v468 : Ref sig .tc := ⟨.hbm, 830, rfl⟩
abbrev main_v469 : Ref sig .tc := ⟨.hbm, 831, rfl⟩
abbrev main_cst_154 : Ref sig .tc := ⟨.hbm, 832, rfl⟩
abbrev main_v470 : Ref sig .tc := ⟨.hbm, 833, rfl⟩
abbrev main_v471 : Ref sig .tc := ⟨.hbm, 834, rfl⟩
abbrev main_v472 : Ref sig .tc := ⟨.hbm, 835, rfl⟩
abbrev main_cst_155 : Ref sig .tc := ⟨.hbm, 836, rfl⟩
abbrev main_v473 : Ref sig .tc := ⟨.hbm, 837, rfl⟩
abbrev main_v474 : Ref sig .tc := ⟨.hbm, 838, rfl⟩
abbrev main_v475 : Ref sig .tc := ⟨.hbm, 839, rfl⟩
abbrev main_cst_156 : Ref sig .tc := ⟨.hbm, 840, rfl⟩
abbrev main_v476 : Ref sig .tc := ⟨.hbm, 841, rfl⟩
abbrev main_v477 : Ref sig .tc := ⟨.hbm, 842, rfl⟩
abbrev main_v478 : Ref sig .tc := ⟨.hbm, 843, rfl⟩
abbrev main_cst_157 : Ref sig .tc := ⟨.hbm, 844, rfl⟩
abbrev main_v479 : Ref sig .tc := ⟨.hbm, 845, rfl⟩
abbrev main_v480 : Ref sig .tc := ⟨.hbm, 846, rfl⟩
abbrev main_v481 : Ref sig .tc := ⟨.hbm, 847, rfl⟩
abbrev main_v482 : Ref sig .tc := ⟨.hbm, 848, rfl⟩
abbrev main_v483 : Ref sig .tc := ⟨.hbm, 849, rfl⟩
abbrev main_v484 : Ref sig .tc := ⟨.hbm, 850, rfl⟩
abbrev main_v485 : Ref sig .tc := ⟨.hbm, 851, rfl⟩
abbrev main_v486 : Ref sig .tc := ⟨.hbm, 852, rfl⟩
abbrev main_v487 : Ref sig .tc := ⟨.hbm, 853, rfl⟩
abbrev main_v488 : Ref sig .tc := ⟨.hbm, 854, rfl⟩
abbrev main_v489 : Ref sig .tc := ⟨.hbm, 855, rfl⟩
abbrev main_v490 : Ref sig .tc := ⟨.hbm, 856, rfl⟩
abbrev main_v491 : Ref sig .tc := ⟨.hbm, 857, rfl⟩
abbrev main_v492 : Ref sig .tc := ⟨.hbm, 858, rfl⟩
abbrev main_v493 : Ref sig .tc := ⟨.hbm, 859, rfl⟩
abbrev main_v494 : Ref sig .tc := ⟨.hbm, 860, rfl⟩
abbrev main_v495 : Ref sig .tc := ⟨.hbm, 861, rfl⟩
abbrev main_v496 : Ref sig .tc := ⟨.hbm, 862, rfl⟩
abbrev main_v497 : Ref sig .tc := ⟨.hbm, 863, rfl⟩
abbrev main_v498 : Ref sig .tc := ⟨.hbm, 864, rfl⟩
abbrev main_c_158 : Ref sig .tc := ⟨.hbm, 865, rfl⟩
abbrev main_v499 : Ref sig .tc := ⟨.hbm, 866, rfl⟩
abbrev main_v500 : Ref sig .tc := ⟨.hbm, 867, rfl⟩
abbrev main_c_159 : Ref sig .tc := ⟨.hbm, 868, rfl⟩
abbrev main_v501 : Ref sig .tc := ⟨.hbm, 869, rfl⟩
abbrev main_v502 : Ref sig .tc := ⟨.hbm, 870, rfl⟩
abbrev main_v503 : Ref sig .tc := ⟨.hbm, 871, rfl⟩
abbrev main_c_160 : Ref sig .tc := ⟨.hbm, 872, rfl⟩
abbrev main_v504 : Ref sig .tc := ⟨.hbm, 873, rfl⟩
abbrev main_v505 : Ref sig .tc := ⟨.hbm, 874, rfl⟩
abbrev main_v506 : Ref sig .tc := ⟨.hbm, 875, rfl⟩
abbrev main_v507 : Ref sig .tc := ⟨.hbm, 876, rfl⟩
abbrev main_v508 : Ref sig .tc := ⟨.hbm, 877, rfl⟩
abbrev main_c_161 : Ref sig .tc := ⟨.hbm, 878, rfl⟩
abbrev main_v509 : Ref sig .tc := ⟨.hbm, 879, rfl⟩
abbrev main_v510 : Ref sig .tc := ⟨.hbm, 880, rfl⟩
abbrev main_v511 : Ref sig .tc := ⟨.hbm, 881, rfl⟩
abbrev main_v512 : Ref sig .tc := ⟨.hbm, 882, rfl⟩
abbrev main_c_162 : Ref sig .tc := ⟨.hbm, 883, rfl⟩
abbrev main_c_163 : Ref sig .tc := ⟨.hbm, 884, rfl⟩
abbrev main_call26_v0 : Ref sig .tc := ⟨.hbm, 885, rfl⟩
abbrev main_call26_v1 : Ref sig .tc := ⟨.hbm, 886, rfl⟩
abbrev main_call26_v2 : Ref sig .tc := ⟨.hbm, 887, rfl⟩
abbrev main_call26_v3 : Ref sig .tc := ⟨.hbm, 888, rfl⟩
abbrev main_call26_v4 : Ref sig .tc := ⟨.hbm, 889, rfl⟩
abbrev main_v513 : Ref sig .tc := ⟨.hbm, 890, rfl⟩
abbrev main_c_164 : Ref sig .tc := ⟨.hbm, 891, rfl⟩
abbrev main_c_165 : Ref sig .tc := ⟨.hbm, 892, rfl⟩
abbrev main_call27_v0 : Ref sig .tc := ⟨.hbm, 893, rfl⟩
abbrev main_call27_v1 : Ref sig .tc := ⟨.hbm, 894, rfl⟩
abbrev main_call27_v2 : Ref sig .tc := ⟨.hbm, 895, rfl⟩
abbrev main_call27_v3 : Ref sig .tc := ⟨.hbm, 896, rfl⟩
abbrev main_call27_v4 : Ref sig .tc := ⟨.hbm, 897, rfl⟩
abbrev main_v514 : Ref sig .tc := ⟨.hbm, 898, rfl⟩
abbrev main_c_166 : Ref sig .tc := ⟨.hbm, 899, rfl⟩
abbrev main_v515 : Ref sig .tc := ⟨.hbm, 900, rfl⟩
abbrev main_v516 : Ref sig .tc := ⟨.hbm, 901, rfl⟩
abbrev main_c_167 : Ref sig .tc := ⟨.hbm, 902, rfl⟩
abbrev main_v517 : Ref sig .tc := ⟨.hbm, 903, rfl⟩
abbrev main_v518 : Ref sig .tc := ⟨.hbm, 904, rfl⟩
abbrev main_v519 : Ref sig .tc := ⟨.hbm, 905, rfl⟩
abbrev main_c_168 : Ref sig .tc := ⟨.hbm, 906, rfl⟩
abbrev main_v520 : Ref sig .tc := ⟨.hbm, 907, rfl⟩
abbrev main_v521 : Ref sig .tc := ⟨.hbm, 908, rfl⟩
abbrev main_c_169 : Ref sig .tc := ⟨.hbm, 909, rfl⟩
abbrev main_v522 : Ref sig .tc := ⟨.hbm, 910, rfl⟩
abbrev main_v523 : Ref sig .tc := ⟨.hbm, 911, rfl⟩
abbrev main_v524 : Ref sig .tc := ⟨.hbm, 912, rfl⟩
abbrev main_v525 : Ref sig .tc := ⟨.hbm, 913, rfl⟩
abbrev main_v526 : Ref sig .tc := ⟨.hbm, 914, rfl⟩
abbrev main_v527 : Ref sig .tc := ⟨.hbm, 915, rfl⟩
abbrev main_v528 : Ref sig .tc := ⟨.hbm, 916, rfl⟩
abbrev main_v529 : Ref sig .tc := ⟨.hbm, 917, rfl⟩
abbrev main_v530 : Ref sig .tc := ⟨.hbm, 918, rfl⟩
abbrev main_v531 : Ref sig .tc := ⟨.hbm, 919, rfl⟩
abbrev main_v532 : Ref sig .tc := ⟨.hbm, 920, rfl⟩
abbrev main_v533 : Ref sig .tc := ⟨.hbm, 921, rfl⟩
abbrev main_v534 : Ref sig .tc := ⟨.hbm, 922, rfl⟩
abbrev main_v535 : Ref sig .tc := ⟨.hbm, 923, rfl⟩
abbrev main_v536 : Ref sig .tc := ⟨.hbm, 924, rfl⟩
abbrev main_v537 : Ref sig .tc := ⟨.hbm, 925, rfl⟩
abbrev main_v538 : Ref sig .tc := ⟨.hbm, 926, rfl⟩
abbrev main_v539 : Ref sig .tc := ⟨.hbm, 927, rfl⟩
abbrev main_v540 : Ref sig .tc := ⟨.hbm, 928, rfl⟩
abbrev main_cst_170 : Ref sig .tc := ⟨.hbm, 929, rfl⟩
abbrev main_v541 : Ref sig .tc := ⟨.hbm, 930, rfl⟩
abbrev main_v542 : Ref sig .tc := ⟨.hbm, 931, rfl⟩
abbrev main_v543 : Ref sig .tc := ⟨.hbm, 932, rfl⟩
abbrev main_call28_v0 : Ref sig .tc := ⟨.hbm, 933, rfl⟩
abbrev main_call28_cst : Ref sig .tc := ⟨.hbm, 934, rfl⟩
abbrev main_call28_v1 : Ref sig .tc := ⟨.hbm, 935, rfl⟩
abbrev main_call28_v2 : Ref sig .tc := ⟨.hbm, 936, rfl⟩
abbrev main_v544 : Ref sig .tc := ⟨.hbm, 937, rfl⟩
abbrev main_cst_171 : Ref sig .tc := ⟨.hbm, 938, rfl⟩
abbrev main_v545 : Ref sig .tc := ⟨.hbm, 939, rfl⟩
abbrev main_v546 : Ref sig .tc := ⟨.hbm, 940, rfl⟩
abbrev main_v547 : Ref sig .tc := ⟨.hbm, 941, rfl⟩
abbrev main_v548 : Ref sig .tc := ⟨.hbm, 942, rfl⟩
abbrev main_v549 : Ref sig .tc := ⟨.hbm, 943, rfl⟩
abbrev main_v550 : Ref sig .tc := ⟨.hbm, 944, rfl⟩
abbrev main_v551 : Ref sig .tc := ⟨.hbm, 945, rfl⟩

abbrev nD : Nat := 1
abbrev τ : Topo := Topo.v7x

variable {F : FTy → Type} [FloatOps F]
-- ==== Proof.KernelRun.lean ====
/- What the kernel's run leaves in the result array, and the reference's run with its counters.

   The launch set-up below is the frame certificate's (Gen/KernelIdeal/Frame.lean): the same segments and the same
   boundary contents, read at one more reference. -/
module

public import proofs.«01_k».proof.Proof.Gen.KernelIdeal.Frame
public import proofs.«01_k».proof.Proof.Gen.ReferenceIdeal.Run
public import Idealize.ShloMosaic.Lib.Quiescent

@[expose] public section

noncomputable section

namespace Cert.KernelRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state of the kernel holds, in every buffer of the main memory, what the fold through @main says is
    there after the last host operation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The kernel runs, ends with its result array at the fold's last contents, and leaves its arguments as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v0 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelRun

namespace Cert.ReferenceRun

open Cert.ReferenceIdeal
open Idealize.ShloMosaic Idealize.SL.Sem

variable {F : FTy → Type} [FloatOps F]

/-- The reference, which declares no semaphore, runs, leaves its arguments as launched, and has no counter above zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩) (Value.run m ρ)

end Cert.ReferenceRun

end
-- ==== Proof.Spec.lean ====
/- What one output row is, written over extended reals: the sampling position of a keypoint coordinate, the four cubic
   weights there, the descriptor as a weighted sum over the 80 × 80 grid, and its scaling to unit length. -/
module

public import Idealize.ShloMosaic.Lib.Pointwise

@[expose] public section

noncomputable section

namespace Cert.Spec

open Idealize.ShloMosaic

/-- The position on the 80-grid of the pixel coordinate `p` of the 640-grid (in the program's own order of operations). -/
def pos (p : EReal) : EReal :=
  Ideal.div ((Ideal.div (Ideal.ofBits .f32 0x40000000#32 * p) (Ideal.ofBits .f32 0x441FC000#32) - 1 + 1)
    * Ideal.ofBits .f32 0x42A00000#32 - 1) (Ideal.ofBits .f32 0x40000000#32)

/-- The position rounded down. -/
def low (p : EReal) : EReal := Ideal.liftRound Int.floor (pos p)

/-- The rounded position as a 32-bit word. -/
def cell (p : EReal) : BitVec 32 := FloatOps.fptosi (F := Ideal) (φ := .f32) 32 (low p)

/-- How far the position lies past its rounding. -/
def frac (p : EReal) : EReal := pos p - low p

/-- The cubic kernel between distances 1 and 2. -/
def outer (u : EReal) : EReal :=
  Ideal.ofBits .f32 0xBF400000#32 * (u * (u * u)) - Ideal.ofBits .f32 0xC0700000#32 * (u * u)
    + Ideal.ofBits .f32 0xC0C00000#32 * u - Ideal.ofBits .f32 0xC0400000#32

/-- The cubic kernel within distance 1. -/
def inner (u : EReal) : EReal :=
  Ideal.ofBits .f32 0x3FA00000#32 * (u * (u * u)) - Ideal.ofBits .f32 0x40100000#32 * (u * u) + 1

/-- The weights of the four taps around the position of `p`. -/
def weight (p : EReal) : Fin 4 → EReal :=
  ![outer (frac p + 1), inner (frac p), inner (1 - frac p), outer (Ideal.ofBits .f32 0x40000000#32 - frac p)]

/-- The grid coordinates of those taps, as wrapping 32-bit words. -/
def tap (p : EReal) : Fin 4 → BitVec 32 :=
  ![IntOp.addi (cell p) 4294967295#32, IntOp.addi (cell p) 0#32, IntOp.addi (cell p) 1#32, IntOp.addi (cell p) 2#32]

/-- The weight with which `p`'s taps meet the grid coordinate `k`. -/
def line (p : EReal) (k : BitVec 32) : EReal :=
  Scalar.select (IntOp.cmpi .eq k (tap p 0)) (weight p 0) 0 + Scalar.select (IntOp.cmpi .eq k (tap p 1)) (weight p 1) 0
    + Scalar.select (IntOp.cmpi .eq k (tap p 2)) (weight p 2) 0 + Scalar.select (IntOp.cmpi .eq k (tap p 3)) (weight p 3) 0

/-- A descriptor scaled to unit length, the length kept away from zero. -/
def unit (f : Fin 64 → EReal) (c : Fin 64) : EReal :=
  Ideal.div (f c) (max (Ideal.sqrt (∑ k, f k * f k)) (Ideal.ofBits .f32 0x2B8CBCCC#32))

/-- One row of the result: position, score, descriptor. -/
def entry (x y s : EReal) (d : Fin 64 → EReal) (k : Fin 67) : EReal :=
  if h : (k : ℕ) < 3 then ![x, y, s] ⟨k, h⟩ else d ⟨k - 3, by omega⟩

/-- Past its first three numbers a row of the result is the descriptor. -/
theorem entry_rest (x y s : EReal) (d : Fin 64 → EReal) (k : Fin 67) (c : Fin 64) (h : (k : ℕ) = 3 + c) :
    entry x y s d k = d c := by
  rw [entry, dif_neg (by omega)]
  exact congrArg d (Fin.ext (by simp only []; omega))

end Cert.Spec

end
-- ==== Proof.Length.lean ====
/- A descriptor scaled by `Spec.unit` has real entries whatever its own are: where the sum of squares is infinite the quotient is
   zero, and elsewhere every entry is real and the divisor a positive real. -/
module

public import proofs.«01_k».proof.Proof.Spec

@[expose] public section

noncomputable section

namespace Cert.Spec

open Idealize.ShloMosaic

/-- A square is not negative. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A bit pattern whose exponent is not all ones stands for a real number. -/
theorem bits_real (b : BitVec 32) (h : (b.extractLsb' 23 8).toNat ≠ 255) : ∃ r : ℝ, Ideal.ofBits .f32 b = r := by
  show ∃ r : ℝ, Ideal.ieee 8 23 b = r
  unfold Ideal.ieee
  dsimp only
  rw [if_neg (by exact h)]
  split
  · exact ⟨_, rfl⟩
  · exact ⟨_, rfl⟩

/-- The smallest length divided by, as a real number. -/
theorem least : ∃ e : ℝ, 0 < e ∧ Ideal.ofBits .f32 0x2B8CBCCC#32 = (e : EReal) := by
  refine ⟨9223372 * (2 : ℝ) ^ (-63 : ℤ), by positivity, ?_⟩
  simp [Ideal.ofBits, Ideal.ieee, -EReal.coe_mul]

/-- Every entry of a scaled descriptor is real. -/
theorem unit_real (f : Fin 64 → EReal) (c : Fin 64) : ∃ r : ℝ, unit f c = r := by
  obtain ⟨e, he, e_eq⟩ := least
  unfold unit
  rw [e_eq]
  by_cases hS : ∑ k, f k * f k = ⊤
  · rw [hS]
    refine ⟨0, ?_⟩
    rw [show Ideal.sqrt ⊤ = ⊤ from rfl, max_eq_left le_top, Ideal.div, if_neg (by simp)]
    simp
  · have hle : f c * f c ≤ ∑ k, f k * f k :=
      Finset.single_le_sum (fun k _ => square_nonneg (f k)) (Finset.mem_univ c)
    have hlt : f c * f c < ⊤ := lt_of_le_of_lt hle (lt_top_iff_ne_top.mpr hS)
    have h0 : 0 ≤ ∑ k, f k * f k := Finset.sum_nonneg fun k _ => square_nonneg (f k)
    obtain ⟨s, hs⟩ : ∃ s : ℝ, ∑ k, f k * f k = s := ⟨_, (EReal.coe_toReal hS (by intro h; rw [h] at h0; simp at h0)).symm⟩
    obtain ⟨a, ha⟩ : ∃ a : ℝ, f c = a := by
      induction h : f c using EReal.rec with
      | bot => rw [h] at hlt; simp at hlt
      | coe a => exact ⟨a, rfl⟩
      | top => rw [h] at hlt; simp at hlt
    have hs0 : ¬ s < 0 := by rw [hs] at h0; exact not_lt.mpr (by exact_mod_cast h0)
    have hr : Ideal.sqrt ((s : ℝ) : EReal) = ((Real.sqrt s : ℝ) : EReal) := if_neg hs0
    rw [hs, ha, hr, ← (EReal.coe_strictMono.monotone).map_max]
    have hm : (max (Real.sqrt s) e : ℝ) ≠ 0 := ne_of_gt (lt_of_lt_of_le he (le_max_right _ _))
    refine ⟨a * (max (Real.sqrt s) e)⁻¹, ?_⟩
    have : ((max (Real.sqrt s) e : ℝ) : EReal) ≠ 0 := by exact_mod_cast hm
    rw [Ideal.div, if_neg this, ← EReal.coe_inv, ← EReal.coe_mul]

end Cert.Spec
end
-- ==== Proof.Real.lean ====
/- At a position that is a whole number, every sampling quantity is a real number. -/
module

public import proofs.«01_k».proof.Proof.Length

@[expose] public section

noncomputable section

namespace Cert.Spec

open Idealize.ShloMosaic

/-- An extended real that is a real number. -/
def IsReal (x : EReal) : Prop := ∃ r : ℝ, x = r

/-- A sum of reals is real. -/
theorem IsReal.add {x y : EReal} : IsReal x → IsReal y → IsReal (x + y) := fun ⟨a, ha⟩ ⟨b, hb⟩ => ⟨a + b, by rw [ha, hb, EReal.coe_add]⟩

/-- A difference of reals is real. -/
theorem IsReal.sub {x y : EReal} : IsReal x → IsReal y → IsReal (x - y) := fun ⟨a, ha⟩ ⟨b, hb⟩ => ⟨a - b, by rw [ha, hb, EReal.coe_sub]⟩

/-- A product of reals is real. -/
theorem IsReal.mul {x y : EReal} : IsReal x → IsReal y → IsReal (x * y) := fun ⟨a, ha⟩ ⟨b, hb⟩ => ⟨a * b, by rw [ha, hb, EReal.coe_mul]⟩

/-- A quotient of reals is real where the divisor is not zero. -/
theorem IsReal.div {x y : EReal} (hx : IsReal x) (hy : IsReal y) (h : y ≠ 0) : IsReal (Ideal.div x y) := by
  obtain ⟨a, rfl⟩ := hx
  obtain ⟨b, rfl⟩ := hy
  exact ⟨a * b⁻¹, by rw [Ideal.div, if_neg h, ← EReal.coe_inv, ← EReal.coe_mul]⟩

/-- The divisor of the unnormalised coordinate is two. -/
theorem bits_two : Ideal.ofBits .f32 0x40000000#32 = ((2 : ℝ) : EReal) := by
  simp [Ideal.ofBits, Ideal.ieee, -EReal.coe_mul]; norm_num

/-- The divisor of the position is 639. -/
theorem bits_extent : Ideal.ofBits .f32 0x441FC000#32 = ((639 : ℝ) : EReal) := by
  simp [Ideal.ofBits, Ideal.ieee, -EReal.coe_mul]; norm_num

variable {p : EReal} (h : IsReal p)
include h

/-- The position is real. -/
theorem pos_isReal : IsReal (pos p) := by
  have two : IsReal (Ideal.ofBits .f32 0x40000000#32) := ⟨2, bits_two⟩
  have one : IsReal 1 := ⟨1, by norm_cast⟩
  have n2 : Ideal.ofBits .f32 0x40000000#32 ≠ 0 := by rw [bits_two]; norm_num
  have n639 : Ideal.ofBits .f32 0x441FC000#32 ≠ 0 := by rw [bits_extent]; norm_num
  exact (((((two.mul h).div ⟨_, bits_extent⟩ n639).sub one).add one).mul (bits_real _ (by decide)) |>.sub one).div two n2

/-- How far it lies past its rounding is real. -/
theorem frac_isReal : IsReal (frac p) := by
  obtain ⟨r, hr⟩ := pos_isReal h
  refine (pos_isReal h).sub ?_
  rw [low, hr]
  exact ⟨_, rfl⟩

omit h in
/-- The cubic of the two outer taps is real at a real. -/
theorem outer_isReal {u : EReal} (hu : IsReal u) : IsReal (outer u) := by
  refine IsReal.sub (IsReal.add (IsReal.sub (IsReal.mul (bits_real _ ?_) (hu.mul (hu.mul hu))) (IsReal.mul (bits_real _ ?_) (hu.mul hu)))
    (IsReal.mul (bits_real _ ?_) hu)) (bits_real _ ?_)
  all_goals decide

omit h in
/-- The cubic of the two inner taps is real at a real. -/
theorem inner_isReal {u : EReal} (hu : IsReal u) : IsReal (inner u) := by
  refine IsReal.add (IsReal.sub (IsReal.mul (bits_real _ ?_) (hu.mul (hu.mul hu))) (IsReal.mul (bits_real _ ?_) (hu.mul hu))) ⟨1, by norm_cast⟩
  all_goals decide

/-- The weights are real. -/
theorem weight_isReal (j : Fin 4) : IsReal (weight p j) := by
  have one : IsReal 1 := ⟨1, by norm_cast⟩
  have f := frac_isReal h
  match j with
  | 0 => exact outer_isReal (f.add one)
  | 1 => exact inner_isReal f
  | 2 => exact inner_isReal (one.sub f)
  | 3 => exact outer_isReal (IsReal.sub ⟨2, bits_two⟩ f)

omit h in
/-- The weight of a grid coordinate, where the tap weights are real. -/
theorem line_coe (b : Fin 4 → ℝ) (hb : ∀ j, weight p j = b j) (k : BitVec 32) :
    line p k = ((∑ e, if k = tap p e then b e else 0 : ℝ) : EReal) := by
  have one : ∀ e : Fin 4, Scalar.select (IntOp.cmpi .eq k (tap p e)) (weight p e) 0 = ((if k = tap p e then b e else 0 : ℝ) : EReal) := by
    intro e
    rw [hb]
    by_cases hk : k = tap p e
    · rw [if_pos hk]; simp [hk, IntOp.cmpi, Scalar.select]
    · rw [if_neg hk]; simp [beq_eq_false_iff_ne.mpr hk, IntOp.cmpi, Scalar.select]
  unfold line
  rw [one, one, one, one, Fin.sum_univ_four, EReal.coe_add, EReal.coe_add, EReal.coe_add]

end Cert.Spec
end
-- ==== Proof.Row.lean ====
/- What the second kernel computes on one block of 512 keypoints, row by row. -/
module

public import proofs.«01_k».proof.Proof.Gen.KernelIdeal.Skeleton
public import proofs.«01_k».proof.Proof.Spec

@[expose] public section

set_option maxRecDepth 16384

noncomputable section

namespace Cert.Row

open Idealize.ShloMosaic Idealize.ShloMosaic.TcCoe Idealize.SL.Sem
open Cert.KernelIdeal Cert.KernelIdeal.Gen

/-- The descriptors of a block, before scaling: both matrix products of the kernel body, over the lanes `x · 64 + channel`. -/
def raw (px py : EReal) (m : FVec Ideal S80x5120 .f32) (sel : FVec Ideal S5120x64 .f32) (c : Fin 64) : EReal :=
  ∑ l : Fin 5120, (∑ y : Fin 80, Spec.line py (BitVec.ofNat 32 y) * m (ix2 y l)) * Spec.line px (BitVec.ofNat 32 (l / 64))
    * sel (ix2 l c)

/-- What the kernel body stores in columns 3 to 66 of its block, as a function of the four blocks it reads. -/
def stored (v0 v2 : FVec Ideal S512x1 .f32) (v180 : FVec Ideal S80x5120 .f32) (v246 : FVec Ideal S5120x64 .f32) :
    FVec Ideal S512x64 .f32 :=
  k1_pay32 (k1_pay5 (F := Ideal) v0) (k1_pay15 (k1_pay6 v0))
    (k1_pay17 (k1_pay12 (k1_pay6 v0)) (k1_pay16 (k1_pay6 v0)) (Scalar.ofBits .f32 0xC0C00000#32))
    (k1_pay27 (k1_pay23 (k1_pay9 (F := Ideal) v2) (k1_pay19 (k1_pay10 v2)) (k1_pay20 (k1_pay10 v2)) (k1_pay21 (k1_pay10 v2)))
      (k1_pay24 (k1_pay9 (F := Ideal) v2)) (k1_pay25 (k1_pay18 (k1_pay10 v2)) (k1_pay22 (k1_pay10 v2))) k1_pay26 v180)
    k1_pay28 (k1_pay29 (k1_pay5 (F := Ideal) v0) (k1_pay13 (k1_pay11 v0))) (k1_pay30 (k1_pay5 (F := Ideal) v0)) (Scalar.ofBits .f32 0x00000000#32)
    (k1_pay31 (k1_pay14 (k1_pay6 v0))) v246

/-- The lane index floored by 64, in the body's signed word arithmetic, is the quotient. -/
theorem lane_words : ∀ l : Fin 5120, Scalar.select
      (IntOp.andi
        (IntOp.cmpi CmpIPredicate.ne
          (IntOp.subi (BitVec.setWidth 32 (IntOp.cmpi CmpIPredicate.sgt (BitVec.ofNat 32 ↑l) 0#32))
            (BitVec.setWidth 32 (IntOp.cmpi CmpIPredicate.slt (BitVec.ofNat 32 ↑l) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑l) 64#32) 0#32))
      (IntOp.subi (IntOp.divsi ArithUnit.vector (BitVec.ofNat 32 ↑l) 64#32) 1#32)
      (IntOp.divsi ArithUnit.vector (BitVec.ofNat 32 ↑l) 64#32) = BitVec.ofNat 32 (l / 64) := by
  decide +kernel

/-- The lane's grid column as the body computes it. -/
theorem lane_at (r : Fin 512) (l : Fin 5120) : k1_pay28 (ix2 r l) = BitVec.ofNat 32 (l / 64) := by
  pointwise [k1_pay28]
  exact lane_words l

variable (v0 v2 : FVec Ideal S512x1 .f32) (r : Fin 512)

/-- The body's position, rounded down. -/
theorem low_at : k1_pay4 (F := Ideal) v0 (ix2 r 0) = Spec.low (v0 (ix2 r 0)) := by
  pointwise [k1_pay4, k1_pay3, k1_pay1, Spec.low, Spec.pos]

/-- The body's cell. -/
theorem cell_at : k1_pay5 (F := Ideal) v0 (ix2 r 0) = Spec.cell (v0 (ix2 r 0)) := by
  pointwise [k1_pay5, k1_pay4, k1_pay3, k1_pay1, Spec.cell, Spec.low, Spec.pos]

/-- The body's cell of the second coordinate. -/
theorem cell_at' : k1_pay9 (F := Ideal) v0 (ix2 r 0) = Spec.cell (v0 (ix2 r 0)) := by
  pointwise [k1_pay9, k1_pay8, k1_pay7, k1_pay2, Spec.cell, Spec.low, Spec.pos]

/-- The body's offset within the cell. -/
theorem frac_at : k1_pay6 (F := Ideal) v0 (ix2 r 0) = Spec.frac (v0 (ix2 r 0)) := by
  pointwise [k1_pay6, k1_pay4, k1_pay3, k1_pay1, Spec.frac, Spec.low, Spec.pos]

/-- The body's offset within the cell, of the second coordinate. -/
theorem frac_at' : k1_pay10 (F := Ideal) v0 (ix2 r 0) = Spec.frac (v0 (ix2 r 0)) := by
  pointwise [k1_pay10, k1_pay8, k1_pay7, k1_pay2, Spec.frac, Spec.low, Spec.pos]

/-- The column weights the body spreads over the 5120 lanes. -/
theorem lineX (l : Fin 5120) :
    k1_pay29 (k1_pay5 (F := Ideal) v0) (k1_pay13 (k1_pay11 v0)) (ix2 r l)
      + Scalar.select (k1_pay30 (k1_pay5 (F := Ideal) v0) (ix2 r l)) (k1_pay31 (k1_pay14 (k1_pay6 v0)) (ix2 r 0)) 0
      + Scalar.select (IntOp.cmpi CmpIPredicate.eq (k1_pay28 (ix2 r l)) (IntOp.addi (k1_pay5 (F := Ideal) v0 (ix2 r 0)) 1#32))
          (k1_pay15 (k1_pay6 v0) (ix2 r 0)) 0
      + Scalar.select (IntOp.cmpi CmpIPredicate.eq (k1_pay28 (ix2 r l)) (IntOp.addi (k1_pay5 (F := Ideal) v0 (ix2 r 0)) 2#32))
          (k1_pay17 (k1_pay12 (k1_pay6 v0)) (k1_pay16 (k1_pay6 v0)) (Ideal.ofBits .f32 0xC0C00000#32) (ix2 r 0)) 0
      = Spec.line (v0 (ix2 r 0)) (BitVec.ofNat 32 (l / 64)) := by
  pointwise [k1_pay29, k1_pay13, k1_pay11, k1_pay30, k1_pay31, k1_pay14, k1_pay15, k1_pay17, k1_pay12, k1_pay16, lane_at, cell_at, frac_at,
    Spec.line, Spec.weight, Spec.tap, Spec.outer, Spec.inner]

/-- The row weights the body spreads over the 80 grid rows. -/
theorem lineY (y : Fin 80) :
    k1_pay23 (k1_pay9 (F := Ideal) v2) (k1_pay19 (k1_pay10 v2)) (k1_pay20 (k1_pay10 v2)) (k1_pay21 (k1_pay10 v2)) (ix2 r y)
      + Scalar.select (k1_pay24 (k1_pay9 (F := Ideal) v2) (ix2 r y)) (k1_pay25 (k1_pay18 (k1_pay10 v2)) (k1_pay22 (k1_pay10 v2)) (ix2 r y))
          (k1_pay26 (F := Ideal) (ix2 r y))
      = Spec.line (v2 (ix2 r 0)) (BitVec.ofNat 32 y) := by
  pointwise [k1_pay23, k1_pay19, k1_pay20, k1_pay21, k1_pay24, k1_pay25, k1_pay18, k1_pay22, k1_pay26, cell_at', frac_at',
    Spec.line, Spec.weight, Spec.tap, Spec.outer, Spec.inner]

/-- The first matrix product, read at a row and a lane. -/
theorem rows_at (v170 : FVec Ideal S512x80 .f32) (v174 : IVec S512x80 1) (v176 v177 : FVec Ideal S512x80 .f32)
    (m : FVec Ideal S80x5120 .f32) (l : Fin 5120) :
    k1_pay27 v170 v174 v176 v177 m (ix2 r l)
      = ∑ y : Fin 80, (v170 (ix2 r y) + Scalar.select (v174 (ix2 r y)) (v176 (ix2 r y)) (v177 (ix2 r y))) * m (ix2 y l) := by
  pointwise [k1_pay27]

/-- The second matrix product and the scaling, read at a row and a channel. -/
theorem unit_at (v19 : IVec S512x1 32) (v76 v89 : FVec Ideal S512x1 .f32) (v182 : FVec Ideal S512x5120 .f32)
    (v207 : IVec S512x5120 32) (v217 : FVec Ideal S512x5120 .f32) (v221 : IVec S512x5120 1) (z : EReal)
    (v222 : FVec Ideal S512x1 .f32) (sel : FVec Ideal S5120x64 .f32) (c : Fin 64) :
    k1_pay32 (F := Ideal) v19 v76 v89 v182 v207 v217 v221 z v222 sel (ix2 r c)
      = Spec.unit (fun c => ∑ l : Fin 5120, v182 (ix2 r l) *
            (v217 (ix2 r l) + Scalar.select (v221 (ix2 r l)) (v222 (ix2 r 0)) z +
                Scalar.select (IntOp.cmpi CmpIPredicate.eq (v207 (ix2 r l)) (IntOp.addi (v19 (ix2 r 0)) 1#32))
                  (v76 (ix2 r 0)) 0 +
              Scalar.select (IntOp.cmpi CmpIPredicate.eq (v207 (ix2 r l)) (IntOp.addi (v19 (ix2 r 0)) 2#32))
                (v89 (ix2 r 0)) 0) * sel (ix2 l c)) c := by
  pointwise [k1_pay32, Spec.unit]

/-- A block's stored descriptors, read at a row and a channel. -/
theorem stored_at (m : FVec Ideal S80x5120 .f32) (sel : FVec Ideal S5120x64 .f32) (c : Fin 64) :
    stored v0 v2 m sel (ix2 r c) = Spec.unit (raw (v0 (ix2 r 0)) (v2 (ix2 r 0)) m sel) c := by
  have hz : (Scalar.ofBits .f32 0x00000000#32 : Ideal .f32) = (0 : EReal) := Ideal.ofBits_zero .f32
  refine (unit_at ..).trans (congrArg (fun f => Spec.unit f c) (funext fun c => Finset.sum_congr rfl fun l _ => ?_))
  rw [rows_at, hz]
  refine congrArg (· * sel (ix2 l c)) (congrArg₂ (· * ·) (Finset.sum_congr rfl fun y _ => ?_) (lineX v0 r l))
  exact congrArg (· * m (ix2 y l)) (lineY v2 r y)

end Cert.Row
end
-- ==== Proof.Take.lean ====
/- The two gathers of the programs, read at an index. -/
module

public import Idealize.ShloMosaic.Lib.Pointwise
public import Idealize.ShloMosaic.Lib.StableHlo.Run

@[expose] public section

namespace Cert.Take

open Idealize.ShloMosaic

variable {α : Type}

/-- Dimension numbers of a gather along the second axis of a one-row table, one start index per result column. -/
abbrev rowDims (N n : Nat) (wf : GatherDims.WF ⟨2, ![1, N]⟩ ⟨2, ![n, 1]⟩ ⟨2, ![1, n]⟩ [0] [1] [] [1] [] 1 ![1, 1]) :
    GatherDims ⟨2, ![1, N]⟩ ⟨2, ![n, 1]⟩ ⟨2, ![1, n]⟩ where
  offsetDims := [0]
  collapsedSliceDims := [1]
  operandBatchingDims := []
  startIndicesBatchingDims := []
  startIndexMap := [1]
  indexVectorDim := 1
  sliceSizes := ![1, 1]
  wf := wf

/-- Such a gather reads the table at the start index, clamped into it. -/
theorem row_at {N n w : Nat} (hN : 0 < N) (wf : GatherDims.WF ⟨2, ![1, N]⟩ ⟨2, ![n, 1]⟩ ⟨2, ![1, n]⟩ [0] [1] [] [1] [] 1 ![1, 1])
    (x : (⟨2, ![1, N]⟩ : Shape).Idx → α) (idx : IVec ⟨2, ![n, 1]⟩ w) (p : Fin n) :
    Host.gather (rowDims N n wf) x idx (ix2 0 p) = x (ix2 0 ⟨min (idx (ix2 p 0)).toInt.toNat (N - 1), by omega⟩) := by
  unfold Host.gather
  refine congrArg x (funext fun a => Fin.ext ?_)
  have hs : ∀ c, (rowDims N n wf).siIdx (ix2 0 p) c = ix2 p 0 := fun c => by
    funext b; refine Fin.ext ?_
    match b with
    | ⟨0, _⟩ => rfl
    | ⟨1, _⟩ => exact Nat.lt_one_iff.mp c.isLt
  match a with
  | ⟨0, _⟩ => exact (Nat.lt_one_iff.mp (((rowDims N n wf).operandIdx (ix2 0 p) idx 0).isLt)).trans rfl
  | ⟨1, _⟩ =>
    show (rowDims N n wf).start (ix2 0 p) idx 1 + (rowDims N n wf).batchCoord (ix2 0 p) 1 + (rowDims N n wf).offCoord (ix2 0 p) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims N n wf).startIndexMap from List.mem_singleton.mpr rfl), hs]
    rfl

/-- Dimension numbers of a gather of one channel column per pair of start indices from a map of `C` channels. -/
abbrev mapDims (C H W n p q : Nat) (wf : GatherDims.WF ⟨3, ![C, H, W]⟩ ⟨4, ![n, p, q, 2]⟩ ⟨4, ![C, n, p, q]⟩ [0] [1, 2] [] [1, 2] [] 3 ![C, 1, 1]) :
    GatherDims ⟨3, ![C, H, W]⟩ ⟨4, ![n, p, q, 2]⟩ ⟨4, ![C, n, p, q]⟩ where
  offsetDims := [0]
  collapsedSliceDims := [1, 2]
  operandBatchingDims := []
  startIndicesBatchingDims := []
  startIndexMap := [1, 2]
  indexVectorDim := 3
  sliceSizes := ![C, 1, 1]
  wf := wf

/-- Such a gather reads the map at the two start indices, clamped into it. -/
theorem map_at {C H W n p q w : Nat} (hH : 0 < H) (hW : 0 < W)
    (wf : GatherDims.WF ⟨3, ![C, H, W]⟩ ⟨4, ![n, p, q, 2]⟩ ⟨4, ![C, n, p, q]⟩ [0] [1, 2] [] [1, 2] [] 3 ![C, 1, 1])
    (x : (⟨3, ![C, H, W]⟩ : Shape).Idx → α) (idx : IVec ⟨4, ![n, p, q, 2]⟩ w) (c : Fin C) (r : Fin n) (i : Fin p) (j : Fin q) :
    Host.gather (mapDims C H W n p q wf) x idx (ix4 c r i j)
      = x (ix3 c ⟨min (idx (ix4 r i j 0)).toInt.toNat (H - 1), by omega⟩ ⟨min (idx (ix4 r i j 1)).toInt.toNat (W - 1), by omega⟩) := by
  unfold Host.gather
  refine congrArg x (funext fun a => Fin.ext ?_)
  have hs : ∀ k (h : k < 2), (mapDims C H W n p q wf).siIdx (ix4 c r i j) ⟨k, h⟩ = ix4 r i j ⟨k, h⟩ := fun k h => by
    funext b; refine Fin.ext ?_
    match b with
    | ⟨0, _⟩ => rfl
    | ⟨1, _⟩ => rfl
    | ⟨2, _⟩ => rfl
    | ⟨3, _⟩ => rfl
  match a with
  | ⟨0, _⟩ =>
    show (mapDims C H W n p q wf).start (ix4 c r i j) idx 0 + (mapDims C H W n p q wf).batchCoord (ix4 c r i j) 0
      + (mapDims C H W n p q wf).offCoord (ix4 c r i j) 0 = _
    rw [GatherDims.batchCoord_eq_zero _ _ _ List.not_mem_nil]
    unfold GatherDims.start
    rw [dif_neg (show (0 : Fin 3) ∉ (mapDims C H W n p q wf).startIndexMap from by simp)]
    simp only [Nat.add_zero, Nat.zero_add]
    rfl
  | ⟨1, _⟩ =>
    show (mapDims C H W n p q wf).start (ix4 c r i j) idx 1 + (mapDims C H W n p q wf).batchCoord (ix4 c r i j) 1
      + (mapDims C H W n p q wf).offCoord (ix4 c r i j) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 3) ∈ (mapDims C H W n p q wf).startIndexMap from by simp)]
    exact congrArg (fun z => min (idx z).toInt.toNat (H - 1)) (hs 0 (by omega))
  | ⟨2, _⟩ =>
    show (mapDims C H W n p q wf).start (ix4 c r i j) idx 2 + (mapDims C H W n p q wf).batchCoord (ix4 c r i j) 2
      + (mapDims C H W n p q wf).offCoord (ix4 c r i j) 2 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (2 : Fin 3) ∈ (mapDims C H W n p q wf).startIndexMap from by simp)]
    exact congrArg (fun z => min (idx z).toInt.toNat (W - 1)) (hs 1 (by omega))

end Cert.Take
-- ==== Proof.Picks.lean ====
/- Taking the entries of a one-row operand at listed columns: where the listed word is a column's number, the wrap of
   negative numbers leaves it, the range check passes, and the gather reads that column. -/
module

public import proofs.«01_k».proof.Proof.Take
public import proofs.«01_k».proof.Proof.Spec
public import proofs.«01_k».proof.Proof.Gen.KernelIdeal.Skeleton
public import proofs.«01_k».proof.Proof.Gen.ReferenceIdeal.Run

@[expose] public section

set_option maxRecDepth 16384

noncomputable section

namespace Cert.Picks

open Idealize.ShloMosaic

/-- A column's number is not negative. -/
theorem not_neg (p : Fin 32768) : IntOp.cmpi .slt (BitVec.ofNat 32 p) 0#32 = 0#1 := by
  have : (BitVec.ofNat 32 p).toInt = p := by
    rw [BitVec.toInt_eq_toNat_of_lt] <;> simp [Nat.mod_eq_of_lt (show (p : ℕ) < 4294967296 by omega)] <;> omega
  have h : ¬ (p : ℤ) < 0 := by omega
  simp [IntOp.cmpi, BitVec.slt, this, h]

/-- A column's number is in range. -/
theorem in_range (p : Fin 32768) : IntOp.andi (IntOp.cmpi .sge (BitVec.ofNat 32 p) 0#32) (IntOp.cmpi .sle (BitVec.ofNat 32 p) 32767#32) = 1#1 := by
  have : (BitVec.ofNat 32 p).toInt = p := by
    rw [BitVec.toInt_eq_toNat_of_lt] <;> simp [Nat.mod_eq_of_lt (show (p : ℕ) < 4294967296 by omega)] <;> omega
  have h : (p : ℤ) ≤ 32767 := by omega
  simp [IntOp.cmpi, IntOp.andi, BitVec.sle, this, h]

/-- A column's number is its own clamp. -/
theorem clamp_eq {w : BitVec 32} {p : Fin 32768} (h : w = BitVec.ofNat 32 p) : min w.toInt.toNat (32768 - 1) = p := by
  have : w.toInt = p := by
    rw [h, BitVec.toInt_eq_toNat_of_lt] <;> simp [Nat.mod_eq_of_lt (show (p : ℕ) < 4294967296 by omega)] <;> omega
  rw [this]
  simp; omega

section Kernel
open Cert.KernelIdeal Cert.KernelIdeal.Gen

/-- The listed columns, wrapped, as the kernel's gather takes them. -/
def kernelColumns (idx : IVec S1x4096 32) : IVec S4096x1 32 :=
  shapeCast S4096x1 (select (cmpi .slt idx (broadcastInDim S1x4096 ![] bcast_S_S1x4096 (constantI S_ 32 0#32)))
    (addi idx (broadcastInDim S1x4096 ![] bcast_S_S1x4096 (constantI S_ 32 32768#32))) idx) shapeCasts_S1x4096_S4096x1

/-- Whether those are in range. -/
def kernelRange (v : IVec S4096x1 32) : IVec S4096 1 :=
  Host.reduce IntOp.andi (andi (cmpi .sge v (broadcastInDim S4096x1 ![] bcast_S_S4096x1 (constantI S_ 32 0#32)))
    (cmpi .sle v (broadcastInDim S4096x1 ![0, 1] bcast_S1x1_S4096x1_0_1 (broadcastInDim S1x1 ![1] bcast_S1_S1x1_1 (constantI S1 32 32767#32)))))
    (constantI S_ 1 1#1) reducesTo_S4096x1_S4096_d1 h_S_

/-- The kernel's take along the row. -/
def kernelTake {α : Type} (x : S1x32768.Idx → α) (fill : S1x4096.Idx → α) (idx : IVec S1x4096 32) : S1x4096.Idx → α :=
  select (broadcastInDim S1x4096 ![1] bcast_S4096_S1x4096_1 (kernelRange (kernelColumns idx)))
    (Host.gather gather_S1x32768_S4096x1_S1x4096_0_1_n_n_1_1_11 x (kernelColumns idx)) fill

/-- A listed column's number survives the wrap. -/
theorem kernelColumns_at (idx : IVec S1x4096 32) (r : Fin 4096) (p : Fin 32768) (h : idx (ix2 0 r) = BitVec.ofNat 32 p) :
    kernelColumns idx (ix2 r 0) = BitVec.ofNat 32 p := by
  unfold kernelColumns
  pointwise
  rw [h, not_neg]
  rfl

/-- A column's number passes the range check. -/
theorem kernelRange_at (v : IVec S4096x1 32) (r : Fin 4096) (p : Fin 32768) (h : v (ix2 r 0) = BitVec.ofNat 32 p) :
    kernelRange v (ix1 r) = 1#1 := by
  unfold kernelRange
  pointwise
  simp [h, in_range]
  rfl

/-- A choice by a broadcast mask, read at a column. -/
theorem kernelMasked {α : Type} (k : IVec S4096 1) (g fill : S1x4096.Idx → α) (r : Fin 4096) :
    select (broadcastInDim S1x4096 ![1] bcast_S4096_S1x4096_1 k) g fill (ix2 0 r) = Scalar.select (k (ix1 r)) (g (ix2 0 r)) (fill (ix2 0 r)) := by
  pointwise

/-- The kernel's take reads the listed column. -/
theorem kernelTake_at {α : Type} (x : S1x32768.Idx → α) (fill : S1x4096.Idx → α) (idx : IVec S1x4096 32) (r : Fin 4096) (p : Fin 32768)
    (h : idx (ix2 0 r) = BitVec.ofNat 32 p) : kernelTake x fill idx (ix2 0 r) = x (ix2 0 p) := by
  have hv := kernelColumns_at idx r p h
  have hg := Take.row_at (N := 32768) (n := 4096) (by decide) gather_S1x32768_S4096x1_S1x4096_0_1_n_n_1_1_11.wf x (kernelColumns idx) r
  unfold kernelTake
  rw [kernelMasked, kernelRange_at _ r p hv]
  refine hg.trans (congrArg x (congrArg (ix2 0) (Fin.ext (clamp_eq hv))))

end Kernel

section Reference
open Cert.ReferenceIdeal Cert.ReferenceIdeal.Gen

/-- The listed columns, wrapped, as the reference's gather takes them. -/
def referenceColumns (idx : IVec S1x32768 32) : IVec S32768x1 32 :=
  shapeCast S32768x1 (select (cmpi .slt idx (broadcastInDim S1x32768 ![] bcast_S_S1x32768 (constantI S_ 32 0#32)))
    (addi idx (broadcastInDim S1x32768 ![] bcast_S_S1x32768 (constantI S_ 32 32768#32))) idx) shapeCasts_S1x32768_S32768x1

/-- Whether those are in range. -/
def referenceRange (v : IVec S32768x1 32) : IVec S32768 1 :=
  Host.reduce IntOp.andi (andi (cmpi .sge v (broadcastInDim S32768x1 ![] bcast_S_S32768x1 (constantI S_ 32 0#32)))
    (cmpi .sle v (broadcastInDim S32768x1 ![0, 1] bcast_S1x1_S32768x1_0_1 (broadcastInDim S1x1 ![1] bcast_S1_S1x1_1 (constantI S1 32 32767#32)))))
    (constantI S_ 1 1#1) reducesTo_S32768x1_S32768_d1 h_S_

/-- The reference's take along the row. -/
def referenceTake {α : Type} (x : S1x32768.Idx → α) (fill : S1x32768.Idx → α) (idx : IVec S1x32768 32) : S1x32768.Idx → α :=
  select (broadcastInDim S1x32768 ![1] bcast_S32768_S1x32768_1 (referenceRange (referenceColumns idx)))
    (Host.gather gather_S1x32768_S32768x1_S1x32768_0_1_n_n_1_1_11 x (referenceColumns idx)) fill

/-- A listed column's number survives the wrap. -/
theorem referenceColumns_at (idx : IVec S1x32768 32) (r : Fin 32768) (p : Fin 32768) (h : idx (ix2 0 r) = BitVec.ofNat 32 p) :
    referenceColumns idx (ix2 r 0) = BitVec.ofNat 32 p := by
  unfold referenceColumns
  pointwise
  rw [h, not_neg]
  rfl

/-- A column's number passes the range check. -/
theorem referenceRange_at (v : IVec S32768x1 32) (r : Fin 32768) (p : Fin 32768) (h : v (ix2 r 0) = BitVec.ofNat 32 p) :
    referenceRange v (ix1 r) = 1#1 := by
  unfold referenceRange
  pointwise
  simp [h, in_range]
  rfl

/-- A choice by a broadcast mask, read at a column. -/
theorem referenceMasked {α : Type} (k : IVec S32768 1) (g fill : S1x32768.Idx → α) (r : Fin 32768) :
    select (broadcastInDim S1x32768 ![1] bcast_S32768_S1x32768_1 k) g fill (ix2 0 r) = Scalar.select (k (ix1 r)) (g (ix2 0 r)) (fill (ix2 0 r)) := by
  pointwise

/-- The reference's take reads the listed column. -/
theorem referenceTake_at {α : Type} (x : S1x32768.Idx → α) (fill : S1x32768.Idx → α) (idx : IVec S1x32768 32) (r : Fin 32768) (p : Fin 32768)
    (h : idx (ix2 0 r) = BitVec.ofNat 32 p) : referenceTake x fill idx (ix2 0 r) = x (ix2 0 p) := by
  have hv := referenceColumns_at idx r p h
  have hg := Take.row_at (N := 32768) (n := 32768) (by decide) gather_S1x32768_S32768x1_S1x32768_0_1_n_n_1_1_11.wf x (referenceColumns idx) r
  unfold referenceTake
  rw [referenceMasked, referenceRange_at _ r p hv]
  refine hg.trans (congrArg x (congrArg (ix2 0) (Fin.ext (clamp_eq hv))))

end Reference

end Cert.Picks
end
-- ==== Proof.Order.lean ====
/- The kernel's top-k and the reference's sort of negated scores put the keypoints in one order. -/
module

public import proofs.«01_k».proof.Proof.Gen.KernelIdeal.Skeleton
public import proofs.«01_k».proof.Proof.Gen.ReferenceIdeal.Run
public import proofs.«01_k».proof.Proof.Spec

@[expose] public section

set_option maxRecDepth 16384

noncomputable section

namespace Cert.Order

open Idealize.ShloMosaic Idealize.ShloMosaic.TcCoe Idealize.SL.Sem

/-- Keypoint number `k` in decreasing order of score, earlier keypoints first among equals. -/
def place (x : FVec Ideal KernelIdeal.S1x32768 .f32) (k : Fin 32768) : Fin 32768 :=
  sortedFrom (fun k k' => FloatOps.cmpfTotal .gt (x (ix2 0 k)) (x (ix2 0 k')) == 1#1) k

/-- The row's index with its second coordinate replaced. -/
theorem along_eq (r k : Fin 32768) (h : 1 < KernelIdeal.S1x32768.rank) :
    Shape.Idx.along (s := KernelIdeal.S1x32768) (ix2 0 r) ⟨1, h⟩ (show Fin (KernelIdeal.S1x32768.size ⟨1, h⟩) from k) = ix2 0 k := by
  funext a
  match a with
  | ⟨0, _⟩ => rfl
  | ⟨1, _⟩ => rfl

/-- A sort of two one-row operands, read at a column: both are read where the one permutation sends it. -/
theorem sort_at {α β : Type} (cmp : α × β → α × β → BitVec 1) (x : KernelIdeal.S1x32768.Idx → α)
    (y : KernelIdeal.S1x32768.Idx → β) (r : Fin 32768) :
    let π := sortedFrom (fun k k' : Fin 32768 => cmp (x (ix2 0 k), y (ix2 0 k)) (x (ix2 0 k'), y (ix2 0 k')) == 1#1) r
    (Host.sort2 KernelIdeal.S1x32768 1 cmp x y).1 (ix2 0 r) = x (ix2 0 π)
      ∧ (Host.sort2 KernelIdeal.S1x32768 1 cmp x y).2 (ix2 0 r) = y (ix2 0 π) := by
  intro π
  have h1 : 1 < KernelIdeal.S1x32768.rank := by decide
  have e : (sortedFrom (fun k k' : Fin (KernelIdeal.S1x32768.size ⟨1, h1⟩) =>
      cmp (x (Shape.Idx.along (ix2 0 r) ⟨1, h1⟩ k), y (Shape.Idx.along (ix2 0 r) ⟨1, h1⟩ k))
        (x (Shape.Idx.along (ix2 0 r) ⟨1, h1⟩ k'), y (Shape.Idx.along (ix2 0 r) ⟨1, h1⟩ k')) == 1#1) r : Fin 32768) = π :=
    congrArg (fun p => sortedFrom (n := 32768) p r) (funext fun k => funext fun k' => by
      rw [show Shape.Idx.along (s := KernelIdeal.S1x32768) (ix2 0 r) ⟨1, h1⟩ k = ix2 0 k from along_eq r k h1,
        show Shape.Idx.along (s := KernelIdeal.S1x32768) (ix2 0 r) ⟨1, h1⟩ k' = ix2 0 k' from along_eq r k' h1]
      rfl)
  unfold Host.sort2
  rw [dif_pos h1]
  exact ⟨congrArg x ((congrArg (Shape.Idx.along (s := KernelIdeal.S1x32768) (ix2 0 r) ⟨1, h1⟩) e).trans (along_eq r π h1)),
    congrArg y ((congrArg (Shape.Idx.along (s := KernelIdeal.S1x32768) (ix2 0 r) ⟨1, h1⟩) e).trans (along_eq r π h1))⟩

/-- The numbers of the columns, as the sort carries them along. -/
def columns : IVec KernelIdeal.S1x32768 32 := fun i =>
  if hd : 1 < KernelIdeal.S1x32768.rank then iotaInDim KernelIdeal.S1x32768 32 ⟨1, hd⟩ i else 0#32

/-- A row number of the result as a keypoint number. -/
def wide (r : Fin 4096) : Fin 32768 := ⟨r, by omega⟩

variable (x : FVec Ideal KernelIdeal.S1x32768 .f32) (h : KernelIdeal.S1x32768.Slices (fun _ => 0) KernelIdeal.S1x4096)

/-- Where a leading slice reads. -/
theorem slice_at {α : Type} (y : KernelIdeal.S1x32768.Idx → α) (r : Fin 4096) :
    extractStridedSlice KernelIdeal.S1x4096 (fun _ => 0) y h (ix2 0 r) = y (ix2 0 (wide r)) := by
  refine congrArg y (funext fun a => Fin.ext ?_)
  match a with
  | ⟨0, _⟩ => exact Nat.zero_add _
  | ⟨1, _⟩ => exact Nat.zero_add _

/-- The kernel's top-k values. -/
theorem top_value (r : Fin 4096) :
    (Host.topK KernelIdeal.S1x4096 1 (FloatOps.cmpfTotal .gt) x h).1 (ix2 0 r) = x (ix2 0 (place x (wide r))) := by
  exact (slice_at h _ r).trans (sort_at (fun l r => FloatOps.cmpfTotal .gt l.1 r.1) x columns (wide r)).1

/-- The kernel's top-k indices. -/
theorem top_index (r : Fin 4096) :
    (Host.topK KernelIdeal.S1x4096 1 (FloatOps.cmpfTotal .gt) x h).2 (ix2 0 r) = BitVec.ofNat 32 (place x (wide r)) := by
  refine (slice_at h _ r).trans ((sort_at (fun l r => FloatOps.cmpfTotal .gt l.1 r.1) x columns (wide r)).2.trans ?_)
  unfold columns
  rw [dif_pos (by decide)]
  rfl

/-- The reference's comparison of negated scores is the kernel's comparison of scores. -/
theorem compare_eq (a b : EReal) (i j : BitVec 32) :
    ReferenceIdeal.comparator_f32_i32_d1 (F := Ideal) (-a, i) (-b, j) = Ideal.cmpTotal .gt a b := by
  have hself : ∀ z : EReal, Scalar.select (Ideal.cmp .une z z) (FloatOps.ofBits (F := Ideal) .f32 0x7FC00000#32 : EReal)
      (Scalar.select (Ideal.cmp .oeq z (FloatOps.ofBits (F := Ideal) .f32 0x00000000#32 : EReal))
        (FloatOps.ofBits (F := Ideal) .f32 0x00000000#32 : EReal) z) = z := by
    intro z
    have e0 : (FloatOps.ofBits (F := Ideal) .f32 0x00000000#32 : EReal) = 0 := Ideal.ofBits_zero .f32
    rw [e0]
    by_cases hz : z = 0 <;> simp [Ideal.cmp, Scalar.select, hz]
  rw [show (ReferenceIdeal.comparator_f32_i32_d1 (F := Ideal) (-a, i) (-b, j)) = Ideal.cmpTotal .lt
      (Scalar.select (Ideal.cmp .une (-a) (-a)) (FloatOps.ofBits (F := Ideal) .f32 0x7FC00000#32 : EReal)
        (Scalar.select (Ideal.cmp .oeq (-a) (FloatOps.ofBits (F := Ideal) .f32 0x00000000#32 : EReal))
          (FloatOps.ofBits (F := Ideal) .f32 0x00000000#32 : EReal) (-a)))
      (Scalar.select (Ideal.cmp .une (-b) (-b)) (FloatOps.ofBits (F := Ideal) .f32 0x7FC00000#32 : EReal)
        (Scalar.select (Ideal.cmp .oeq (-b) (FloatOps.ofBits (F := Ideal) .f32 0x00000000#32 : EReal))
          (FloatOps.ofBits (F := Ideal) .f32 0x00000000#32 : EReal) (-b))) from rfl, hself, hself]
  simp [Ideal.cmpTotal, Ideal.cmp, CmpDirection.ordered]

open ReferenceIdeal ReferenceIdeal.Value in
/-- The reference's sorted keypoint numbers. -/
theorem sorted_index (V0 : Valuation τ sig (Elt Ideal)) (k : Fin 32768) :
    res_main_v319 V0 (ix2 0 k) = BitVec.ofNat 32 (place (res_main_v317 V0) k) := by
  unfold res_main_v319
  refine (sort_at _ _ _ k).2.trans ?_
  have e : (fun k k' : Fin 32768 => comparator_f32_i32_d1 (F := Ideal)
        (res_main_v318 V0 (ix2 0 k), res_main_call22_v0 V0 (ix2 0 k))
        (res_main_v318 V0 (ix2 0 k'), res_main_call22_v0 V0 (ix2 0 k')) == 1#1)
      = fun k k' => Ideal.cmpTotal .gt (res_main_v317 V0 (ix2 0 k)) (res_main_v317 V0 (ix2 0 k')) == 1#1 :=
    funext fun k => funext fun k' => congrArg (· == 1#1) (compare_eq _ _ _ _)
  exact (congrArg (fun p => res_main_call22_v0 V0 (ix2 0 (sortedFrom p k))) e).trans rfl

end Cert.Order
end
-- ==== Proof.RefPlaces.lean ====
/- The reference's positions and scores, row by row, and the sampling quantities it derives from them. -/
module

public import proofs.«01_k».proof.Proof.Picks
public import proofs.«01_k».proof.Proof.Order

@[expose] public section

set_option maxRecDepth 16384

noncomputable section

namespace Cert.RefPlaces

open Idealize.ShloMosaic Idealize.ShloMosaic.StableHlo Idealize.ShloMosaic.TcCoe Idealize.SL.Sem
open Cert.ReferenceIdeal Cert.ReferenceIdeal.Gen Cert.ReferenceIdeal.Value Cert.Order

/-- Two rows of words side by side, cut to the result's length and converted. -/
def pair (a b : IVec S1x32768 32) : FVec Ideal S1x4096x2 .f32 :=
  sitofp .f32 (concatenate S1x4096x2 2 [⟨S1x4096x1, (broadcastInDim S1x4096x1 ![0, 1] bcast_S1x4096_S1x4096x1_0_1 (extractStridedSlice S1x4096 ![0, 0] a slices_S1x32768_S1x4096_0_0))⟩, ⟨S1x4096x1, (broadcastInDim S1x4096x1 ![0, 1] bcast_S1x4096_S1x4096x1_0_1 (extractStridedSlice S1x4096 ![0, 0] b slices_S1x32768_S1x4096_0_0))⟩] concatenates_S1x4096x1_S1x4096x1_S1x4096x2_d2)

/-- Either column of such a pair. -/
theorem pair_at (a b : IVec S1x32768 32) (r : Fin 4096) :
    pair a b (ix3 0 r 0) = FloatOps.sitofp (F := Ideal) .f32 (a (ix2 0 (wide r)))
      ∧ pair a b (ix3 0 r 1) = FloatOps.sitofp (F := Ideal) .f32 (b (ix2 0 (wide r))) := by
  constructor <;> pointwise [pair, wide]

/-- The first coordinate of the keypoints, as a row. -/
theorem first_at {α : Type} (x : S1x32768x2.Idx → α) (p : Fin 32768) :
    shapeCast S1x32768 (extractStridedSlice S1x32768x1 ![0, 0, 0] x slices_S1x32768x2_S1x32768x1_0_0_0) shapeCasts_S1x32768x1_S1x32768 (ix2 0 p)
      = x (ix3 0 p 0) := by
  pointwise

/-- The second coordinate of the keypoints, as a row. -/
theorem second_at {α : Type} (x : S1x32768x2.Idx → α) (p : Fin 32768) :
    shapeCast S1x32768 (extractStridedSlice S1x32768x1 ![0, 0, 1] x slices_S1x32768x2_S1x32768x1_0_0_1) shapeCasts_S1x32768x1_S1x32768 (ix2 0 p)
      = x (ix3 0 p 1) := by
  pointwise

variable (V0 : Valuation τ sig (Elt Ideal)) (r : Fin 4096)

/-- The keypoint in row `r`. -/
abbrev at_ : Fin 32768 := place (res_main_v317 V0) (wide r)

/-- The position's horizontal coordinate. -/
theorem x_at : res_main_v331 V0 (ix3 0 r 0) = FloatOps.sitofp (F := Ideal) .f32 (res_main_v57 V0 (ix3 0 (at_ V0 r) 0)) :=
  (show res_main_v331 V0 (ix3 0 r 0) = pair (Picks.referenceTake _ _ (res_main_v319 V0)) (Picks.referenceTake _ _ (res_main_v319 V0)) (ix3 0 r 0)
    from rfl).trans ((pair_at _ _ r).1.trans (congrArg (FloatOps.sitofp (F := Ideal) .f32)
      ((Picks.referenceTake_at _ _ _ _ _ (sorted_index V0 (wide r))).trans (first_at _ _))))

/-- The position's vertical coordinate. -/
theorem y_at : res_main_v331 V0 (ix3 0 r 1) = FloatOps.sitofp (F := Ideal) .f32 (res_main_v57 V0 (ix3 0 (at_ V0 r) 1)) :=
  (show res_main_v331 V0 (ix3 0 r 1) = pair (Picks.referenceTake _ _ (res_main_v319 V0)) (Picks.referenceTake _ _ (res_main_v319 V0)) (ix3 0 r 1)
    from rfl).trans ((pair_at _ _ r).2.trans (congrArg (FloatOps.sitofp (F := Ideal) .f32)
      ((Picks.referenceTake_at _ _ _ _ _ (sorted_index V0 (wide r))).trans (second_at _ _))))

/-- The sampling positions. -/
theorem pos_at : res_main_v350 V0 (ix2 0 r) = Spec.pos (res_main_v331 V0 (ix3 0 r 0))
    ∧ res_main_v360 V0 (ix2 0 r) = Spec.pos (res_main_v331 V0 (ix3 0 r 1)) := by
  constructor <;> pointwise [res_main_v350, res_main_v360, res_main_v340, Spec.pos]

/-- The sampling positions, rounded down. -/
theorem low_at : res_main_v361 V0 (ix2 0 r) = Spec.low (res_main_v331 V0 (ix3 0 r 0))
    ∧ res_main_v362 V0 (ix2 0 r) = Spec.low (res_main_v331 V0 (ix3 0 r 1)) := by
  unfold Spec.low
  rw [← (pos_at V0 r).1, ← (pos_at V0 r).2]
  constructor <;> pointwise [res_main_v361, res_main_v362]

/-- How far they lie past their roundings. -/
theorem frac_at : res_main_v370 V0 (ix1 r) = Spec.frac (res_main_v331 V0 (ix3 0 r 0))
    ∧ res_main_v428 V0 (ix1 r) = Spec.frac (res_main_v331 V0 (ix3 0 r 1)) := by
  unfold Spec.frac
  rw [← (pos_at V0 r).1, ← (pos_at V0 r).2, ← (low_at V0 r).1, ← (low_at V0 r).2]
  constructor <;> pointwise [res_main_v370, res_main_v428]

/-- A tap is the cell and the tap's offset. -/
theorem tap_eq (p : EReal) (d : Fin 4) : IntOp.addi (Spec.cell p) (IntOp.subi (BitVec.ofNat 32 d) 1#32) = Spec.tap p d := by
  match d with
  | 0 => rfl
  | 1 => rfl
  | 2 => rfl
  | 3 => rfl

/-- The vertical taps. -/
theorem down_at (d : Fin 4) : res_main_v492 V0 (ix3 r d 0) = Spec.tap (res_main_v331 V0 (ix3 0 r 1)) d := by
  rw [← tap_eq]
  unfold Spec.cell
  rw [← (low_at V0 r).2]
  pointwise [res_main_v492, res_main_v369]

/-- The horizontal taps. -/
theorem across_at (e : Fin 4) : res_main_v498 V0 (ix3 r 0 e) = Spec.tap (res_main_v331 V0 (ix3 0 r 0)) e := by
  rw [← tap_eq]
  unfold Spec.cell
  rw [← (low_at V0 r).1]
  pointwise [res_main_v498, res_main_v369]

end Cert.RefPlaces
end
-- ==== Proof.Bicubic.lean ====
/- The identity between the two ways of sampling: weights spread over the whole 80-grid and summed there, against the grid
   read at the four clamped taps and masked where a tap lies outside. Real arithmetic, one dimension at a time. -/
module

public import Idealize.ShloMosaic.Lib.Pointwise

@[expose] public section

noncomputable section

namespace Cert.Bicubic

open Idealize.ShloMosaic

/-- Whether the word, read as a signed integer, is a coordinate of the 80-grid. -/
def inside (w : BitVec 32) : Prop := 0 ≤ w.toInt ∧ w.toInt < 80

instance (w : BitVec 32) : Decidable (inside w) := by unfold inside; infer_instance

/-- The coordinate clamped into the 80-grid. -/
def clamp (w : BitVec 32) : Fin 80 := ⟨(max 0 (min 79 w.toInt)).toNat, by omega⟩

/-- A grid coordinate equals a word exactly when the word lies inside and clamps to that coordinate. -/
theorem ofNat_eq_iff (k : Fin 80) (w : BitVec 32) : BitVec.ofNat 32 k = w ↔ inside w ∧ clamp w = k := by
  have hk := k.isLt
  have hi : (BitVec.ofNat 32 k.val).toInt = (k.val : ℤ) := by
    rw [BitVec.toInt_eq_toNat_of_lt (by rw [BitVec.toNat_ofNat]; omega), BitVec.toNat_ofNat]; omega
  constructor
  · intro h
    subst h
    refine ⟨?_, Fin.ext ?_⟩
    · unfold inside; omega
    · simp only [clamp, hi]; omega
  · rintro ⟨⟨h0, h1⟩, hc⟩
    apply BitVec.eq_of_toInt_eq
    have := congrArg Fin.val hc
    simp only [clamp] at this
    omega

/-- A weight placed at a word and summed against a function of the grid reads the function at the clamped word, if inside. -/
theorem sum_hit (w : BitVec 32) (a : ℝ) (f : Fin 80 → ℝ) :
    ∑ k : Fin 80, (if BitVec.ofNat 32 k = w then a else 0) * f k = if inside w then a * f (clamp w) else 0 := by
  by_cases h : inside w
  · rw [if_pos h, Finset.sum_eq_single (clamp w)]
    · rw [if_pos ((ofNat_eq_iff _ _).2 ⟨h, rfl⟩)]
    · intro k _ hk
      rw [if_neg (fun e => hk ((ofNat_eq_iff _ _).1 e).2.symm), zero_mul]
    · intro hk; exact absurd (Finset.mem_univ _) hk
  · rw [if_neg h]
    exact Finset.sum_eq_zero fun k _ => by rw [if_neg (fun e => h ((ofNat_eq_iff _ _).1 e).1), zero_mul]

/-- The same for four taps together. -/
theorem sum_taps (w : Fin 4 → BitVec 32) (a : Fin 4 → ℝ) (f : Fin 80 → ℝ) :
    ∑ k : Fin 80, (∑ d, if BitVec.ofNat 32 k = w d then a d else 0) * f k
      = ∑ d, if inside (w d) then a d * f (clamp (w d)) else 0 := by
  simp only [Finset.sum_mul]
  rw [Finset.sum_comm]
  exact Finset.sum_congr rfl fun d _ => sum_hit (w d) (a d) f

/-- Sampling by spread weights in both dimensions is sampling at the sixteen clamped and masked taps. -/
theorem sample (M : Fin 80 → Fin 80 → ℝ) (wy wx : Fin 4 → BitVec 32) (a b : Fin 4 → ℝ) :
    ∑ x : Fin 80, (∑ y : Fin 80, (∑ d, if BitVec.ofNat 32 y = wy d then a d else 0) * M y x)
        * (∑ e, if BitVec.ofNat 32 x = wx e then b e else 0)
      = ∑ d, ∑ e, M (clamp (wy d)) (clamp (wx e)) * (if inside (wy d) ∧ inside (wx e) then 1 else 0) * b e * a d := by
  have h1 : ∀ x : Fin 80, (∑ y : Fin 80, (∑ d, if BitVec.ofNat 32 y = wy d then a d else 0) * M y x)
      = ∑ d, if inside (wy d) then a d * M (clamp (wy d)) x else 0 := fun x => sum_taps wy a fun y => M y x
  simp only [h1]
  have h2 : ∀ x : Fin 80, (∑ d, if inside (wy d) then a d * M (clamp (wy d)) x else 0)
        * (∑ e, if BitVec.ofNat 32 x = wx e then b e else 0)
      = (∑ e, if BitVec.ofNat 32 x = wx e then b e else 0) * ∑ d, if inside (wy d) then a d * M (clamp (wy d)) x else 0 :=
    fun x => mul_comm _ _
  simp only [h2]
  rw [sum_taps wx b fun x => ∑ d, if inside (wy d) then a d * M (clamp (wy d)) x else 0, Finset.sum_comm]
  refine Finset.sum_congr rfl fun e _ => ?_
  by_cases he : inside (wx e)
  · simp only [he, if_true, and_true, Finset.mul_sum]
    refine Finset.sum_congr rfl fun d _ => ?_
    by_cases hd : inside (wy d)
    · simp only [hd, if_true]; ring
    · simp only [hd, if_false]; ring
  · simp only [he, if_false, and_false]
    simp

end Cert.Bicubic

end
-- ==== Proof.RefFeatures.lean ====
/- The reference's descriptors: each is the weighted sum of the sixteen taps around the position, out-of-grid taps left out. -/
module

public import proofs.«01_k».proof.Proof.RefPlaces
public import proofs.«01_k».proof.Proof.Bicubic

@[expose] public section

set_option maxRecDepth 16384

noncomputable section

namespace Cert.RefFeatures

open Idealize.ShloMosaic Idealize.ShloMosaic.StableHlo Idealize.ShloMosaic.TcCoe Idealize.SL.Sem
open Cert.ReferenceIdeal Cert.ReferenceIdeal.Gen Cert.ReferenceIdeal.Value Cert.Bicubic

/-- The four cubic weights of every row, from the four distances. -/
def quartet (u v w z : FVec Ideal S4096 .f32) : FVec Ideal S4096x4 .f32 :=
  concatenate S4096x4 1 [⟨S4096x1, (broadcastInDim S4096x1 ![0] bcast_S4096_S4096x1_0 (subf (addf (subf (mulf (broadcastInDim S4096 ![] bcast_S_S4096 (constant S_ .f32 0xBF400000#32)) (mulf (mulf u u) u)) (mulf (broadcastInDim S4096 ![] bcast_S_S4096 (constant S_ .f32 0xC0700000#32)) (mulf u u))) (mulf (broadcastInDim S4096 ![] bcast_S_S4096 (constant S_ .f32 0xC0C00000#32)) u)) (broadcastInDim S4096 ![] bcast_S_S4096 (constant S_ .f32 0xC0400000#32))))⟩, ⟨S4096x1, (broadcastInDim S4096x1 ![0] bcast_S4096_S4096x1_0 (addf (subf (mulf (broadcastInDim S4096 ![] bcast_S_S4096 (constant S_ .f32 0x3FA00000#32)) (mulf (mulf v v) v)) (mulf (broadcastInDim S4096 ![] bcast_S_S4096 (constant S_ .f32 0x40100000#32)) (mulf v v))) (broadcastInDim S4096 ![] bcast_S_S4096 (constant S_ .f32 0x3F800000#32))))⟩, ⟨S4096x1, (broadcastInDim S4096x1 ![0] bcast_S4096_S4096x1_0 (addf (subf (mulf (broadcastInDim S4096 ![] bcast_S_S4096 (constant S_ .f32 0x3FA00000#32)) (mulf (mulf w w) w)) (mulf (broadcastInDim S4096 ![] bcast_S_S4096 (constant S_ .f32 0x40100000#32)) (mulf w w))) (broadcastInDim S4096 ![] bcast_S_S4096 (constant S_ .f32 0x3F800000#32))))⟩, ⟨S4096x1, (broadcastInDim S4096x1 ![0] bcast_S4096_S4096x1_0 (subf (addf (subf (mulf (broadcastInDim S4096 ![] bcast_S_S4096 (constant S_ .f32 0xBF400000#32)) (mulf (mulf z z) z)) (mulf (broadcastInDim S4096 ![] bcast_S_S4096 (constant S_ .f32 0xC0700000#32)) (mulf z z))) (mulf (broadcastInDim S4096 ![] bcast_S_S4096 (constant S_ .f32 0xC0C00000#32)) z)) (broadcastInDim S4096 ![] bcast_S_S4096 (constant S_ .f32 0xC0400000#32))))⟩] concatenates_S4096x1_S4096x1_S4096x1_S4096x1_S4096x4_d1

/-- They are the weights around a position, where the distances are its. -/
theorem quartet_at (u v w z : FVec Ideal S4096 .f32) (r : Fin 4096) (p : EReal) (hu : u (ix1 r) = Spec.frac p + 1) (hv : v (ix1 r) = Spec.frac p)
    (hw : w (ix1 r) = 1 - Spec.frac p) (hz : z (ix1 r) = Ideal.ofBits .f32 0x40000000#32 - Spec.frac p) (j : Fin 4) :
    quartet u v w z (ix2 r j) = Spec.weight p j := by
  match j with
  | 0 => pointwise [quartet, Spec.weight, Spec.outer]; rw [hu, mul_comm (_ * _) (Spec.frac p + 1)]
  | 1 => pointwise [quartet, Spec.weight, Spec.inner]; rw [hv, mul_comm (_ * _) (Spec.frac p)]
  | 2 => pointwise [quartet, Spec.weight, Spec.inner]; rw [hw, mul_comm (_ * _) (1 - Spec.frac p)]
  | 3 => pointwise [quartet, Spec.weight, Spec.outer]; rw [hz, mul_comm (_ * _) (_ - Spec.frac p)]

/-- The map scaled column by column. -/
def source (a : FVec Ideal S1x64x80x80 .f32) : FVec Ideal S64x80x80 .f32 :=
  shapeCast _ (Host.divf a (broadcastInDim S1x64x80x80 ![0, 1, 2, 3] bcast_S1x1x80x80_S1x64x80x80_0_1_2_3 (maximumf (Host.sqrt (broadcastInDim S1x1x80x80 ![0, 2, 3] bcast_S1x80x80_S1x1x80x80_0_2_3 (Host.reduceAdd (mulf a a) (constant S_ .f32 0x00000000#32) reducesTo_S1x64x80x80_S1x80x80_d1 h_S_))) (broadcastInDim S1x1x80x80 ![] bcast_S_S1x1x80x80 (constant S_ .f32 0x2B8CBCCC#32))))) shapeCasts_S1x64x80x80_S64x80x80

/-- An entry of it. -/
theorem source_at (a : FVec Ideal S1x64x80x80 .f32) (c : Fin 64) (y x : Fin 80) :
    source a (ix3 c y x) = Spec.unit (fun k => a (ix4 0 k y x)) c := by
  pointwise [source, Spec.unit]

/-- The start indices of the gather. -/
def indices (y : IVec S4096x4x1 32) (x : IVec S4096x1x4 32) : IVec S4096x4x4x2 32 :=
  concatenate S4096x4x4x2 3 [⟨S4096x4x4x1, (broadcastInDim S4096x4x4x1 ![0, 1, 2] bcast_S4096x4x4_S4096x4x4x1_0_1_2 (broadcastInDim S4096x4x4 ![0, 1, 2] bcast_S4096x4x1_S4096x4x4_0_1_2 (select (cmpi .slt y (broadcastInDim S4096x4x1 ![] bcast_S_S4096x4x1 (constantI S_ 32 0#32))) (addi y (broadcastInDim S4096x4x1 ![] bcast_S_S4096x4x1 (constantI S_ 32 80#32))) y)))⟩, ⟨S4096x4x4x1, (broadcastInDim S4096x4x4x1 ![0, 1, 2] bcast_S4096x4x4_S4096x4x4x1_0_1_2 (broadcastInDim S4096x4x4 ![0, 1, 2] bcast_S4096x1x4_S4096x4x4_0_1_2 (select (cmpi .slt x (broadcastInDim S4096x1x4 ![] bcast_S_S4096x1x4 (constantI S_ 32 0#32))) (addi x (broadcastInDim S4096x1x4 ![] bcast_S_S4096x1x4 (constantI S_ 32 80#32))) x)))⟩] concatenates_S4096x4x4x1_S4096x4x4x1_S4096x4x4x2_d3

/-- A negative coordinate counted from the far end. -/
def wrap (w : BitVec 32) : BitVec 32 := Scalar.select (IntOp.cmpi .slt w 0#32) (IntOp.addi w 80#32) w

/-- A start index. -/
theorem indices_at (y : IVec S4096x4x1 32) (x : IVec S4096x1x4 32) (r : Fin 4096) (d e : Fin 4) :
    indices y x (ix4 r d e 0) = wrap (y (ix3 r d 0)) ∧ indices y x (ix4 r d e 1) = wrap (x (ix3 r 0 e)) := by
  constructor <;> pointwise [indices, wrap]

/-- Whether a tap lies in the grid. -/
def within (y : IVec S4096x4x1 32) (x : IVec S4096x1x4 32) : IVec S4096x4x4 1 :=
  andi (andi (broadcastInDim S4096x4x4 ![0, 1, 2] bcast_S4096x4x1_S4096x4x4_0_1_2 (andi (cmpi .sge y (broadcastInDim S4096x4x1 ![] bcast_S_S4096x4x1 (constantI S_ 32 0#32))) (cmpi .slt y (broadcastInDim S4096x4x1 ![] bcast_S_S4096x4x1 (constantI S_ 32 80#32))))) (broadcastInDim S4096x4x4 ![0, 1, 2] bcast_S4096x1x4_S4096x4x4_0_1_2 (cmpi .sge x (broadcastInDim S4096x1x4 ![] bcast_S_S4096x1x4 (constantI S_ 32 0#32))))) (broadcastInDim S4096x4x4 ![0, 1, 2] bcast_S4096x1x4_S4096x4x4_0_1_2 (cmpi .slt x (broadcastInDim S4096x1x4 ![] bcast_S_S4096x1x4 (constantI S_ 32 80#32))))

/-- Its bit. -/
theorem within_at (y : IVec S4096x4x1 32) (x : IVec S4096x1x4 32) (r : Fin 4096) (d e : Fin 4) :
    FloatOps.uitofp (F := Ideal) .f32 (within y x (ix3 r d e)) = if inside (y (ix3 r d 0)) ∧ inside (x (ix3 r 0 e)) then 1 else 0 := by
  pointwise [within]
  generalize y (ix3 r d 0) = a
  generalize x (ix3 r 0 e) = b
  have h0 : (0#32).toInt = 0 := rfl
  have h80 : (80#32).toInt = 80 := rfl
  by_cases a0 : 0 ≤ a.toInt <;> by_cases a1 : a.toInt < 80 <;> by_cases b0 : 0 ≤ b.toInt <;> by_cases b1 : b.toInt < 80 <;>
    simp [IntOp.andi, IntOp.cmpi, BitVec.sle, BitVec.slt, inside, h0, h80, a0, a1, b0, b1, FloatOps.uitofp]

/-- A coordinate clamped into the grid, in the program's words. -/
theorem clamp_words (w : BitVec 32) :
    min (wrap (IntOp.minsi 79#32 (IntOp.maxsi 0#32 w))).toInt.toNat (80 - 1) = clamp w := by
  have h0 : (0#32).toInt = 0 := rfl
  have h79 : (79#32).toInt = 79 := rfl
  have hmax : (IntOp.maxsi 0#32 w).toInt = max 0 w.toInt := by
    unfold IntOp.maxsi
    rw [BitVec.slt, h0]
    by_cases h : w.toInt < 0
    · rw [if_pos (by simpa using h), h0]; omega
    · rw [if_neg (by simpa using h)]; omega
  have hmin : (IntOp.minsi 79#32 (IntOp.maxsi 0#32 w)).toInt = min 79 (max 0 w.toInt) := by
    unfold IntOp.minsi
    rw [BitVec.slt, h79, hmax]
    by_cases h : 79 < max 0 w.toInt
    · rw [if_pos (by simpa using h), h79]; omega
    · rw [if_neg (by simpa using h), hmax]; omega
  have hw : wrap (IntOp.minsi 79#32 (IntOp.maxsi 0#32 w)) = IntOp.minsi 79#32 (IntOp.maxsi 0#32 w) := by
    have : ¬ min 79 (max 0 w.toInt) < 0 := by omega
    simp only [wrap, IntOp.cmpi, BitVec.slt, hmin, h0, this, decide_false]
    rfl
  rw [hw, hmin]
  unfold clamp
  dsimp only
  omega

/-- A descriptor entry: the taps' map entries, weighted. -/
def feature (M : Fin 80 → Fin 80 → EReal) (px py : EReal) : EReal :=
  ∑ d : Fin 4, ∑ e : Fin 4, M (clamp (Spec.tap py d)) (clamp (Spec.tap px e))
    * (if inside (Spec.tap py d) ∧ inside (Spec.tap px e) then 1 else 0) * Spec.weight px e * Spec.weight py d

/-- The last sum and the change of layout. -/
def collect (v : FVec Ideal S64x4096x4x4 .f32) (w : FVec Ideal S4096x4 .f32) : FVec Ideal S1x4096x64 .f32 :=
  transpose S1x4096x64 [0, 2, 1] (broadcastInDim S1x64x4096 ![1, 2] bcast_S64x4096_S1x64x4096_1_2 (Host.reduceAdd (mulf v (broadcastInDim S64x4096x4x4 ![0, 1, 2, 3] bcast_S1x4096x4x1_S64x4096x4x4_0_1_2_3 (broadcastInDim S1x4096x4x1 ![1, 2] bcast_S4096x4_S1x4096x4x1_1_2 w))) (constant S_ .f32 0x00000000#32) reducesTo_S64x4096x4x4_S64x4096_d2_3 h_S_)) transposes_S1x64x4096_S1x4096x64_0_2_1

/-- An entry of it. -/
theorem collect_at (v : FVec Ideal S64x4096x4x4 .f32) (w : FVec Ideal S4096x4 .f32) (r : Fin 4096) (c : Fin 64) :
    collect v w (ix3 0 r c) = ∑ d : Fin 4, ∑ e : Fin 4, v (ix4 c r d e) * w (ix2 r d) := by
  pointwise [collect]

/-- The taps, masked and weighted across. -/
def masked (g : FVec Ideal S64x4096x4x4 .f32) (k : IVec S4096x4x4 1) (w : FVec Ideal S4096x4 .f32) : FVec Ideal S64x4096x4x4 .f32 :=
  mulf (mulf g (broadcastInDim S64x4096x4x4 ![0, 1, 2, 3] bcast_S1x4096x4x4_S64x4096x4x4_0_1_2_3 (uitofp .f32 (broadcastInDim S1x4096x4x4 ![1, 2, 3] bcast_S4096x4x4_S1x4096x4x4_1_2_3 k))))
    (broadcastInDim S64x4096x4x4 ![0, 1, 2, 3] bcast_S1x4096x1x4_S64x4096x4x4_0_1_2_3 (broadcastInDim S1x4096x1x4 ![1, 3] bcast_S4096x4_S1x4096x1x4_1_3 w))

/-- An entry of it. -/
theorem masked_at (g : FVec Ideal S64x4096x4x4 .f32) (k : IVec S4096x4x4 1) (w : FVec Ideal S4096x4 .f32) (c : Fin 64) (r : Fin 4096) (d e : Fin 4) :
    masked g k w (ix4 c r d e) = g (ix4 c r d e) * FloatOps.uitofp (F := Ideal) .f32 (k (ix3 r d e)) * w (ix2 r e) := by
  pointwise [masked]

variable (V0 : Valuation τ sig (Elt Ideal)) (r : Fin 4096)

/-- The map as given. -/
abbrev given : FVec Ideal S1x64x80x80 .f32 := V0 (Proc.devRef .tc main_arg0)

/-- A gathered entry. -/
theorem gathered_at (c : Fin 64) (d e : Fin 4) :
    Host.gather gather_S64x80x80_S4096x4x4x2_S64x4096x4x4_0_12_n_n_12_3_6411 (source (given V0)) (indices (res_main_v513 V0) (res_main_v514 V0)) (ix4 c r d e)
      = Spec.unit (fun k => given V0 (ix4 0 k (clamp (Spec.tap (res_main_v331 V0 (ix3 0 r 1)) d)) (clamp (Spec.tap (res_main_v331 V0 (ix3 0 r 0)) e)))) c := by
  have hg := Take.map_at (C := 64) (H := 80) (W := 80) (n := 4096) (p := 4) (q := 4) (by decide) (by decide)
    gather_S64x80x80_S4096x4x4x2_S64x4096x4x4_0_12_n_n_12_3_6411.wf (source (given V0)) (indices (res_main_v513 V0) (res_main_v514 V0)) c r d e
  refine hg.trans ((source_at _ _ _ _).trans ?_)
  have hy : res_main_v513 V0 (ix3 r d 0) = IntOp.minsi 79#32 (IntOp.maxsi 0#32 (Spec.tap (res_main_v331 V0 (ix3 0 r 1)) d)) := by
    rw [← RefPlaces.down_at]; pointwise [res_main_v513]; rfl
  have hx : res_main_v514 V0 (ix3 r 0 e) = IntOp.minsi 79#32 (IntOp.maxsi 0#32 (Spec.tap (res_main_v331 V0 (ix3 0 r 0)) e)) := by
    rw [← RefPlaces.across_at]; pointwise [res_main_v514]; rfl
  have iy := congrArg (fun w : BitVec 32 => min w.toInt.toNat (80 - 1)) ((indices_at (res_main_v513 V0) (res_main_v514 V0) r d e).1.trans (congrArg wrap hy))
  have ix := congrArg (fun w : BitVec 32 => min w.toInt.toNat (80 - 1)) ((indices_at (res_main_v513 V0) (res_main_v514 V0) r d e).2.trans (congrArg wrap hx))
  have ey := Fin.ext (a := ⟨_, by omega⟩) (iy.trans (clamp_words _))
  have ex := Fin.ext (a := ⟨_, by omega⟩) (ix.trans (clamp_words _))
  exact congrArg₂ (fun y x => Spec.unit (fun k => given V0 (ix4 0 k y x)) c) ey ex

/-- The reference's descriptors before their scaling. -/
theorem feature_at (c : Fin 64) : res_main_v543 V0 (ix3 0 r c)
    = feature (fun y x => Spec.unit (fun k => given V0 (ix4 0 k y x)) c) (res_main_v331 V0 (ix3 0 r 0)) (res_main_v331 V0 (ix3 0 r 1)) := by
  have e537 : res_main_v537 V0 = masked (Host.gather gather_S64x80x80_S4096x4x4x2_S64x4096x4x4_0_12_n_n_12_3_6411 (source (given V0)) (indices (res_main_v513 V0) (res_main_v514 V0)))
      (within (res_main_v492 V0) (res_main_v498 V0)) (quartet (res_main_v372 V0) (res_main_v370 V0) (res_main_v374 V0) (res_main_v376 V0)) := rfl
  have e543 : res_main_v543 V0 = collect (res_main_v537 V0) (quartet (res_main_v430 V0) (res_main_v428 V0) (res_main_v432 V0) (res_main_v434 V0)) := rfl
  have qx := quartet_at (res_main_v372 V0) (res_main_v370 V0) (res_main_v374 V0) (res_main_v376 V0) r (res_main_v331 V0 (ix3 0 r 0))
    (by rw [← (RefPlaces.frac_at V0 r).1]; pointwise [res_main_v372]) (RefPlaces.frac_at V0 r).1
    (by rw [← (RefPlaces.frac_at V0 r).1]; pointwise [res_main_v374]) (by rw [← (RefPlaces.frac_at V0 r).1]; pointwise [res_main_v376])
  have qy := quartet_at (res_main_v430 V0) (res_main_v428 V0) (res_main_v432 V0) (res_main_v434 V0) r (res_main_v331 V0 (ix3 0 r 1))
    (by rw [← (RefPlaces.frac_at V0 r).2]; pointwise [res_main_v430]) (RefPlaces.frac_at V0 r).2
    (by rw [← (RefPlaces.frac_at V0 r).2]; pointwise [res_main_v432]) (by rw [← (RefPlaces.frac_at V0 r).2]; pointwise [res_main_v434])
  refine (congrArg (fun z : FVec Ideal S1x4096x64 .f32 => z (ix3 0 r c)) (e543.trans (congrArg (collect · _) e537))).trans ((collect_at _ _ r c).trans ?_)
  unfold feature
  refine Finset.sum_congr rfl fun d _ => Finset.sum_congr rfl fun e _ => ?_
  rw [masked_at, gathered_at, within_at, qx, qy, RefPlaces.down_at, RefPlaces.across_at]

end Cert.RefFeatures
end
-- ==== Proof.Feature.lean ====
/- The kernel's two matrix products over the lanes are the sum over the sixteen taps. -/
module

public import proofs.«01_k».proof.Proof.Real
public import proofs.«01_k».proof.Proof.Row
public import proofs.«01_k».proof.Proof.RefFeatures

@[expose] public section

noncomputable section

namespace Cert.Feature

open Idealize.ShloMosaic Cert.Bicubic

/-- A finite sum of reals, as an extended real. -/
theorem coe_sum {ι : Type} [Fintype ι] (f : ι → ℝ) : ∑ i, (f i : EReal) = ((∑ i, f i : ℝ) : EReal) := by
  classical
  have : ∀ s : Finset ι, ∑ i ∈ s, (f i : EReal) = ((∑ i ∈ s, f i : ℝ) : EReal) := by
    intro s
    induction s using Finset.induction_on with
    | empty => rfl
    | insert a s ha ih => rw [Finset.sum_insert ha, Finset.sum_insert ha, ih, EReal.coe_add]
  exact this Finset.univ

/-- A sum over the lanes that keeps one channel's is a sum over the grid columns. -/
theorem sum_lanes (f : ℕ → ℝ) (c : Fin 64) :
    ∑ l : Fin 5120, f l * (if (l : ℕ) % 64 = c then 1 else 0) = ∑ x : Fin 80, f (c + 64 * x) := by
  rw [← (finProdFinEquiv (m := 80) (n := 64)).sum_comp, Fintype.sum_prod_type]
  refine Finset.sum_congr rfl fun x _ => ?_
  rw [Finset.sum_eq_single c]
  · rw [if_pos (by show (c + 64 * x : ℕ) % 64 = c; omega), mul_one]; rfl
  · intro k _ hk
    rw [if_neg (by show ¬ (k + 64 * x : ℕ) % 64 = c; intro h; exact hk (Fin.ext (by omega))), mul_zero]
  · intro h; exact absurd (Finset.mem_univ c) h

/-- The kernel's descriptor entry is the reference's. -/
theorem raw_eq (M : Fin 64 → Fin 80 → Fin 80 → EReal) (hM : ∀ c y x, Spec.IsReal (M c y x)) {px py : EReal} (hx : Spec.IsReal px) (hy : Spec.IsReal py)
    (m : FVec Ideal KernelIdeal.S80x5120 .f32) (sel : FVec Ideal KernelIdeal.S5120x64 .f32)
    (hm : ∀ (y : Fin 80) (l : Fin 5120), m (ix2 y l) = M ⟨l % 64, by omega⟩ y ⟨l / 64, by omega⟩)
    (hs : ∀ (l : Fin 5120) (c : Fin 64), sel (ix2 l c) = if (l : ℕ) % 64 = c then 1 else 0) (c : Fin 64) :
    Row.raw px py m sel c = RefFeatures.feature (M c) px py := by
  choose R hR using hM
  choose b hb using fun j => Spec.weight_isReal hx j
  choose a ha using fun j => Spec.weight_isReal hy j
  have ite_coe : ∀ (q : Prop) [Decidable q], (if q then 1 else 0 : EReal) = ((if q then 1 else 0 : ℝ) : EReal) := by
    intro q _; split <;> rfl
  have hf : RefFeatures.feature (M c) px py
      = ((∑ d, ∑ e, R c (clamp (Spec.tap py d)) (clamp (Spec.tap px e)) * (if inside (Spec.tap py d) ∧ inside (Spec.tap px e) then 1 else 0) * b e * a d : ℝ) : EReal) := by
    unfold RefFeatures.feature
    simp only [hR, ha, hb, ite_coe, ← EReal.coe_mul, coe_sum]
  have hk : Row.raw px py m sel c
      = ((∑ l : Fin 5120, (∑ y : Fin 80, (∑ d, if BitVec.ofNat 32 y = Spec.tap py d then a d else 0) * R ⟨l % 64, by omega⟩ y ⟨l / 64, by omega⟩)
          * (∑ e, if BitVec.ofNat 32 (l / 64) = Spec.tap px e then b e else 0) * (if (l : ℕ) % 64 = c then 1 else 0) : ℝ) : EReal) := by
    unfold Row.raw
    simp only [Spec.line_coe b hb, Spec.line_coe a ha, hm, hs, hR, ite_coe, ← EReal.coe_mul, coe_sum]
  rw [hk, hf, ← sample]
  refine congrArg _ ?_
  let f : ℕ → ℝ := fun l => (∑ y : Fin 80, (∑ d, if BitVec.ofNat 32 y = Spec.tap py d then a d else 0) * R (Fin.ofNat 64 l) y (Fin.ofNat 80 (l / 64)))
          * (∑ e, if BitVec.ofNat 32 (l / 64) = Spec.tap px e then b e else 0)
  have h1 := sum_lanes f c
  refine Eq.trans (Finset.sum_congr rfl fun l _ => ?_) (h1.trans (Finset.sum_congr rfl fun x _ => ?_))
  · have e1 : (⟨(l : ℕ) % 64, by omega⟩ : Fin 64) = Fin.ofNat 64 l := rfl
    have e2 : (⟨(l : ℕ) / 64, by omega⟩ : Fin 80) = Fin.ofNat 80 (l / 64) := Fin.ext (Nat.mod_eq_of_lt (by omega)).symm
    rw [e1, e2]
  · have e1 : Fin.ofNat 64 (c + 64 * x) = c := Fin.ext (by show (c + 64 * x : ℕ) % 64 = c; omega)
    have e2 : (c + 64 * x : ℕ) / 64 = x := by omega
    have e3 : Fin.ofNat 80 (x : ℕ) = x := Fin.ext (Nat.mod_eq_of_lt x.isLt)
    show (∑ y : Fin 80, (∑ d, if BitVec.ofNat 32 y = Spec.tap py d then a d else 0) * R (Fin.ofNat 64 (c + 64 * x)) y (Fin.ofNat 80 ((c + 64 * x) / 64)))
          * (∑ e, if BitVec.ofNat 32 ((c + 64 * x) / 64) = Spec.tap px e then b e else 0) = _
    rw [e1, e2, e3]

end Cert.Feature
end
-- ==== Proof.Normed.lean ====
/- The first kernel scales every column of the map to unit length. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.Normed

open Idealize.ShloMosaic Idealize.ShloMosaic.TcCoe Idealize.SL.Sem
open Cert.KernelIdeal Cert.KernelIdeal.Gen
open Idealize.ShloMosaic.Pipeline (Dat)

section Body
variable (x : FVec Ideal S64x6400 .f32) (l : Fin 6400)

/-- The square of entry `k` of a column. -/
def square (k : ℕ) : EReal := x (ix2 (Fin.ofNat 64 k) l) * x (ix2 (Fin.ofNat 64 k) l)

/-- The sum of a column's first squares, added in order. -/
def total : ℕ → EReal
  | 0 => 0
  | n + 1 => total n + square x l n

/-- All of a column's squares. -/
theorem total_all : total x l 64 = ∑ k : Fin 64, x (ix2 k l) * x (ix2 k l) := by
  have h : ∀ n, total x l n = ∑ k ∈ Finset.range n, square x l k := by
    intro n
    induction n with
    | zero => rfl
    | succ n ih => rw [Finset.sum_range_succ, ← ih]; rfl
  rw [h, Finset.sum_range]
  refine Finset.sum_congr rfl fun k _ => ?_
  have : Fin.ofNat 64 (k : ℕ) = k := Fin.ext (Nat.mod_eq_of_lt k.isLt)
  rw [square, this]

/-- The body's copy of the map is the map. -/
theorem copy_eq : k0_pay2 (F := Ideal) x = x := by
  funext i
  obtain ⟨a, b, rfl⟩ : ∃ (a : Fin 64) (b : Fin 6400), i = ix2 a b := ⟨i 0, i 1, by blk_ext []⟩
  pointwise [k0_pay2]

/-- The first nine squares. -/
theorem part1 : k0_pay3 (F := Ideal) x (ix1 l) = total x l 9 := by
  unfold k0_pay3
  rw [copy_eq]
  pointwise
  simp only [total, zero_add]
  rfl

/-- The entries the first part hands on. -/
theorem hand1 : k0_pay4 (F := Ideal) x (ix1 l) = x (ix2 9 l) ∧ k0_pay5 (F := Ideal) x (ix2 0 l) = x (ix2 9 l) := by
  unfold k0_pay4 k0_pay5
  rw [copy_eq]
  constructor <;> pointwise

variable (s a : FVec Ideal S6400 .f32) (b : FVec Ideal S1x6400 .f32)

/-- Ten more squares, to the 19th. -/
theorem part2 (hs : s (ix1 l) = total x l 9) (ha : a (ix1 l) = x (ix2 9 l)) (hb : b (ix2 0 l) = x (ix2 9 l)) :
    k0_pay6 (F := Ideal) x s a b (ix1 l) = total x l 19 := by
  pointwise [k0_pay6]
  rw [hs, ha, hb]
  rfl

/-- The entries the next part hands on. -/
theorem hand2 : k0_pay7 (F := Ideal) x (ix1 l) = x (ix2 19 l) ∧ k0_pay8 (F := Ideal) x (ix2 0 l) = x (ix2 19 l) := by
  constructor <;> pointwise [k0_pay7, k0_pay8]

/-- Ten more squares, to the 29th. -/
theorem part3 (hs : s (ix1 l) = total x l 19) (ha : a (ix1 l) = x (ix2 19 l)) (hb : b (ix2 0 l) = x (ix2 19 l)) :
    k0_pay9 (F := Ideal) x s a b (ix1 l) = total x l 29 := by
  pointwise [k0_pay9]
  rw [hs, ha, hb]
  rfl

/-- The entries the next part hands on. -/
theorem hand3 : k0_pay10 (F := Ideal) x (ix1 l) = x (ix2 29 l) ∧ k0_pay11 (F := Ideal) x (ix2 0 l) = x (ix2 29 l) := by
  constructor <;> pointwise [k0_pay10, k0_pay11]

/-- Ten more squares, to the 39th. -/
theorem part4 (hs : s (ix1 l) = total x l 29) (ha : a (ix1 l) = x (ix2 29 l)) (hb : b (ix2 0 l) = x (ix2 29 l)) :
    k0_pay12 (F := Ideal) x s a b (ix1 l) = total x l 39 := by
  pointwise [k0_pay12]
  rw [hs, ha, hb]
  rfl

/-- The entries the next part hands on. -/
theorem hand4 : k0_pay13 (F := Ideal) x (ix1 l) = x (ix2 39 l) ∧ k0_pay14 (F := Ideal) x (ix2 0 l) = x (ix2 39 l) := by
  constructor <;> pointwise [k0_pay13, k0_pay14]

/-- Ten more squares, to the 49th. -/
theorem part5 (hs : s (ix1 l) = total x l 39) (ha : a (ix1 l) = x (ix2 39 l)) (hb : b (ix2 0 l) = x (ix2 39 l)) :
    k0_pay15 (F := Ideal) x s a b (ix1 l) = total x l 49 := by
  pointwise [k0_pay15]
  rw [hs, ha, hb]
  rfl

/-- The entries the next part hands on. -/
theorem hand5 : k0_pay16 (F := Ideal) x (ix1 l) = x (ix2 49 l) ∧ k0_pay17 (F := Ideal) x (ix2 0 l) = x (ix2 49 l) := by
  constructor <;> pointwise [k0_pay16, k0_pay17]

/-- Ten more squares, to the 59th. -/
theorem part6 (hs : s (ix1 l) = total x l 49) (ha : a (ix1 l) = x (ix2 49 l)) (hb : b (ix2 0 l) = x (ix2 49 l)) :
    k0_pay18 (F := Ideal) x s a b (ix1 l) = total x l 59 := by
  pointwise [k0_pay18]
  rw [hs, ha, hb]
  rfl

/-- The entries the next part hands on. -/
theorem hand6 : k0_pay19 (F := Ideal) x (ix1 l) = x (ix2 59 l) ∧ k0_pay20 (F := Ideal) x (ix2 0 l) = x (ix2 59 l) := by
  constructor <;> pointwise [k0_pay19, k0_pay20]

/-- The last squares, the root and the division. -/
theorem part7 (k : Fin 64) (hs : s (ix1 l) = total x l 59) (ha : a (ix1 l) = x (ix2 59 l)) (hb : b (ix2 0 l) = x (ix2 59 l)) :
    k0_pay1 (F := Ideal) x s a b (ix2 k l) = Spec.unit (fun j => x (ix2 j l)) k := by
  pointwise [k0_pay1]
  rw [hs, ha, hb]
  unfold Spec.unit
  rw [← total_all]
  rfl

/-- The block the body stores. -/
theorem stored_at (k : Fin 64) : out0_1 (F := Ideal) x (ix2 k l) = Spec.unit (fun j => x (ix2 j l)) k := by
  unfold_out out0_1
  frame_out
  rw [copy_eq]
  have h1 := hand1 x l
  have h2 := hand2 x l
  have h3 := hand3 x l
  have h4 := hand4 x l
  have h5 := hand5 x l
  have h6 := hand6 x l
  exact part7 x l _ _ _ k (part6 x l _ _ _ (part5 x l _ _ _ (part4 x l _ _ _ (part3 x l _ _ _ (part2 x l _ _ _ (part1 x l) h1.1 h1.2)
    h2.1 h2.2) h3.1 h3.2) h4.1 h4.2) h5.1 h5.2) h6.1 h6.2

end Body

variable (V : (c : Dev nD) → (b : Ref sig .tc) → Buf (Elt Ideal) ((c : Thread nD τ).loc b)) (c : Dev nD)

/-- The map as the first kernel finds it. -/
def given : FVec Ideal S64x6400 .f32 := V c main_call0_v0

/-- The map as the first kernel leaves it. -/
def result : FVec Ideal S64x6400 .f32 := fun i => Spec.unit (fun j => given V c (ix2 j (i 1))) (i 0)

/-- The one block of either array is the whole of it. -/
theorem maps : ∀ t : Fin cfg0.N, win0_0.index t = ![0, 0] ∧ win0_1.index t = ![0, 0] :=
  (by decide +kernel : ∀ t : Fin grid0.N, _)

/-- The block the body reads. -/
theorem given_at (t : Fin cfg0.N) : iblk0 V c 0 t = given V c := by
  funext y
  refine congrArg (V c main_call0_v0) ?_
  blk_ext [(maps t).1]

/-- The first kernel's array at its end. -/
theorem final : (dat0 V c).arrAt 1 cfg0.N = result V c := by
  refine (dat0 V c).arrAt_eq_of_covers 1 _ (by decide +kernel) fun t hf y => ?_
  blk_simp
  rw [after0_1, given_at]
  have e : ((View.whole main_call0_v1).slice (win0_1.rect t)).emb y = ix2 (n0 := 64) (n1 := 6400) (y 0) (y 1) := by
    blk_ext [(maps t).2]
  rw [e]
  have ey : y = ix2 (n0 := 64) (n1 := 6400) (y 0) (y 1) := by blk_ext []
  exact (congrArg _ ey).trans (stored_at _ _ _)

end Cert.Normed
end
-- ==== Proof.LockStep.lean ====
/-
  Two lines of host operations that perform the same functions on corresponding buffers leave corresponding buffers
  with the same contents.  The buffers of both programs are numbered; a short list of pairs and a constant shift of the
  numbers say which buffers correspond.
-/
module

public import Idealize.ShloMosaic.Lib.StableHlo.Run

@[expose] public section

namespace Cert.LockStep

open Idealize.ShloMosaic Idealize.ShloMosaic.StableHlo Idealize.ShloMosaic.TcCoe Idealize.SL.Sem

variable {τ τ' : Topo} {sig sig' : RefSig} {Val : EltTy → Type}

/-- Buffer number `i` of the first program corresponds to buffer number `j` of the second: a listed pair, or from `b`
    on the number shifted by `d`. -/
def Corr (S : List (Nat × Nat)) (b d i j : Nat) : Prop := (i, j) ∈ S ∨ (b ≤ i ∧ j = i + d)

instance (S : List (Nat × Nat)) (b d i j : Nat) : Decidable (Corr S b d i j) :=
  inferInstanceAs (Decidable (_ ∨ _))

/-- Two references correspond and lie below the numbers `n` and `n + d`. -/
def Rel (S : List (Nat × Nat)) (b d n : Nat) (r : Ref sig .tc) (r' : Ref sig' .tc) : Prop :=
  r.space = .hbm ∧ r'.space = .hbm ∧ Corr S b d r.idx.val r'.idx.val ∧ r.idx.val < n ∧ r'.idx.val < n + d

instance (S : List (Nat × Nat)) (b d n : Nat) (r : Ref sig .tc) (r' : Ref sig' .tc) : Decidable (Rel S b d n r r') :=
  inferInstanceAs (Decidable (_ ∧ _))

/-- The two valuations hold the same contents at corresponding buffers below `n`. -/
def Agree (S : List (Nat × Nat)) (b d n : Nat) (V : Valuation τ sig Val) (V' : Valuation τ' sig' Val) : Prop :=
  ∀ (r : Ref sig .tc) (r' : Ref sig' .tc), Rel S b d n r r' → HEq (V (Proc.devRef .tc r)) (V' (Proc.devRef .tc r'))

/-- The two references are the next ones: numbers `n` and `n + d`. -/
def Next (d n : Nat) (y : Ref sig .tc) (y' : Ref sig' .tc) : Prop :=
  y.space = .hbm ∧ y'.space = .hbm ∧ y.idx.val = n ∧ y'.idx.val = n + d

instance (d n : Nat) (y : Ref sig .tc) (y' : Ref sig' .tc) : Decidable (Next d n y y') :=
  inferInstanceAs (Decidable (_ ∧ _))

/-- A device reference of high-bandwidth memory is its number. -/
theorem ref_eq {r s : Ref sig .tc} (hr : r.space = .hbm) (hs : s.space = .hbm) (h : r.idx.val = s.idx.val) : r = s := by
  obtain ⟨sp, i, hi⟩ := r
  obtain ⟨sp', j, hj⟩ := s
  simp only at hr hs h
  subst hr hs
  have : i = j := Fin.ext h
  subst this
  rfl

/-- One operation on each side, of the same function on corresponding buffers, each writing its program's next buffer. -/
inductive Same (S : List (Nat × Nat)) (b d n : Nat) : HloOp τ sig Val → HloOp τ' sig' Val → Prop
  | nullary {y : Ref sig .tc} {y' : Ref sig' .tc} {v v'} {hy hy'} (hn : Next d n y y') (hv : HEq v v') :
      Same S b d n (StableHlo.nullary y v hy) (StableHlo.nullary y' v' hy')
  | unary {x y : Ref sig .tc} {x' y' : Ref sig' .tc} {f f'} {hx hy hx' hy'} (hn : Next d n y y')
      (rx : Rel S b d n x x') (tx : x.ty = x'.ty) (ty : y.ty = y'.ty) (hf : HEq f f') :
      Same S b d n (StableHlo.unary x y f hx hy) (StableHlo.unary x' y' f' hx' hy')
  | reshape {x y : Ref sig .tc} {x' y' : Ref sig' .tc} {he hc he' hc'} {hx hy hx' hy'} (hn : Next d n y y')
      (rx : Rel S b d n x x') (tx : x.ty = x'.ty) (ty : y.ty = y'.ty) :
      Same S b d n (StableHlo.reshape x y he hc hx hy) (StableHlo.reshape x' y' he' hc' hx' hy')
  | binary {x z y : Ref sig .tc} {x' z' y' : Ref sig' .tc} {f f'} {hx hz hy hx' hz' hy'} (hn : Next d n y y')
      (rx : Rel S b d n x x') (rz : Rel S b d n z z') (tx : x.ty = x'.ty) (tz : z.ty = z'.ty) (ty : y.ty = y'.ty)
      (hf : HEq f f') :
      Same S b d n (StableHlo.binary x z y f hx hz hy) (StableHlo.binary x' z' y' f' hx' hz' hy')
  | ternary {w x z y : Ref sig .tc} {w' x' z' y' : Ref sig' .tc} {f f'} {hw hx hz hy hw' hx' hz' hy'}
      (hn : Next d n y y')
      (rw : Rel S b d n w w') (rx : Rel S b d n x x') (rz : Rel S b d n z z')
      (tw : w.ty = w'.ty) (tx : x.ty = x'.ty) (tz : z.ty = z'.ty) (ty : y.ty = y'.ty) (hf : HEq f f') :
      Same S b d n (StableHlo.ternary w x z y f hw hx hz hy) (StableHlo.ternary w' x' z' y' f' hw' hx' hz' hy')

/-- The two lines are the same, operation for operation, from buffer `n` up to buffer `m`. -/
inductive Lock (S : List (Nat × Nat)) (b d : Nat) :
    Nat → List (HloOp τ sig Val) → List (HloOp τ' sig' Val) → Nat → Prop
  | nil (n : Nat) : Lock S b d n [] [] n
  | cons {n m : Nat} {op : HloOp τ sig Val} {op' : HloOp τ' sig' Val} {l l'} (h : Same S b d n op op')
      (t : Lock S b d (n + 1) l l' m) : Lock S b d n (op :: l) (op' :: l') m

/-- Equal functions of equal contents, over types that are equal. -/
theorem heq_app {x : Ref sig .tc} {x' : Ref sig' .tc} {y : Ref sig .tc} {y' : Ref sig' .tc}
    {f : x.ty.Contents Val → y.ty.Contents Val} {f' : x'.ty.Contents Val → y'.ty.Contents Val} {v v'}
    (tx : x.ty = x'.ty) (ty : y.ty = y'.ty) (hf : HEq f f') (hv : HEq v v') : HEq (f v) (f' v') := by
  revert f f' v v'
  generalize x.ty = A at tx
  generalize y.ty = B at ty
  subst tx ty
  intro f f' v v' hf hv
  cases hf; cases hv; rfl

/-- The same for functions of two contents. -/
theorem heq_app₂ {A A' B B' C C' : BufTy} {f : A.Contents Val → B.Contents Val → C.Contents Val}
    {f' : A'.Contents Val → B'.Contents Val → C'.Contents Val} {u u' v v'}
    (ha : A = A') (hb : B = B') (hc : C = C') (hf : HEq f f') (hu : HEq u u') (hv : HEq v v') :
    HEq (f u v) (f' u' v') := by
  subst ha hb hc
  cases hf; cases hu; cases hv; rfl

/-- The same for functions of three contents. -/
theorem heq_app₃ {A A' B B' C C' D D' : BufTy} {f : A.Contents Val → B.Contents Val → C.Contents Val → D.Contents Val}
    {f' : A'.Contents Val → B'.Contents Val → C'.Contents Val → D'.Contents Val} {u u' v v' w w'}
    (ha : A = A') (hb : B = B') (hc : C = C') (hd : D = D') (hf : HEq f f') (hu : HEq u u') (hv : HEq v v')
    (hw : HEq w w') : HEq (f u v w) (f' u' v' w') := by
  subst ha hb hc hd
  cases hf; cases hu; cases hv; cases hw; rfl

/-- A reshape of equal contents is the same contents. -/
theorem heq_reshape {A A' B B' : BufTy} {u : A.Contents Val} {u' : A'.Contents Val} (ha : A = A') (hb : B = B')
    (he : A.elt = B.elt) (he' : A'.elt = B'.elt) (hc : A.shape.ShapeCasts B.shape) (hc' : A'.shape.ShapeCasts B'.shape)
    (hu : HEq u u') :
    HEq (fun i => he ▸ shapeCast B.shape u hc i : B.Contents Val) (fun i => he' ▸ shapeCast B'.shape u' hc' i : B'.Contents Val) := by
  subst ha hb
  cases hu; rfl

/-- Writing the next buffer of each side keeps the agreement below it and extends it, when the new contents are equal. -/
theorem Agree.next {S : List (Nat × Nat)} {b d n : Nat} {op : HloOp τ sig Val} {op' : HloOp τ' sig' Val}
    {V : Valuation τ sig Val} {V' : Valuation τ' sig' Val} {y : Ref sig .tc} {y' : Ref sig' .tc}
    (hS : ∀ p ∈ S, p.1 < b ∧ p.2 < b + d) (hb : b ≤ n) (h : Agree S b d n V V') (hn : Next d n y y')
    (hw : op.writes = {Proc.devRef .tc y}) (hw' : op'.writes = {Proc.devRef .tc y'})
    (hy : HEq (op.result V (Proc.devRef .tc y)) (op'.result V' (Proc.devRef .tc y'))) :
    Agree S b d (n + 1) (op.result V) (op'.result V') := by
  intro r r' hr
  obtain ⟨s, s', hc, hlt, hlt'⟩ := hr
  obtain ⟨n₁, n₂, n₃, n₄⟩ := hn
  by_cases e : r.idx.val = n
  · have e' : r'.idx.val = n + d := by
      rcases hc with hc | hc
      · have := (hS _ hc).1; simp only at this; omega
      · omega
    obtain rfl := ref_eq s n₁ (e.trans n₃.symm)
    obtain rfl := ref_eq s' n₂ (e'.trans n₄.symm)
    exact hy
  · have e' : r'.idx.val ≠ n + d := by
      rcases hc with hc | hc
      · have := (hS _ hc).2; simp only at this; omega
      · omega
    have ne : r ≠ y := fun h => e (by rw [h]; exact n₃)
    have ne' : r' ≠ y' := fun h => e' (by rw [h]; exact n₄)
    rw [result_of_writes_ne op V y r hw ne, result_of_writes_ne op' V' y' r' hw' ne']
    exact h r r' ⟨s, s', hc, by omega, by omega⟩

/-- One operation on each side keeps the agreement. -/
theorem Agree.step {S : List (Nat × Nat)} {b d n : Nat} {op : HloOp τ sig Val} {op' : HloOp τ' sig' Val}
    {V : Valuation τ sig Val} {V' : Valuation τ' sig' Val}
    (hS : ∀ p ∈ S, p.1 < b ∧ p.2 < b + d) (hb : b ≤ n) (h : Agree S b d n V V') (hs : Same S b d n op op') :
    Agree S b d (n + 1) (op.result V) (op'.result V') := by
  cases hs with
  | nullary hn hv =>
    refine h.next hS hb hn (nullary_writes ..) (nullary_writes ..) ?_
    rw [nullary_result, nullary_result]; exact hv
  | unary hn rx tx ty hf =>
    refine h.next hS hb hn (unary_writes ..) (unary_writes ..) ?_
    rw [unary_result, unary_result]; exact heq_app tx ty hf (h _ _ rx)
  | reshape hn rx tx ty =>
    refine h.next hS hb hn (reshape_writes ..) (reshape_writes ..) ?_
    rw [reshape_result, reshape_result]; exact heq_reshape tx ty _ _ _ _ (h _ _ rx)
  | binary hn rx rz tx tz ty hf =>
    refine h.next hS hb hn (binary_writes ..) (binary_writes ..) ?_
    rw [binary_result, binary_result]; exact heq_app₂ tx tz ty hf (h _ _ rx) (h _ _ rz)
  | ternary hn rw' rx rz tw tx tz ty hf =>
    refine h.next hS hb hn (ternary_writes ..) (ternary_writes ..) ?_
    rw [ternary_result, ternary_result]; exact heq_app₃ tw tx tz ty hf (h _ _ rw') (h _ _ rx) (h _ _ rz)

/-! The same operation where the first program, or both, spell it over typed references. -/

section Typed

variable {S : List (Nat × Nat)} {b d n : Nat} {A B C D A' B' C' D' : BufTy}

/-- A constant, typed on the left. -/
theorem Same.nullaryL {y : TRef sig A} {y' : Ref sig' .tc} {v v'} {hy'} (hn : Next d n y.ref y') (hv : HEq v v')
    (ty : A = y'.ty) :
    Same S b d n (TRef.nullary (τ := τ) (Val := Val) y v) (StableHlo.nullary (τ := τ') y' v' hy') := by
  obtain ⟨y, rfl, _, _⟩ := y
  exact .nullary hn hv

/-- A constant, typed on both sides. -/
theorem Same.nullaryT {y : TRef sig A} {y' : TRef sig' A'} {v v'} (hn : Next d n y.ref y'.ref) (hv : HEq v v') (ty : A = A') :
    Same S b d n (TRef.nullary (τ := τ) (Val := Val) y v) (TRef.nullary (τ := τ') y' v') := by
  obtain ⟨y', rfl, _, _⟩ := y'
  exact .nullaryL hn hv ty

/-- An operation of one operand, typed on the left. -/
theorem Same.unaryL {x : TRef sig A} {y : TRef sig B} {x' y' : Ref sig' .tc} {f f'} {hx' hy'}
    (hn : Next d n y.ref y') (rx : Rel S b d n x.ref x') (tx : A = x'.ty) (ty : B = y'.ty) (hf : HEq f f') :
    Same S b d n (TRef.unary (τ := τ) (Val := Val) x y f) (StableHlo.unary (τ := τ') x' y' f' hx' hy') := by
  obtain ⟨x, rfl, _, _⟩ := x
  obtain ⟨y, rfl, _, _⟩ := y
  exact .unary hn rx tx ty hf

/-- An operation of one operand, typed on both sides. -/
theorem Same.unaryT {x : TRef sig A} {y : TRef sig B} {x' : TRef sig' A'} {y' : TRef sig' B'} {f f'}
    (hn : Next d n y.ref y'.ref) (rx : Rel S b d n x.ref x'.ref) (tx : A = A') (ty : B = B') (hf : HEq f f') :
    Same S b d n (TRef.unary (τ := τ) (Val := Val) x y f) (TRef.unary (τ := τ') x' y' f') := by
  obtain ⟨x', rfl, _, _⟩ := x'
  obtain ⟨y', rfl, _, _⟩ := y'
  exact .unaryL hn rx tx ty hf

/-- A reshape, typed on the left. -/
theorem Same.reshapeL {x : TRef sig A} {y : TRef sig B} {x' y' : Ref sig' .tc} {he hc he' hc'} {hx' hy'}
    (hn : Next d n y.ref y') (rx : Rel S b d n x.ref x') (tx : A = x'.ty) (ty : B = y'.ty) :
    Same S b d n (TRef.reshape (τ := τ) (Val := Val) x y he hc) (StableHlo.reshape (τ := τ') x' y' he' hc' hx' hy') := by
  obtain ⟨x, rfl, _, _⟩ := x
  obtain ⟨y, rfl, _, _⟩ := y
  exact .reshape hn rx tx ty

/-- An operation of two operands, typed on the left. -/
theorem Same.binaryL {x : TRef sig A} {z : TRef sig B} {y : TRef sig C} {x' z' y' : Ref sig' .tc} {f f'} {hx' hz' hy'}
    (hn : Next d n y.ref y') (rx : Rel S b d n x.ref x') (rz : Rel S b d n z.ref z') (tx : A = x'.ty) (tz : B = z'.ty)
    (ty : C = y'.ty) (hf : HEq f f') :
    Same S b d n (TRef.binary (τ := τ) (Val := Val) x z y f) (StableHlo.binary (τ := τ') x' z' y' f' hx' hz' hy') := by
  obtain ⟨x, rfl, _, _⟩ := x
  obtain ⟨z, rfl, _, _⟩ := z
  obtain ⟨y, rfl, _, _⟩ := y
  exact .binary hn rx rz tx tz ty hf

/-- An operation of two operands, typed on both sides. -/
theorem Same.binaryT {x : TRef sig A} {z : TRef sig B} {y : TRef sig C} {x' : TRef sig' A'} {z' : TRef sig' B'}
    {y' : TRef sig' C'} {f f'}
    (hn : Next d n y.ref y'.ref) (rx : Rel S b d n x.ref x'.ref) (rz : Rel S b d n z.ref z'.ref)
    (tx : A = A') (tz : B = B') (ty : C = C') (hf : HEq f f') :
    Same S b d n (TRef.binary (τ := τ) (Val := Val) x z y f) (TRef.binary (τ := τ') x' z' y' f') := by
  obtain ⟨x', rfl, _, _⟩ := x'
  obtain ⟨z', rfl, _, _⟩ := z'
  obtain ⟨y', rfl, _, _⟩ := y'
  exact .binaryL hn rx rz tx tz ty hf

/-- An operation of three operands, typed on the left. -/
theorem Same.ternaryL {w : TRef sig A} {x : TRef sig B} {z : TRef sig C} {y : TRef sig D} {w' x' z' y' : Ref sig' .tc}
    {f f'} {hw' hx' hz' hy'}
    (hn : Next d n y.ref y') (rw : Rel S b d n w.ref w') (rx : Rel S b d n x.ref x') (rz : Rel S b d n z.ref z')
    (tw : A = w'.ty) (tx : B = x'.ty) (tz : C = z'.ty) (ty : D = y'.ty) (hf : HEq f f') :
    Same S b d n (TRef.ternary (τ := τ) (Val := Val) w x z y f)
      (StableHlo.ternary (τ := τ') w' x' z' y' f' hw' hx' hz' hy') := by
  obtain ⟨w, rfl, _, _⟩ := w
  obtain ⟨x, rfl, _, _⟩ := x
  obtain ⟨z, rfl, _, _⟩ := z
  obtain ⟨y, rfl, _, _⟩ := y
  exact .ternary hn rw rx rz tw tx tz ty hf

/-- An operation of three operands, typed on both sides. -/
theorem Same.ternaryT {w : TRef sig A} {x : TRef sig B} {z : TRef sig C} {y : TRef sig D} {w' : TRef sig' A'}
    {x' : TRef sig' B'} {z' : TRef sig' C'} {y' : TRef sig' D'} {f f'}
    (hn : Next d n y.ref y'.ref) (rw : Rel S b d n w.ref w'.ref) (rx : Rel S b d n x.ref x'.ref)
    (rz : Rel S b d n z.ref z'.ref)
    (tw : A = A') (tx : B = B') (tz : C = C') (ty : D = D') (hf : HEq f f') :
    Same S b d n (TRef.ternary (τ := τ) (Val := Val) w x z y f) (TRef.ternary (τ := τ') w' x' z' y' f') := by
  obtain ⟨w', rfl, _, _⟩ := w'
  obtain ⟨x', rfl, _, _⟩ := x'
  obtain ⟨z', rfl, _, _⟩ := z'
  obtain ⟨y', rfl, _, _⟩ := y'
  exact .ternaryL hn rw rx rz tw tx tz ty hf

end Typed

/-- Two lines that are the same keep the agreement. -/
theorem Agree.lock {S : List (Nat × Nat)} {b d n m : Nat} {l : List (HloOp τ sig Val)} {l' : List (HloOp τ' sig' Val)}
    (hS : ∀ p ∈ S, p.1 < b ∧ p.2 < b + d) (hl : Lock S b d n l l' m) :
    ∀ {V : Valuation τ sig Val} {V' : Valuation τ' sig' Val}, b ≤ n → Agree S b d n V V' →
      b ≤ m ∧ Agree S b d m (after l V) (after l' V') := by
  induction hl with
  | nil n => intro V V' hb h; exact ⟨hb, h⟩
  | cons hs _ ih => intro V V' hb h; exact ih (by omega) (h.step hS hb hs)

end Cert.LockStep
-- ==== Proof.Prefix.lean ====
/-
  The kernel's host code between its two kernels and the reference begin alike: the same operations on corresponding
  buffers, from the heat map to the masked scores.
-/
module

public import proofs.«01_k».proof.Proof.LockStep
public import proofs.«01_k».proof.Proof.Gen.KernelIdeal.Launch
public import proofs.«01_k».proof.Proof.Gen.ReferenceIdeal.Run

@[expose] public section

set_option maxRecDepth 16384
set_option maxHeartbeats 4000000

namespace Cert.Prefix

open Idealize.ShloMosaic Idealize.ShloMosaic.StableHlo Cert.LockStep

variable {F : FTy → Type} [FloatOps F]

/-- The buffers below the shift: the arguments, and the kernel's two copies of the constant image extent. -/
def pairs : List (Nat × Nat) := [(0, 0), (1, 1), (2, 2), (3, 3), (3, 4), (3, 5), (4, 3), (4, 4), (4, 5)]

noncomputable abbrev kops : List (HloOp KernelIdeal.τ KernelIdeal.sig (Elt F)) := KernelIdeal.Gen.hostOps1

/-- The reference's operations. -/
noncomputable abbrev rops : List (HloOp ReferenceIdeal.τ ReferenceIdeal.sig (Elt F)) := ReferenceIdeal.Value.ops

/-- The kernel's first 555 host operations after its first kernel are the reference's operations 13 to 567. -/
theorem lock : Lock pairs 7 9 7 ((kops (F := F)).take 555) (((rops (F := F)).drop 13).take 555) 562 := by
  simp only [kops, rops, KernelIdeal.Gen.hostOps1, ReferenceIdeal.Value.ops, ReferenceIdeal.Value.ops_part0, ReferenceIdeal.Value.ops_part1, ReferenceIdeal.Value.ops_part2, ReferenceIdeal.Value.ops_part3, ReferenceIdeal.Value.ops_part4, ReferenceIdeal.Value.ops_part5, ReferenceIdeal.Value.ops_part6, ReferenceIdeal.Value.ops_part7, ReferenceIdeal.Value.ops_part0_0, ReferenceIdeal.Value.ops_part0_1, ReferenceIdeal.Value.ops_part0_2, ReferenceIdeal.Value.ops_part0_3, ReferenceIdeal.Value.ops_part0_4, ReferenceIdeal.Value.ops_part1_0, ReferenceIdeal.Value.ops_part1_1, ReferenceIdeal.Value.ops_part1_2, ReferenceIdeal.Value.ops_part2_0, ReferenceIdeal.Value.ops_part2_1, ReferenceIdeal.Value.ops_part2_2, ReferenceIdeal.Value.ops_part3_0, ReferenceIdeal.Value.ops_part3_1, ReferenceIdeal.Value.ops_part3_2, ReferenceIdeal.Value.ops_part4_0, ReferenceIdeal.Value.ops_part4_1, ReferenceIdeal.Value.ops_part4_2, ReferenceIdeal.Value.ops_part5_0, ReferenceIdeal.Value.ops_part5_1, ReferenceIdeal.Value.ops_part5_2, ReferenceIdeal.Value.ops_part6_0, ReferenceIdeal.Value.ops_part6_1, ReferenceIdeal.Value.ops_part6_2, ReferenceIdeal.Value.ops_part7_0,
    List.cons_append, List.nil_append, List.take_succ_cons, List.take_zero, List.drop_succ_cons, List.drop_zero]
  repeat' first
    | with_reducible exact .nil _
    | with_reducible refine .cons ?_ ?_
    | with_unfolding_none refine .unaryT ?_ ?_ ?_ ?_ ?_
    | with_unfolding_none refine .unaryL ?_ ?_ ?_ ?_ ?_
    | with_unfolding_none refine .binaryT ?_ ?_ ?_ ?_ ?_ ?_ ?_
    | with_unfolding_none refine .binaryL ?_ ?_ ?_ ?_ ?_ ?_ ?_
    | with_unfolding_none refine .nullaryT ?_ ?_ ?_
    | with_unfolding_none refine .nullaryL ?_ ?_ ?_
    | with_unfolding_none refine .ternaryT ?_ ?_ ?_ ?_ ?_ ?_ ?_ ?_ ?_
    | with_unfolding_none refine .ternaryL ?_ ?_ ?_ ?_ ?_ ?_ ?_ ?_ ?_
    | with_unfolding_none refine .reshapeL ?_ ?_ ?_ ?_
    | exact (rfl : (_ : BufTy) = _)
    | decide +kernel
    | exact HEq.rfl

end Cert.Prefix
-- ==== Proof.Shared.lean ====
/- The kernel's masked scores and keypoints are the reference's: both programs reach them by the same operations. -/
module

public import proofs.«01_k».proof.Proof.Prefix
public import proofs.«01_k».proof.Proof.Gen.KernelIdeal.Frame

@[expose] public section

set_option maxRecDepth 16384

noncomputable section

namespace Cert.Shared

open Idealize.ShloMosaic Idealize.ShloMosaic.StableHlo Idealize.ShloMosaic.TcCoe Idealize.SL.Sem
open Cert.LockStep Cert.Prefix

variable {F : FTy → Type} [FloatOps F]

namespace Ref

open Cert.ReferenceIdeal Cert.ReferenceIdeal.Value

variable (V0 : Valuation τ sig (Elt F))

/-- The reference's first 568 operations, by its windows. -/
theorem windows : (rops (F := F)).take 13 ++ ((rops (F := F)).drop 13).take 555
    = ops_part0 ++ (ops_part1 ++ (ops_part2 ++ (ops_part3 ++ (ops_part4 ++ (ops_part5 ++ (ops_part6 ++ ops_part7_0.take 15)))))) :=
  rfl

/-- What they leave is what the last of them leave after the generated snapshot before them. -/
theorem after_take : after (((rops (F := F)).drop 13).take 555) (after ((rops (F := F)).take 13) V0)
    = after (ops_part7_0.take 15) (val7 V0) := by
  rw [← after_append, windows]
  simp only [ops_part0, ops_part1, ops_part2, ops_part3, ops_part4, ops_part5, ops_part6, after_append]
  rfl

set_option maxHeartbeats 2000000 in
/-- The masked scores after them. -/
theorem scores : after (((rops (F := F)).drop 13).take 555) (after ((rops (F := F)).take 13) V0) (Proc.devRef .tc main_v317)
    = res_main_v317 V0 := by
  rw [after_take]
  simp only [ops_part7_0, List.take_succ_cons, List.take_zero, TRef.binary, TRef.nullary, TRef.reshape, TRef.ternary, TRef.unary, TRef.toBuf, TRef.ofBuf, cast_eq]
  after_results_simp
  simp only [val7_main_v153, val7_main_v151, val7_main_v307, val7_main_v273, val7_main_v120, val7_main_v57] <;> rfl

/-- The keypoints after them. -/
theorem points : after (((rops (F := F)).drop 13).take 555) (after ((rops (F := F)).take 13) V0) (Proc.devRef .tc main_v57)
    = res_main_v57 V0 := by
  rw [after_take]
  simp only [ops_part7_0, List.take_succ_cons, List.take_zero, TRef.binary, TRef.nullary, TRef.reshape, TRef.ternary, TRef.unary, TRef.toBuf, TRef.ofBuf, cast_eq]
  after_results_simp
  simp only [val7_main_v57]

/-- The first thirteen operations leave the arguments, and set the image extent. -/
theorem start : (∀ a ∈ [main_arg0, main_arg1, main_arg2], after ((rops (F := F)).take 13) V0 (Proc.devRef .tc a) = V0 (Proc.devRef .tc a))
    ∧ after ((rops (F := F)).take 13) V0 (Proc.devRef .tc main_cst) = constant S2 .f32 0x441FC000#32
    ∧ after ((rops (F := F)).take 13) V0 (Proc.devRef .tc main_cst_0) = constant S2 .f32 0x441FC000#32
    ∧ after ((rops (F := F)).take 13) V0 (Proc.devRef .tc main_cst_1) = constant S2 .f32 0x441FC000#32 := by
  simp only [rops, ops, ops_part0, List.cons_append, List.nil_append, List.take_succ_cons, List.take_zero]
  refine ⟨?_, ?_, ?_, ?_⟩
  · simp only [List.forall_mem_cons, List.not_mem_nil, false_imp_iff, implies_true, and_true]
    refine ⟨?_, ?_, ?_⟩ <;> after_results_simp
  all_goals after_results_simp

end Ref

open Cert.KernelIdeal Cert.KernelIdeal.Gen

variable (m : (ℓ : Loc nD τ sig) → Buf (Elt F) ℓ) (ρ : Dev nD → PrngReg) (c : Dev nD)
  (V0 : Valuation ReferenceIdeal.τ ReferenceIdeal.sig (Elt F))

/-- The reference's arguments are the kernel's. -/
def Same : Prop :=
  V0 (Proc.devRef .tc ReferenceIdeal.main_arg0) = m ((c : Thread nD τ).loc main_arg0)
  ∧ V0 (Proc.devRef .tc ReferenceIdeal.main_arg1) = m ((c : Thread nD τ).loc main_arg1)
  ∧ V0 (Proc.devRef .tc ReferenceIdeal.main_arg2) = m ((c : Thread nD τ).loc main_arg2)

/-- The kernel's two copies of the image extent, after its first kernel. -/
theorem extent : W2 m ρ c (Proc.devRef .tc main_call0_cst) = constant S2 .f32 0x441FC000#32
    ∧ W2 m ρ c (Proc.devRef .tc main_call0_cst_0) = constant S2 .f32 0x441FC000#32 := by
  rw [W2_of m ρ c main_call0_cst (by decide +kernel), W2_of m ρ c main_call0_cst_0 (by decide +kernel)]
  constructor <;> (simp only [W1, hostOps0]; after_results_simp <;> rfl)

/-- Before the shared operations the two programs agree on the arguments and the image extent. -/
theorem agree (h : Same m c V0) : Agree pairs 7 9 7 (W2 m ρ c) (after ((rops (F := F)).take 13) V0) := by
  intro r r' ⟨hs, hs', hc, hlt, hlt'⟩
  obtain ⟨ha, e0, e1, e2⟩ := Ref.start V0
  obtain ⟨k0, k1⟩ := extent m ρ c
  have a0 := (ha ReferenceIdeal.main_arg0 (by simp)).trans h.1
  have a1 := (ha ReferenceIdeal.main_arg1 (by simp)).trans h.2.1
  have a2 := (ha ReferenceIdeal.main_arg2 (by simp)).trans h.2.2
  have b0 := W2_args m ρ c main_arg0 (by simp)
  have b1 := W2_args m ρ c main_arg1 (by simp)
  have b2 := W2_args m ρ c main_arg2 (by simp)
  rcases hc with hc | hc
  · simp only [pairs, List.mem_cons, Prod.mk.injEq, List.not_mem_nil, or_false] at hc
    rcases hc with ⟨i, j⟩ | ⟨i, j⟩ | ⟨i, j⟩ | ⟨i, j⟩ | ⟨i, j⟩ | ⟨i, j⟩ | ⟨i, j⟩ | ⟨i, j⟩ | ⟨i, j⟩
    · obtain rfl := ref_eq (s := main_arg0) hs rfl i
      obtain rfl := ref_eq (s := ReferenceIdeal.main_arg0) hs' rfl j
      exact heq_of_eq (b0.trans a0.symm)
    · obtain rfl := ref_eq (s := main_arg1) hs rfl i
      obtain rfl := ref_eq (s := ReferenceIdeal.main_arg1) hs' rfl j
      exact heq_of_eq (b1.trans a1.symm)
    · obtain rfl := ref_eq (s := main_arg2) hs rfl i
      obtain rfl := ref_eq (s := ReferenceIdeal.main_arg2) hs' rfl j
      exact heq_of_eq (b2.trans a2.symm)
    · obtain rfl := ref_eq (s := main_call0_cst) hs rfl i
      obtain rfl := ref_eq (s := ReferenceIdeal.main_cst) hs' rfl j
      exact heq_of_eq (k0.trans e0.symm)
    · obtain rfl := ref_eq (s := main_call0_cst) hs rfl i
      obtain rfl := ref_eq (s := ReferenceIdeal.main_cst_0) hs' rfl j
      exact heq_of_eq (k0.trans e1.symm)
    · obtain rfl := ref_eq (s := main_call0_cst) hs rfl i
      obtain rfl := ref_eq (s := ReferenceIdeal.main_cst_1) hs' rfl j
      exact heq_of_eq (k0.trans e2.symm)
    · obtain rfl := ref_eq (s := main_call0_cst_0) hs rfl i
      obtain rfl := ref_eq (s := ReferenceIdeal.main_cst) hs' rfl j
      exact heq_of_eq (k1.trans e0.symm)
    · obtain rfl := ref_eq (s := main_call0_cst_0) hs rfl i
      obtain rfl := ref_eq (s := ReferenceIdeal.main_cst_0) hs' rfl j
      exact heq_of_eq (k1.trans e1.symm)
    · obtain rfl := ref_eq (s := main_call0_cst_0) hs rfl i
      obtain rfl := ref_eq (s := ReferenceIdeal.main_cst_1) hs' rfl j
      exact heq_of_eq (k1.trans e2.symm)
  · omega

/-- The kernel's buffers before its top-k. -/
def before : Valuation τ sig (Elt F) := after ((kops (F := F)).take 555) (W2 m ρ c)

/-- After the shared operations the two programs agree on every buffer they wrote. -/
theorem agree_after (h : Same m c V0) : Agree pairs 7 9 562 (before m ρ c)
    (after (((rops (F := F)).drop 13).take 555) (after ((rops (F := F)).take 13) V0)) :=
  (Agree.lock (by decide) lock (by decide) (agree m ρ c V0 h)).2

/-- The kernel's masked scores are the reference's. -/
theorem scores (h : Same m c V0) : before m ρ c (Proc.devRef .tc main_call0_v314) = ReferenceIdeal.Value.res_main_v317 V0 :=
  (eq_of_heq (agree_after m ρ c V0 h main_call0_v314 ReferenceIdeal.main_v317 (by decide +kernel))).trans (Ref.scores V0)

/-- The kernel's keypoints are the reference's. -/
theorem points (h : Same m c V0) : before m ρ c (Proc.devRef .tc main_call0_v54) = ReferenceIdeal.Value.res_main_v57 V0 :=
  (eq_of_heq (agree_after m ρ c V0 h main_call0_v54 ReferenceIdeal.main_v57 (by decide +kernel))).trans (Ref.points V0)

end Cert.Shared
end
-- ==== Proof.Block.lean ====
/- The second kernel's result array: every row is the keypoint's position, its score and its unit descriptor. -/
module

public import proofs.«01_k».proof.Proof.Gen.KernelIdeal.Frame
public import proofs.«01_k».proof.Proof.Row
public import Idealize.ShloMosaic.Lib.Pipeline.Value
public import Idealize.ShloMosaic.Lib.Pipeline.ValueKit

@[expose] public section

set_option maxRecDepth 16384

noncomputable section

namespace Cert.Block

open Idealize.ShloMosaic Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b)) (c : Dev nD)

/-- The horizontal positions, as the second kernel finds them; its other four arrays follow. -/
def xs : FVec Ideal S4096x1 .f32 := V c main_call0_v322

/-- The vertical positions. -/
def ys : FVec Ideal S4096x1 .f32 := V c main_call0_v324

/-- The scores. -/
def ss : FVec Ideal S4096x1 .f32 := V c main_call0_v325

/-- The map of unit vectors, regrouped: at a row, every column's channels side by side. -/
def grid : FVec Ideal S80x5120 .f32 := V c main_call0_v328

/-- The matrix that adds up the lanes of each channel. -/
def pick : FVec Ideal S5120x64 .f32 := V c main_call0_v337

/-- One row of the result of the second kernel. -/
def row (r : Fin 4096) : Fin 67 → EReal :=
  Spec.entry (xs V c (ix2 r 0)) (ys V c (ix2 r 0)) (ss V c (ix2 r 0))
    (Spec.unit (Row.raw (xs V c (ix2 r 0)) (ys V c (ix2 r 0)) (grid V c) (pick V c)))

/-- The block index maps: block `t` of the three columns and of the result starts at row `512 t`; the map and the selector are
    read whole at every point. -/
theorem maps : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![t.val, 0] ∧ t.val < 8 :=
  (by decide +kernel : ∀ t : Fin grid1.N, _)

/-- A row of block `t` as a row of the array. -/
def at_ (t : Fin cfg1.N) (r : Fin 512) : Fin 4096 := ⟨t.val * 512 + r, by have := (maps t).2.2.2.2.2.2; omega⟩

/-- The blocks of the first coordinates, read at a row. -/
theorem x_at (t : Fin cfg1.N) (r : Fin 512) : iblk1 V c 0 t (ix2 r 0) = xs V c (ix2 (at_ t r) 0) := by
  refine congrArg (V c main_call0_v322) ?_
  blk_ext [(maps t).1, at_]

/-- The blocks of the second coordinates, read at a row. -/
theorem y_at (t : Fin cfg1.N) (r : Fin 512) : iblk1 V c 1 t (ix2 r 0) = ys V c (ix2 (at_ t r) 0) := by
  refine congrArg (V c main_call0_v324) ?_
  blk_ext [(maps t).2.1, at_]

/-- The blocks of the scores, read at a row. -/
theorem s_at (t : Fin cfg1.N) (r : Fin 512) : iblk1 V c 2 t (ix2 r 0) = ss V c (ix2 (at_ t r) 0) := by
  refine congrArg (V c main_call0_v325) ?_
  blk_ext [(maps t).2.2.1, at_]

/-- Every point reads the whole map. -/
theorem grid_at (t : Fin cfg1.N) : iblk1 V c 3 t = grid V c := by
  funext j
  refine congrArg (V c main_call0_v328) ?_
  blk_ext [(maps t).2.2.2.1]

/-- Every point reads the whole selector. -/
theorem pick_at (t : Fin cfg1.N) : iblk1 V c 4 t = pick V c := by
  funext j
  refine congrArg (V c main_call0_v337) ?_
  blk_ext [(maps t).2.2.2.2.1]

/-- The result of the second kernel, as one array. -/
def result : FVec Ideal S4096x67 .f32 := fun i => row V c (i 0) (i 1)

open View in
/-- The body's four stores, columns 0, 1, 2 and 3 to 66, read back at an index of the block. -/
theorem stores_at (A : S512x64.Idx → Elt Ideal .f32) (B C D : S512x1.Idx → Elt Ideal .f32) (r : Fin 512) (k : Fin 67) :
    View.canon [(⟨Rect.unit ![0, 3] ![512, 64] inb_S512x67_S512x64_0_3, A⟩ : Piece (Elt Ideal) S512x67 .f32),
        ⟨Rect.unit ![0, 2] ![512, 1] inb_S512x67_S512x1_0_2, B⟩, ⟨Rect.unit ![0, 1] ![512, 1] inb_S512x67_S512x1_0_1, C⟩,
        ⟨Rect.unit ![0, 0] ![512, 1] inb_S512x67_S512x1_0_0, D⟩] (ix2 r k)
      = Spec.entry (D (ix2 r 0)) (C (ix2 r 0)) (B (ix2 r 0)) (fun k => A (ix2 r k)) k := by
  refine canon_eq_of_allAt _ _ _ (cover_of_tiledBy _ ![512, 1] (by sl_kernel_rfl) _) ?_
  refine allAt_cons_unit _ _ _ _ _ (fun x hx => ?_) (allAt_cons_unit _ _ _ _ _ (fun x hx => ?_)
    (allAt_cons_unit _ _ _ _ _ (fun x hx => ?_) (allAt_cons_unit _ _ _ _ _ (fun x hx => ?_) (allAt_nil _ _))))
  · obtain ⟨a, b, rfl⟩ : ∃ (a : Fin 512) (b : Fin 64), x = ix2 a b := ⟨_, _, eq_ix2 x⟩
    obtain rfl : r = a := Fin.ext ((hx 0).trans (Nat.zero_add _))
    have hk : (k : ℕ) = 3 + b := hx 1
    exact (Spec.entry_rest _ _ _ (fun k => A (ix2 r k)) k b hk).symm
  · obtain ⟨a, b, rfl⟩ : ∃ (a : Fin 512) (b : Fin 1), x = ix2 a b := ⟨_, _, eq_ix2 x⟩
    obtain rfl : r = a := Fin.ext ((hx 0).trans (Nat.zero_add _))
    obtain rfl : b = 0 := Subsingleton.elim _ _
    obtain rfl : k = 2 := Fin.ext (hx 1)
    rfl
  · obtain ⟨a, b, rfl⟩ : ∃ (a : Fin 512) (b : Fin 1), x = ix2 a b := ⟨_, _, eq_ix2 x⟩
    obtain rfl : r = a := Fin.ext ((hx 0).trans (Nat.zero_add _))
    obtain rfl : b = 0 := Subsingleton.elim _ _
    obtain rfl : k = 1 := Fin.ext (hx 1)
    rfl
  · obtain ⟨a, b, rfl⟩ : ∃ (a : Fin 512) (b : Fin 1), x = ix2 a b := ⟨_, _, eq_ix2 x⟩
    obtain rfl : r = a := Fin.ext ((hx 0).trans (Nat.zero_add _))
    obtain rfl : b = 0 := Subsingleton.elim _ _
    obtain rfl : k = 0 := Fin.ext (hx 1)
    rfl

/-- The first coordinates are stored as read. -/
theorem pay1_at (v : FVec Ideal S512x1 .f32) (r : Fin 512) : k1_pay1 (F := Ideal) v (ix2 r 0) = v (ix2 r 0) := by
  pointwise [k1_pay1]

/-- The second coordinates are stored as read. -/
theorem pay2_at (v : FVec Ideal S512x1 .f32) (r : Fin 512) : k1_pay2 (F := Ideal) v (ix2 r 0) = v (ix2 r 0) := by
  pointwise [k1_pay2]

/-- The scores are stored as read. -/
theorem pay33_at (v : FVec Ideal S512x1 .f32) (r : Fin 512) : k1_pay33 (F := Ideal) v (ix2 r 0) = v (ix2 r 0) := by
  pointwise [k1_pay33]

/-- A row of the result from the row's own three numbers: what the stores at row `r` of block `t` amount to. -/
theorem row_at (t : Fin cfg1.N) (r : Fin 512) (k : Fin 67) :
    Spec.entry (k1_pay1 (F := Ideal) (iblk1 V c 0 t) (ix2 r 0)) (k1_pay2 (F := Ideal) (iblk1 V c 1 t) (ix2 r 0))
        (k1_pay33 (F := Ideal) (iblk1 V c 2 t) (ix2 r 0))
        (fun k => Row.stored (iblk1 V c 0 t) (iblk1 V c 1 t) (iblk1 V c 3 t) (iblk1 V c 4 t) (ix2 r k)) k
      = row V c (at_ t r) k := by
  rw [pay1_at, pay2_at, pay33_at, x_at, y_at, s_at,
    show (fun k => Row.stored (iblk1 V c 0 t) (iblk1 V c 1 t) (iblk1 V c 3 t) (iblk1 V c 4 t) (ix2 r k)) = _ from
      funext fun k => Row.stored_at (iblk1 V c 0 t) (iblk1 V c 1 t) r (iblk1 V c 3 t) (iblk1 V c 4 t) k,
    x_at, y_at, grid_at, pick_at]
  rfl

/-- After the second region its output array holds `result`. -/
theorem final : (dat1 V c).arrAt 5 cfg1.N = result V c := by
  refine (dat1 V c).arrAt_eq_of_covers 5 _ (by decide +kernel) fun t hf y => ?_
  blk_simp
  rw [after1_5]
  unfold outsAt1
  frame_out
  have e : ((View.whole main_call0_v338).slice (win1_5.rect t)).emb y = ix2 (n0 := 4096) (n1 := 67) (at_ t (y 0)) (y 1) := by
    blk_ext [(maps t).2.2.2.2.2.1, at_]
  rw [e]
  have ey : y = ix2 (n0 := 512) (n1 := 67) (y 0) (y 1) := by blk_ext []
  refine (congrArg _ ey).trans ((stores_at _ _ _ _ (y 0) (y 1)).trans (row_at V c t (y 0) (y 1)))

end Cert.Block
end
-- ==== Proof.KernelHost.lean ====
/- What the host operations between the two kernels leave in the second kernel's operands, in terms of the keypoints, the
   masked scores and the first kernel's map. -/
module

public import proofs.«01_k».proof.Proof.Picks
public import proofs.«01_k».proof.Proof.Order
public import proofs.«01_k».proof.Proof.Shared
public import proofs.«01_k».proof.Proof.Block

@[expose] public section

set_option maxRecDepth 16384

noncomputable section

namespace Cert.KernelHost

open Idealize.ShloMosaic Idealize.ShloMosaic.StableHlo Idealize.ShloMosaic.TcCoe Idealize.SL.Sem
open Cert.KernelIdeal Cert.KernelIdeal.Gen

variable (U : Valuation τ sig (Elt Ideal))

/-- The host operations after the masked scores. -/
abbrev tailOps : List (HloOp τ sig (Elt Ideal)) := hostOps1.drop 555

/-- The masked scores. -/
abbrev masked : FVec Ideal S1x32768 .f32 := U (Proc.devRef .tc main_call0_v314)

/-- The keypoints. -/
abbrev points : IVec S1x32768x2 32 := U (Proc.devRef .tc main_call0_v54)

/-- The first kernel's map. -/
abbrev map : FVec Ideal S64x6400 .f32 := U (Proc.devRef .tc main_call0_v1)

/-- The numbers of the 4096 best keypoints. -/
abbrev best : IVec S1x4096 32 :=
  (Host.topK S1x4096 1 (FloatOps.cmpfTotal .gt) (masked U) sliceFits_S1x32768_S1x4096).2

/-- Where no keypoint is found. -/
abbrev fill : IVec S1x4096 32 := broadcastInDim S1x4096 ![] bcast_S_S1x4096 (constantI S_ 32 2147483648#32)

set_option maxHeartbeats 4000000 in
/-- The horizontal positions. -/
theorem across : after tailOps U (Proc.devRef .tc main_call0_v322)
    = shapeCast S4096x1 (sitofp (F := Ideal) .f32 (Picks.kernelTake (shapeCast S1x32768 (extractStridedSlice S1x32768x1 ![0, 0, 0]
        (points U) slices_S1x32768x2_S1x32768x1_0_0_0) shapeCasts_S1x32768x1_S1x32768) fill (best U)))
        shapeCasts_S1x4096_S4096x1 := by
  delta tailOps hostOps1
  dsimp only [List.drop]
  after_results_simp
  simp only [TRef.toBuf, TRef.ofBuf, cast_eq]
  rfl

set_option maxHeartbeats 4000000 in
/-- The vertical positions. -/
theorem down : after tailOps U (Proc.devRef .tc main_call0_v324)
    = shapeCast S4096x1 (sitofp (F := Ideal) .f32 (Picks.kernelTake (shapeCast S1x32768 (extractStridedSlice S1x32768x1 ![0, 0, 1]
        (points U) slices_S1x32768x2_S1x32768x1_0_0_1) shapeCasts_S1x32768x1_S1x32768) fill (best U)))
        shapeCasts_S1x4096_S4096x1 := by
  delta tailOps hostOps1
  dsimp only [List.drop]
  after_results_simp
  simp only [TRef.toBuf, TRef.ofBuf, cast_eq]
  rfl

set_option maxHeartbeats 4000000 in
/-- The scores. -/
theorem score : after tailOps U (Proc.devRef .tc main_call0_v325)
    = shapeCast S4096x1 (Host.topK S1x4096 1 (FloatOps.cmpfTotal .gt) (masked U) sliceFits_S1x32768_S1x4096).1
        shapeCasts_S1x4096_S4096x1 := by
  delta tailOps hostOps1
  dsimp only [List.drop]
  after_results_simp
  simp only [TRef.toBuf, TRef.ofBuf, cast_eq]
  rfl

set_option maxHeartbeats 4000000 in
/-- The map, laid out by grid row, then grid column and channel. -/
theorem laid : after tailOps U (Proc.devRef .tc main_call0_v328)
    = shapeCast S80x5120 (transpose S80x80x64 [1, 2, 0] (shapeCast S64x80x80 (map U) shapeCasts_S64x6400_S64x80x80)
        transposes_S64x80x80_S80x80x64_1_2_0) shapeCasts_S80x80x64_S80x5120 := by
  delta tailOps hostOps1
  dsimp only [List.drop]
  after_results_simp
  simp only [TRef.toBuf, TRef.ofBuf, cast_eq]
  rfl

set_option maxHeartbeats 4000000 in
/-- The first kernel's map is left alone. -/
theorem kept : after tailOps U (Proc.devRef .tc main_call0_v1) = map U := by
  delta tailOps hostOps1
  dsimp only [List.drop]
  after_results_simp

/-- Every lane's number. -/
abbrev lanes : IVec S5120x1 32 := broadcastInDim S5120x1 ![0] bcast_S5120_S5120x1_0 (iotaInDim S5120 32 0)

/-- The channel count, guarded against zero. -/
abbrev channels : IVec S_ 32 :=
  select (cmpi .eq (id (constantI S_ 32 64#32)) (constantI S_ 32 0#32)) (constantI S_ 32 1#32) (id (constantI S_ 32 64#32))

/-- Each lane's remainder by the channel count. -/
abbrev remainder : IVec S5120x1 32 := Host.remsi lanes (broadcastInDim S5120x1 ![] bcast_S_S5120x1 channels)

/-- Each lane's channel. -/
abbrev channel : IVec S5120x1 32 :=
  select (andi (cmpi .ne (cmpi .slt remainder (broadcastInDim S5120x1 ![] bcast_S_S5120x1 (constantI S_ 32 0#32)))
      (broadcastInDim S5120x1 ![] bcast_S_S5120x1 (cmpi .slt channels (constantI S_ 32 0#32))))
      (cmpi .ne remainder (broadcastInDim S5120x1 ![] bcast_S_S5120x1 (constantI S_ 32 0#32))))
    (addi remainder (broadcastInDim S5120x1 ![] bcast_S_S5120x1 channels)) remainder

set_option maxHeartbeats 4000000 in
/-- The table that tells which lane holds which channel. -/
theorem chosen : after tailOps U (Proc.devRef .tc main_call0_v337)
    = uitofp (F := Ideal) .f32 (cmpi .eq (broadcastInDim S5120x64 ![0, 1] bcast_S5120x1_S5120x64_0_1 channel)
        (broadcastInDim S5120x64 ![0, 1] bcast_S1x64_S5120x64_0_1 (broadcastInDim S1x64 ![1] bcast_S64_S1x64_1 (iotaInDim S64 32 0)))) := by
  delta tailOps hostOps1
  dsimp only [List.drop]
  after_results_simp
  simp only [TRef.toBuf, TRef.ofBuf, cast_eq]

end Cert.KernelHost
end
-- ==== Proof.Operands.lean ====
/- The second kernel's operands, entry by entry. -/
module

public import proofs.«01_k».proof.Proof.KernelHost

@[expose] public section

set_option maxRecDepth 16384

noncomputable section

namespace Cert.Operands

open Idealize.ShloMosaic Idealize.ShloMosaic.StableHlo Idealize.ShloMosaic.TcCoe Idealize.SL.Sem
open Cert.KernelIdeal Cert.KernelIdeal.Gen Cert.KernelHost Cert.Order

/-- A row turned into a column. -/
theorem column_at {α : Type} (t : S1x4096.Idx → α) (r : Fin 4096) :
    shapeCast S4096x1 t shapeCasts_S1x4096_S4096x1 (ix2 r 0) = t (ix2 0 r) := by
  pointwise

/-- The first coordinate of the keypoints, as a row. -/
theorem first_at {α : Type} (x : S1x32768x2.Idx → α) (p : Fin 32768) :
    shapeCast S1x32768 (extractStridedSlice S1x32768x1 ![0, 0, 0] x slices_S1x32768x2_S1x32768x1_0_0_0) shapeCasts_S1x32768x1_S1x32768 (ix2 0 p)
      = x (ix3 0 p 0) := by
  pointwise

/-- The second coordinate of the keypoints, as a row. -/
theorem second_at {α : Type} (x : S1x32768x2.Idx → α) (p : Fin 32768) :
    shapeCast S1x32768 (extractStridedSlice S1x32768x1 ![0, 0, 1] x slices_S1x32768x2_S1x32768x1_0_0_1) shapeCasts_S1x32768x1_S1x32768 (ix2 0 p)
      = x (ix3 0 p 1) := by
  pointwise

/-- The map as laid out: lane `l` holds channel `l % 64` of grid column `l / 64`. -/
theorem laid_at {α : Type} (x : S64x6400.Idx → α) (y : Fin 80) (l : Fin 5120) :
    shapeCast S80x5120 (transpose S80x80x64 [1, 2, 0] (shapeCast S64x80x80 x shapeCasts_S64x6400_S64x80x80)
        transposes_S64x80x80_S80x80x64_1_2_0) shapeCasts_S80x80x64_S80x5120 (ix2 y l)
      = x (ix2 ⟨l % 64, by omega⟩ ⟨y * 80 + l / 64, by omega⟩) := by
  pointwise

/-- The lane's remainder by 64, in the program's signed word arithmetic, is the remainder. -/
theorem channel_words : ∀ l : Fin 5120, Scalar.select
      (IntOp.andi (IntOp.cmpi .ne (IntOp.cmpi .slt (IntOp.remsi ArithUnit.host (BitVec.ofNat 32 l) 64#32) 0#32) (IntOp.cmpi .slt 64#32 0#32))
        (IntOp.cmpi .ne (IntOp.remsi ArithUnit.host (BitVec.ofNat 32 l) 64#32) 0#32))
      (IntOp.addi (IntOp.remsi ArithUnit.host (BitVec.ofNat 32 l) 64#32) 64#32)
      (IntOp.remsi ArithUnit.host (BitVec.ofNat 32 l) 64#32) = BitVec.ofNat 32 (l % 64) := by
  decide +kernel

/-- Which lane holds which channel. -/
theorem chosen_at (l : Fin 5120) (c : Fin 64) :
    uitofp (F := Ideal) .f32 (cmpi .eq (broadcastInDim S5120x64 ![0, 1] bcast_S5120x1_S5120x64_0_1 channel)
        (broadcastInDim S5120x64 ![0, 1] bcast_S1x64_S5120x64_0_1 (broadcastInDim S1x64 ![1] bcast_S64_S1x64_1 (iotaInDim S64 32 0)))) (ix2 l c)
      = if (l : ℕ) % 64 = c then 1 else 0 := by
  pointwise
  have g : Scalar.select (IntOp.cmpi .eq (id (constantI S_ 32 64#32) ix0) 0#32) (1#32) (id (constantI S_ 32 64#32) ix0) = 64#32 := rfl
  rw [g, channel_words]
  have h : (BitVec.ofNat 32 (l % 64) = BitVec.ofNat 32 c) ↔ (l : ℕ) % 64 = c := by
    refine ⟨fun e => ?_, fun e => by rw [e]⟩
    have := congrArg BitVec.toNat e
    simp only [BitVec.toNat_ofNat] at this
    omega
  by_cases e : (l : ℕ) % 64 = c
  · rw [if_pos e, e]; simp [IntOp.cmpi, FloatOps.uitofp]
  · rw [if_neg e]; simp [IntOp.cmpi, FloatOps.uitofp, beq_eq_false_iff_ne.mpr (mt h.mp e)]

variable (m : (ℓ : Loc nD τ sig) → Buf (Elt Ideal) ℓ) (ρ : Dev nD → PrngReg) (c : Dev nD)

/-- The buffers the second kernel starts from. -/
theorem split : W3 m ρ c = after tailOps (Shared.before m ρ c) := by
  unfold Shared.before
  rw [← after_append]
  exact congrArg (fun l => after l (W2 m ρ c)) (List.take_append_drop 555 hostOps1).symm

/-- The keypoint in row `r`. -/
abbrev at_ (r : Fin 4096) : Fin 32768 := place (masked (Shared.before m ρ c)) (wide r)

/-- The horizontal position in row `r`. -/
theorem xs_at (r : Fin 4096) : Block.xs (V3 m ρ) c (ix2 r 0)
    = FloatOps.sitofp (F := Ideal) .f32 (points (Shared.before m ρ c) (ix3 0 (at_ m ρ c r) 0)) := by
  show (W3 m ρ c (Proc.devRef .tc main_call0_v322) : FVec Ideal S4096x1 .f32) (ix2 r 0) = _
  rw [split, across]
  refine (column_at _ r).trans (congrArg (FloatOps.sitofp (F := Ideal) .f32) ?_)
  exact (Picks.kernelTake_at _ _ _ r _ (top_index _ _ r)).trans (first_at _ _)

/-- The vertical position in row `r`. -/
theorem ys_at (r : Fin 4096) : Block.ys (V3 m ρ) c (ix2 r 0)
    = FloatOps.sitofp (F := Ideal) .f32 (points (Shared.before m ρ c) (ix3 0 (at_ m ρ c r) 1)) := by
  show (W3 m ρ c (Proc.devRef .tc main_call0_v324) : FVec Ideal S4096x1 .f32) (ix2 r 0) = _
  rw [split, down]
  refine (column_at _ r).trans (congrArg (FloatOps.sitofp (F := Ideal) .f32) ?_)
  exact (Picks.kernelTake_at _ _ _ r _ (top_index _ _ r)).trans (second_at _ _)

/-- The score in row `r`. -/
theorem ss_at (r : Fin 4096) : Block.ss (V3 m ρ) c (ix2 r 0) = masked (Shared.before m ρ c) (ix2 0 (at_ m ρ c r)) := by
  show (W3 m ρ c (Proc.devRef .tc main_call0_v325) : FVec Ideal S4096x1 .f32) (ix2 r 0) = _
  rw [split, score]
  exact (column_at _ r).trans (top_value _ _ r)

/-- The first kernel's map, as the host operations find it. -/
theorem map_eq : map (Shared.before m ρ c) = (dat0 (V1 m ρ) c).arrAt 1 cfg0.N := by
  rw [← kept, ← split, W3_of m ρ c main_call0_v1 (by decide +kernel)]
  exact W2_arr m ρ c 1

/-- The map, as the second kernel gets it. -/
theorem grid_at (y : Fin 80) (l : Fin 5120) : Block.grid (V3 m ρ) c (ix2 y l)
    = map (Shared.before m ρ c) (ix2 ⟨l % 64, by omega⟩ ⟨y * 80 + l / 64, by omega⟩) := by
  show (W3 m ρ c (Proc.devRef .tc main_call0_v328) : FVec Ideal S80x5120 .f32) (ix2 y l) = _
  rw [split, laid]
  exact laid_at _ y l

/-- The table of channels, as the second kernel gets it. -/
theorem pick_at (l : Fin 5120) (k : Fin 64) : Block.pick (V3 m ρ) c (ix2 l k) = if (l : ℕ) % 64 = k then 1 else 0 := by
  show (W3 m ρ c (Proc.devRef .tc main_call0_v337) : FVec Ideal S5120x64 .f32) (ix2 l k) = _
  rw [split, chosen]
  exact chosen_at l k

end Cert.Operands
end
-- ==== Proof.RefResult.lean ====
/- The reference's result, row by row: the position, the score and the scaled descriptor. -/
module

public import proofs.«01_k».proof.Proof.RefFeatures

@[expose] public section

set_option maxRecDepth 16384

noncomputable section

namespace Cert.RefResult

open Idealize.ShloMosaic Idealize.ShloMosaic.StableHlo Idealize.ShloMosaic.TcCoe Idealize.SL.Sem
open Cert.ReferenceIdeal Cert.ReferenceIdeal.Gen Cert.ReferenceIdeal.Value Cert.Order

/-- The first three columns. -/
def front (p : FVec Ideal S1x4096x2 .f32) (s : FVec Ideal S1x32768 .f32) : FVec Ideal S1x4096x3 .f32 :=
  concatenate S1x4096x3 2 [⟨S1x4096x2, p⟩, ⟨S1x4096x1, (broadcastInDim S1x4096x1 ![0, 1] bcast_S1x4096_S1x4096x1_0_1 (extractStridedSlice S1x4096 ![0, 0] s slices_S1x32768_S1x4096_0_0))⟩] concatenates_S1x4096x2_S1x4096x1_S1x4096x3_d2

/-- The other columns. -/
def back (f : FVec Ideal S1x4096x64 .f32) : FVec Ideal S1x4096x64 .f32 :=
  Host.divf f (broadcastInDim S1x4096x64 ![0, 1, 2] bcast_S1x4096x1_S1x4096x64_0_1_2 (maximumf (Host.sqrt (broadcastInDim S1x4096x1 ![0, 1] bcast_S1x4096_S1x4096x1_0_1 (Host.reduceAdd (mulf f f) (constant S_ .f32 0x00000000#32) reducesTo_S1x4096x64_S1x4096_d2 h_S_))) (broadcastInDim S1x4096x1 ![] bcast_S_S1x4096x1 (constant S_ .f32 0x2B8CBCCC#32))))

/-- Both side by side. -/
def table (a : FVec Ideal S1x4096x3 .f32) (b : FVec Ideal S1x4096x64 .f32) : FVec Ideal S1x4096x67 .f32 :=
  concatenate S1x4096x67 2 [⟨S1x4096x3, a⟩, ⟨S1x4096x64, b⟩] concatenates_S1x4096x3_S1x4096x64_S1x4096x67_d2

/-- The first three entries of a row. -/
theorem front_at (p : FVec Ideal S1x4096x2 .f32) (s : FVec Ideal S1x32768 .f32) (r : Fin 4096) (k : Fin 3) :
    front p s (ix3 0 r k) = ![p (ix3 0 r 0), p (ix3 0 r 1), s (ix2 0 (wide r))] k := by
  match k with
  | 0 => pointwise [front]
  | 1 => pointwise [front]
  | 2 => pointwise [front, wide]

/-- The other entries of a row. -/
theorem back_at (f : FVec Ideal S1x4096x64 .f32) (r : Fin 4096) (c : Fin 64) :
    back f (ix3 0 r c) = Spec.unit (fun j => f (ix3 0 r j)) c := by
  pointwise [back, Spec.unit]

/-- Where each entry of a row comes from. -/
theorem table_at (a : FVec Ideal S1x4096x3 .f32) (b : FVec Ideal S1x4096x64 .f32) (r : Fin 4096) (k : Fin 67) :
    table a b (ix3 0 r k) = if h : (k : ℕ) < 3 then a (ix3 0 r ⟨k, h⟩) else b (ix3 0 r ⟨k - 3, by omega⟩) := by
  pointwise [table]

variable (V0 : Valuation τ sig (Elt Ideal))

/-- The result. -/
def result : FVec Ideal S1x4096x67 .f32 :=
  table (front (res_main_v331 V0) (Picks.referenceTake (res_main_v317 V0) (broadcastInDim S1x32768 ![] bcast_S_S1x32768 (constant S_ .f32 0x7FC00000#32)) (res_main_v319 V0)))
    (back (res_main_v543 V0))

/-- An entry of the result. -/
theorem result_at (r : Fin 4096) (k : Fin 67) : result V0 (ix3 0 r k)
    = Spec.entry (res_main_v331 V0 (ix3 0 r 0)) (res_main_v331 V0 (ix3 0 r 1)) (res_main_v317 V0 (ix2 0 (RefPlaces.at_ V0 r)))
      (Spec.unit fun c => res_main_v543 V0 (ix3 0 r c)) k := by
  refine (table_at _ _ r k).trans ?_
  unfold Spec.entry
  split
  · rw [front_at, Picks.referenceTake_at _ _ _ _ _ (sorted_index V0 (wide r))]
  · exact back_at _ _ _

end Cert.RefResult
end
-- ==== Proof.Equation.lean ====
/- The kernel's result is the reference's. -/
module

public import proofs.«01_k».proof.Proof.Feature
public import proofs.«01_k».proof.Proof.Normed
public import proofs.«01_k».proof.Proof.Operands
public import proofs.«01_k».proof.Proof.RefResult

@[expose] public section

set_option maxRecDepth 16384

noncomputable section

namespace Cert.Equation

open Idealize.ShloMosaic Idealize.ShloMosaic.StableHlo Idealize.ShloMosaic.TcCoe Idealize.SL.Sem
open Cert.KernelIdeal Cert.KernelIdeal.Gen Cert.KernelHost

/-- The map with its grid flattened, entry by entry. -/
theorem flat_at (a : FVec Ideal S1x64x80x80 .f32) (k : Fin 64) (y x : Fin 80) :
    shapeCast S64x6400 a shapeCasts_S1x64x80x80_S64x6400 (ix2 k ⟨y * 80 + x, by omega⟩) = a (ix4 0 k y x) := by
  pointwise

/-- The result with its leading axis added, entry by entry. -/
theorem lifted_at (a : FVec Ideal S4096x67 .f32) (r : Fin 4096) (k : Fin 67) :
    shapeCast S1x4096x67 a shapeCasts_S4096x67_S1x4096x67 (ix3 0 r k) = a (ix2 r k) := by
  pointwise

variable (m : (ℓ : Loc nD τ sig) → Buf (Elt Ideal) ℓ) (ρ : Dev nD → PrngReg) (c : Dev nD)

/-- The map as given. -/
abbrev given : FVec Ideal S1x64x80x80 .f32 := m ((c : Thread nD τ).loc main_arg0)

/-- The map as the first kernel finds it. -/
theorem given_eq : Normed.given (V1 m ρ) c = shapeCast S64x6400 (given m c) shapeCasts_S1x64x80x80_S64x6400 := by
  show W1 m ρ c (Proc.devRef .tc main_call0_v0) = _
  simp only [W1, hostOps0]
  after_results_simp
  rfl

/-- The map as the host operations find it. -/
theorem map_at (k : Fin 64) (y x : Fin 80) :
    map (Shared.before m ρ c) (ix2 k ⟨y * 80 + x, by omega⟩) = Spec.unit (fun j => given m c (ix4 0 j y x)) k := by
  rw [Operands.map_eq, Normed.final]
  show Spec.unit (fun j => Normed.given (V1 m ρ) c (ix2 j ⟨y * 80 + x, _⟩)) k = _
  rw [given_eq]
  exact congrArg (fun f => Spec.unit f k) (funext fun j => flat_at _ j y x)

/-- The result the program ends with. -/
theorem ended : W5 m ρ c (Proc.devRef .tc main_v0)
    = shapeCast S1x4096x67 (Block.result (V3 m ρ) c) shapeCasts_S4096x67_S1x4096x67 := by
  simp only [W5, hostOps2]
  after_results_simp
  rw [show W4 m ρ c (Proc.devRef .tc main_call0_v338) = Block.result (V3 m ρ) c from (W4_arr m ρ c 5).trans (Block.final (V3 m ρ) c)]
  rfl

variable (V0 : Valuation ReferenceIdeal.τ ReferenceIdeal.sig (Elt Ideal))

/-- A row of the kernel's result is the reference's row. -/
theorem row_eq (h : Shared.Same m c V0) (r : Fin 4096) (k : Fin 67) :
    Block.row (V3 m ρ) c r k = RefResult.result V0 (ix3 0 r k) := by
  have hs : masked (Shared.before m ρ c) = ReferenceIdeal.Value.res_main_v317 V0 := Shared.scores m ρ c V0 h
  have hp : points (Shared.before m ρ c) = ReferenceIdeal.Value.res_main_v57 V0 := Shared.points m ρ c V0 h
  have hat : Operands.at_ m ρ c r = RefPlaces.at_ V0 r := by unfold Operands.at_ RefPlaces.at_; rw [hs]
  have hx : Block.xs (V3 m ρ) c (ix2 r 0) = ReferenceIdeal.Value.res_main_v331 V0 (ix3 0 r 0) := by
    rw [Operands.xs_at, RefPlaces.x_at, hat, hp]
  have hy : Block.ys (V3 m ρ) c (ix2 r 0) = ReferenceIdeal.Value.res_main_v331 V0 (ix3 0 r 1) := by
    rw [Operands.ys_at, RefPlaces.y_at, hat, hp]
  have hc : Block.ss (V3 m ρ) c (ix2 r 0) = ReferenceIdeal.Value.res_main_v317 V0 (ix2 0 (RefPlaces.at_ V0 r)) := by
    rw [Operands.ss_at, hat, hs]
  have rx : Spec.IsReal (Block.xs (V3 m ρ) c (ix2 r 0)) := by rw [Operands.xs_at]; exact ⟨_, rfl⟩
  have ry : Spec.IsReal (Block.ys (V3 m ρ) c (ix2 r 0)) := by rw [Operands.ys_at]; exact ⟨_, rfl⟩
  have hf : Row.raw (Block.xs (V3 m ρ) c (ix2 r 0)) (Block.ys (V3 m ρ) c (ix2 r 0)) (Block.grid (V3 m ρ) c) (Block.pick (V3 m ρ) c)
      = fun ch => ReferenceIdeal.Value.res_main_v543 V0 (ix3 0 r ch) := by
    funext ch
    refine (Feature.raw_eq (fun ch y x => Spec.unit (fun j => given m c (ix4 0 j y x)) ch) (fun _ _ _ => Spec.unit_real _ _) rx ry _ _
      (fun y l => (Operands.grid_at m ρ c y l).trans (map_at m ρ c ⟨l % 64, by omega⟩ y ⟨l / 64, by omega⟩)) (Operands.pick_at m ρ c) ch).trans ?_
    refine Eq.trans ?_ (RefFeatures.feature_at V0 r ch).symm
    rw [hx, hy, show given m c = RefFeatures.given V0 from h.1.symm]
  rw [RefResult.result_at]
  unfold Block.row
  rw [hf, hx, hy, hc]

/-- The kernel's result is the reference's. -/
theorem result_eq (h : Shared.Same m c V0) : W5 m ρ c (Proc.devRef .tc main_v0) = RefResult.result V0 := by
  rw [ended]
  refine funext fun i => ?_
  obtain ⟨r, k, rfl⟩ : ∃ (r : Fin 4096) (k : Fin 67), i = ix3 0 r k := by
    refine ⟨i 1, i 2, funext fun a => ?_⟩
    match a with
    | ⟨0, _⟩ => exact Subsingleton.elim (α := Fin 1) _ _
    | ⟨1, _⟩ => rfl
    | ⟨2, _⟩ => rfl
  exact (lifted_at _ r k).trans (row_eq m ρ c V0 h r k)

end Cert.Equation
end
-- ==== Proof.lean ====
/- The five claims put together: the frames of the three programs, the idealization, and the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.Equation
public import Idealize.ShloMosaic.Adequacy
public import Idealize.ShloMosaic.Init

@[expose] public section

noncomputable section

namespace Cert.Proof

open Idealize.ShloMosaic Idealize.ShloMosaic.StableHlo Idealize.ShloMosaic.TcCoe Idealize.SL.Sem

/-- From equal arguments the kernel and the reference run, leave their arguments alone and end with the same result. -/
theorem algebraic : algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Gen.W5 m g c (Proc.devRef .tc Cert.KernelIdeal.main_v0), Cert.KernelRun.run m g, ?_⟩
  refine (θ_run Cert.ReferenceIdeal.defs _ _).mono (fun _ h c => ?_) (Cert.ReferenceIdeal.Value.run m' g')
  obtain ⟨hv, hrest⟩ := h c
  exact ⟨hv.trans (Cert.Equation.result_eq m g c (launchContents m' c) (hargs c)).symm, hrest⟩

/-- Every claim of the certificate. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, fun m g _ => Cert.ReferenceRun.frame m g,
  trivial, algebraic⟩

end Cert.Proof

end
